-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_v44) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v25) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_scores.lean ====
abbrev S8192x4096 : Shape := ⟨2, ![8192, 4096]⟩
abbrev S9216x1024 : Shape := ⟨2, ![9216, 1024]⟩
abbrev S8192x20480 : Shape := ⟨2, ![8192, 20480]⟩
abbrev S1x4096x4096 : Shape := ⟨3, ![1, 4096, 4096]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S9216x1024 : S_.BroadcastsInDim S9216x1024 (![] : Fin 0 → Fin S9216x1024.rank)
  reducesTo_S9216x1024_S_d0_1 : S9216x1024.ReducesTo [0, 1] S_

variable [Facts]

def fn {F : FTy → Type} [FloatOps F] (main_arg0 : FVec F S8192x4096 .bf16) (main_arg1 : FVec F S9216x1024 .bf16) (main_arg2 : FVec F S9216x1024 .bf16) (main_arg3 : FVec F S8192x20480 .bf16) (main_arg4 : FVec F S1x4096x4096 .f32) (main_arg5 : FVec F S1x4096x4096 .f32) (main_arg6 : FVec F S1x4096x4096 .f32) : IVec S_ 1 :=
  let main_v0 : FVec F S8192x4096 .f32 := (extf .f32 · bitsLt_bf16_f32) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_c : IVec S_ 1 := constantI S_ 1 1#1
  let main_v4 : IVec S_ 1 := (fun x v => Host.reduce IntOp.andi x v reducesTo_S8192x4096_S_d0_1 h_S_) main_v3 main_c
  let main_v5 : FVec F S9216x1024 .f32 := (extf .f32 · bitsLt_bf16_f32) main_arg1
  let main_v6 : FVec F S9216x1024 .f32 := Host.absf main_v5
  let main_cst_0 : FVec F S_ .f32 := constant S_ .f32 0x7F800000#32
  let main_v7 : FVec F S9216x1024 .f32 := broadcastInDim S9216x1024 ![] bcast_S_S9216x1024 main_cst_0
  let main_v8 : IVec S9216x1024 1 := cmpf .olt main_v6 main_v7
  let main_c_1 : IVec S_ 1 := constantI S_ 1 1#1
  let main_v9 : IVec S_ 1 := (fun x v => Host.reduce IntOp.andi x v reducesTo_S9216x1024_S_d0_1 h_S_) main_v8 main_c_1
  let main_v10 : IVec S_ 1 := andi main_v4 main_v9
  main_v10
-- ==== Kernel.lean ====
abbrev S8192x4096 : Shape := ⟨2, ![8192, 4096]⟩
abbrev S9216x1024 : Shape := ⟨2, ![9216, 1024]⟩
abbrev S8192x20480 : Shape := ⟨2, ![8192, 20480]⟩
abbrev S1x4096x4096 : Shape := ⟨3, ![1, 4096, 4096]⟩
abbrev S4096x4096 : Shape := ⟨2, ![4096, 4096]⟩
abbrev S1024x512 : Shape := ⟨2, ![1024, 512]⟩
abbrev S2048x128 : Shape := ⟨2, ![2048, 128]⟩
abbrev S256x128 : Shape := ⟨2, ![256, 128]⟩
abbrev S2304x128 : Shape := ⟨2, ![2304, 128]⟩
abbrev S144x2304 : Shape := ⟨2, ![144, 2304]⟩
abbrev S3x64x4096 : Shape := ⟨3, ![3, 64, 4096]⟩
abbrev S3 : Shape := ⟨1, ![3]⟩
abbrev S1 : Shape := ⟨1, ![1]⟩
abbrev S_ : Shape := ⟨0, ![]⟩
abbrev S1x64x4096 : Shape := ⟨3, ![1, 64, 4096]⟩
abbrev S64x4096 : Shape := ⟨2, ![64, 4096]⟩
abbrev S128x2048 : Shape := ⟨2, ![128, 2048]⟩
abbrev S128x256 : Shape := ⟨2, ![128, 256]⟩
abbrev S16x2304 : Shape := ⟨2, ![16, 2304]⟩
abbrev S1152x128 : Shape := ⟨2, ![1152, 128]⟩
abbrev S1024x128 : Shape := ⟨2, ![1024, 128]⟩
abbrev S1152x1024 : Shape := ⟨2, ![1152, 1024]⟩
abbrev S576x1024 : Shape := ⟨2, ![576, 1024]⟩
abbrev S288x1024 : Shape := ⟨2, ![288, 1024]⟩
abbrev S144x1024 : Shape := ⟨2, ![144, 1024]⟩
abbrev S72x1024 : Shape := ⟨2, ![72, 1024]⟩
abbrev S1024 : Shape := ⟨1, ![1024]⟩
abbrev S1x1024 : Shape := ⟨2, ![1, 1024]⟩
abbrev S144x1152 : Shape := ⟨2, ![144, 1152]⟩
abbrev S128x1024 : Shape := ⟨2, ![128, 1024]⟩

abbrev nBuf : Space → Nat
  | .hbm => 14
  | .vmem => 18
  | .smem => 0
  | _ => 0

abbrev bufTy : (tb : Table) → Fin (tcTables nBuf tb) → BufTy
  | .hbm, ⟨0, _⟩ => ⟨S8192x4096, .bf16⟩
  | .hbm, ⟨1, _⟩ => ⟨S9216x1024, .bf16⟩
  | .hbm, ⟨2, _⟩ => ⟨S9216x1024, .bf16⟩
  | .hbm, ⟨3, _⟩ => ⟨S8192x20480, .bf16⟩
  | .hbm, ⟨4, _⟩ => ⟨S1x4096x4096, .f32⟩
  | .hbm, ⟨5, _⟩ => ⟨S1x4096x4096, .f32⟩
  | .hbm, ⟨6, _⟩ => ⟨S1x4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S8192x4096, .bf16⟩
  | .hbm, ⟨11, _⟩ => ⟨S4096x4096, .bf16⟩
  | .hbm, ⟨12, _⟩ => ⟨S4096x4096, .bf16⟩
  | .hbm, ⟨13, _⟩ => ⟨S4096x4096, .bf16⟩
  | .local _ .vmem, ⟨0, _⟩ => ⟨S1024x512, .bf16⟩
  | .local _ .vmem, ⟨1, _⟩ => ⟨S1024x512, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S2304x128, .bf16⟩
  | .local _ .vmem, ⟨15, _⟩ => ⟨S144x2304, .bf16⟩
  | .local _ .vmem, ⟨16, _⟩ => ⟨S3x64x4096, .f32⟩
  | .local _ .vmem, ⟨17, _⟩ => ⟨S3x64x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 8, 2], ![false, false, false]⟩

def k0_mult1 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c64_i32 : BitVec 32 := 64#32
  let v4 : BitVec 32 := Scalar.muli v3 c64_i32
  v4
def k0_off1 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c64_i32 : BitVec 32 := 64#32
  let v4 : BitVec 32 := Scalar.muli v3 c64_i32
  let v5 : BitVec 32 := v4
  let c0_i32_3 : BitVec 32 := 0#32
  ![v5.toNat, 0]
def k0_mult2 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c64_i32_4 : BitVec 32 := 64#32
  let v11 : BitVec 32 := Scalar.muli v3 c64_i32_4
  v11
def k0_mult3 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c64_i32_9 : BitVec 32 := 64#32
  let v18 : BitVec 32 := Scalar.muli v3 c64_i32_9
  v18
def k0_mult4 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c64_i32_95 : BitVec 32 := 64#32
  let v252 : BitVec 32 := Scalar.muli v3 c64_i32_95
  v252
def k0_cond2 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c0_i32_101 : BitVec 32 := 0#32
  let v259 : BitVec 1 := Scalar.cmpi .sgt v3 c0_i32_101
  let v260 : BitVec 32 := Scalar.extui v259
  let c0_i32_102 : BitVec 32 := 0#32
  let v261 : BitVec 1 := Scalar.cmpi .ne v260 c0_i32_102
  v261

def k0_mult5 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c1_i32_158 : BitVec 32 := 1#32
  let v330 : BitVec 32 := Scalar.subi v3 c1_i32_158
  let c64_i32_159 : BitVec 32 := 64#32
  let v331 : BitVec 32 := Scalar.muli v330 c64_i32_159
  v331
def k0_off2 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c1_i32_158 : BitVec 32 := 1#32
  let v330 : BitVec 32 := Scalar.subi v3 c1_i32_158
  let c64_i32_159 : BitVec 32 := 64#32
  let v331 : BitVec 32 := Scalar.muli v330 c64_i32_159
  let v332 : BitVec 32 := v331
  let c0_i32_162 : BitVec 32 := 0#32
  ![v332.toNat, 0]
def k0_mult6 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c64_i32_109 : BitVec 32 := 64#32
  let v268 : BitVec 32 := Scalar.muli v3 c64_i32_109
  v268
def k0_cond3 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c63_i32 : BitVec 32 := 63#32
  let v275 : BitVec 1 := Scalar.cmpi .eq v3 c63_i32
  let v276 : BitVec 32 := Scalar.extui v275
  let c0_i32_115 : BitVec 32 := 0#32
  let v277 : BitVec 1 := Scalar.cmpi .ne v276 c0_i32_115
  v277

def k0_mult7 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c64_i32_158 : BitVec 32 := 64#32
  let v330 : BitVec 32 := Scalar.muli v3 c64_i32_158
  v330
def k0_off3 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c64_i32_158 : BitVec 32 := 64#32
  let v330 : BitVec 32 := Scalar.muli v3 c64_i32_158
  let v331 : BitVec 32 := v330
  let c0_i32_161 : BitVec 32 := 0#32
  ![v331.toNat, 0]
def k0_mult8 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c64_i32_116 : BitVec 32 := 64#32
  let v278 : BitVec 32 := Scalar.muli v3 c64_i32_116
  v278
def k0_cond4 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c0_i32_122 : BitVec 32 := 0#32
  let v285 : BitVec 1 := Scalar.cmpi .sgt v3 c0_i32_122
  let v286 : BitVec 32 := Scalar.extui v285
  let c0_i32_123 : BitVec 32 := 0#32
  let v287 : BitVec 1 := Scalar.cmpi .ne v286 c0_i32_123
  v287

def k0_mult9 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c1_i32_158 : BitVec 32 := 1#32
  let v330 : BitVec 32 := Scalar.subi v3 c1_i32_158
  let c64_i32_159 : BitVec 32 := 64#32
  let v331 : BitVec 32 := Scalar.muli v330 c64_i32_159
  v331
def k0_off4 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c1_i32_158 : BitVec 32 := 1#32
  let v330 : BitVec 32 := Scalar.subi v3 c1_i32_158
  let c64_i32_159 : BitVec 32 := 64#32
  let v331 : BitVec 32 := Scalar.muli v330 c64_i32_159
  let v332 : BitVec 32 := v331
  let c0_i32_162 : BitVec 32 := 0#32
  ![v332.toNat, 0]
def k0_mult10 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c64_i32_129 : BitVec 32 := 64#32
  let v294 : BitVec 32 := Scalar.muli v3 c64_i32_129
  v294
def k0_cond5 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c63_i32_135 : BitVec 32 := 63#32
  let v301 : BitVec 1 := Scalar.cmpi .eq v3 c63_i32_135
  let v302 : BitVec 32 := Scalar.extui v301
  let c0_i32_136 : BitVec 32 := 0#32
  let v303 : BitVec 1 := Scalar.cmpi .ne v302 c0_i32_136
  v303

def k0_mult11 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c64_i32_158 : BitVec 32 := 64#32
  let v330 : BitVec 32 := Scalar.muli v3 c64_i32_158
  v330
def k0_off5 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c64_i32_158 : BitVec 32 := 64#32
  let v330 : BitVec 32 := Scalar.muli v3 c64_i32_158
  let v331 : BitVec 32 := v330
  let c0_i32_161 : BitVec 32 := 0#32
  ![v331.toNat, 0]
def k0_mult12 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c64_i32_137 : BitVec 32 := 64#32
  let v304 : BitVec 32 := Scalar.muli v3 c64_i32_137
  v304
def k0_cond6 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c0_i32_143 : BitVec 32 := 0#32
  let v311 : BitVec 1 := Scalar.cmpi .sgt v3 c0_i32_143
  let v312 : BitVec 32 := Scalar.extui v311
  let c0_i32_144 : BitVec 32 := 0#32
  let v313 : BitVec 1 := Scalar.cmpi .ne v312 c0_i32_144
  v313

def k0_mult13 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c1_i32_158 : BitVec 32 := 1#32
  let v330 : BitVec 32 := Scalar.subi v3 c1_i32_158
  let c64_i32_159 : BitVec 32 := 64#32
  let v331 : BitVec 32 := Scalar.muli v330 c64_i32_159
  v331
def k0_off6 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c1_i32_158 : BitVec 32 := 1#32
  let v330 : BitVec 32 := Scalar.subi v3 c1_i32_158
  let c64_i32_159 : BitVec 32 := 64#32
  let v331 : BitVec 32 := Scalar.muli v330 c64_i32_159
  let v332 : BitVec 32 := v331
  let c0_i32_162 : BitVec 32 := 0#32
  ![v332.toNat, 0]
def k0_mult14 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c64_i32_150 : BitVec 32 := 64#32
  let v320 : BitVec 32 := Scalar.muli v3 c64_i32_150
  v320
def k0_cond7 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c63_i32_156 : BitVec 32 := 63#32
  let v327 : BitVec 1 := Scalar.cmpi .eq v3 c63_i32_156
  let v328 : BitVec 32 := Scalar.extui v327
  let c0_i32_157 : BitVec 32 := 0#32
  let v329 : BitVec 1 := Scalar.cmpi .ne v328 c0_i32_157
  v329

def k0_mult15 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c64_i32_158 : BitVec 32 := 64#32
  let v330 : BitVec 32 := Scalar.muli v3 c64_i32_158
  v330
def k0_off7 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c64_i32_158 : BitVec 32 := 64#32
  let v330 : BitVec 32 := Scalar.muli v3 c64_i32_158
  let v331 : BitVec 32 := v330
  let c0_i32_161 : BitVec 32 := 0#32
  ![v331.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S8192x4096 : Shape := ⟨2, ![8192, 4096]⟩
abbrev S9216x1024 : Shape := ⟨2, ![9216, 1024]⟩
abbrev S8192x20480 : Shape := ⟨2, ![8192, 20480]⟩
abbrev S1x4096x4096 : Shape := ⟨3, ![1, 4096, 4096]⟩
abbrev S4x2048x8x4x128 : Shape := ⟨5, ![4, 2048, 8, 4, 128]⟩
abbrev S1024x1024 : Shape := ⟨2, ![1024, 1024]⟩
abbrev S4x256x8x128 : Shape := ⟨4, ![4, 256, 8, 128]⟩
abbrev S8192x1024 : Shape := ⟨2, ![8192, 1024]⟩
abbrev S4x2048x8x128 : Shape := ⟨4, ![4, 2048, 8, 128]⟩
abbrev S4x2304x8x128 : Shape := ⟨4, ![4, 2304, 8, 128]⟩
abbrev S4x8x2304x2048x4 : Shape := ⟨5, ![4, 8, 2304, 2048, 4]⟩
abbrev S4x8x4x2048x2304 : Shape := ⟨5, ![4, 8, 4, 2048, 2304]⟩
abbrev S_ : Shape := ⟨0, ![]⟩
abbrev S4x8x4x2048 : Shape := ⟨4, ![4, 8, 4, 2048]⟩
abbrev S4x8x4x2048x1 : Shape := ⟨5, ![4, 8, 4, 2048, 1]⟩
abbrev S4x8x128x4x2048 : Shape := ⟨5, ![4, 8, 128, 4, 2048]⟩
abbrev S4096x4096 : Shape := ⟨2, ![4096, 4096]⟩

abbrev nBuf : Space → Nat
  | .hbm => 56
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S9216x1024, .bf16⟩
  | .hbm, ⟨2, _⟩ => ⟨S9216x1024, .bf16⟩
  | .hbm, ⟨3, _⟩ => ⟨S8192x20480, .bf16⟩
  | .hbm, ⟨4, _⟩ => ⟨S1x4096x4096, .f32⟩
  | .hbm, ⟨5, _⟩ => ⟨S1x4096x4096, .f32⟩
  | .hbm, ⟨6, _⟩ => ⟨S1x4096x4096, .f32⟩
  | .hbm, ⟨7, _⟩ => ⟨S8192x4096, .f32⟩
  | .hbm, ⟨8, _⟩ => ⟨S4x2048x8x4x128, .f32⟩
  | .hbm, ⟨9, _⟩ => ⟨S1024x1024, .bf16⟩
  | .hbm, ⟨10, _⟩ => ⟨S1024x1024, .f32⟩
  | .hbm, ⟨11, _⟩ => ⟨S4x256x8x128, .f32⟩
  | .hbm, ⟨12, _⟩ => ⟨S8192x1024, .bf16⟩
  | .hbm, ⟨13, _⟩ => ⟨S8192x1024, .f32⟩
  | .hbm, ⟨14, _⟩ => ⟨S4x2048x8x128, .f32⟩
  | .hbm, ⟨15, _⟩ => ⟨S4x2304x8x128, .f32⟩
  | .hbm, ⟨16, _⟩ => ⟨S1024x1024, .bf16⟩
  | .hbm, ⟨17, _⟩ => ⟨S1024x1024, .f32⟩
  | .hbm, ⟨18, _⟩ => ⟨S4x256x8x128, .f32⟩
  | .hbm, ⟨19, _⟩ => ⟨S8192x1024, .bf16⟩
  | .hbm, ⟨20, _⟩ => ⟨S8192x1024, .f32⟩
  | .hbm, ⟨21, _⟩ => ⟨S4x2048x8x128, .f32⟩
  | .hbm, ⟨22, _⟩ => ⟨S4x2304x8x128, .f32⟩
  | .hbm, ⟨23, _⟩ => ⟨S4x8x2304x2048x4, .f32⟩
  | .hbm, ⟨24, _⟩ => ⟨S4x8x4x2048x2304, .f32⟩
  | .hbm, ⟨25, _⟩ => ⟨S_, .f32⟩
  | .hbm, ⟨26, _⟩ => ⟨S_, .f32⟩
  | .hbm, ⟨27, _⟩ => ⟨S4x8x4x2048x2304, .f32⟩
  | .hbm, ⟨28, _⟩ => ⟨S4x8x4x2048x2304, .f32⟩
  | .hbm, ⟨29, _⟩ => ⟨S_, .f32⟩
  | .hbm, ⟨30, _⟩ => ⟨S4x8x4x2048, .f32⟩
  | .hbm, ⟨31, _⟩ => ⟨S_, .f32⟩
  | .hbm, ⟨32, _⟩ => ⟨S4x8x4x2048, .f32⟩
  | .hbm, ⟨33, _⟩ => ⟨S4x8x4x2048, .f32⟩
  | .hbm, ⟨34, _⟩ => ⟨S4x8x4x2048x1, .f32⟩
  | .hbm, ⟨35, _⟩ => ⟨S4x8x4x2048x2304, .f32⟩
  | .hbm, ⟨36, _⟩ => ⟨S4x8x4x2048x2304, .f32⟩
  | .hbm, ⟨37, _⟩ => ⟨S4x8x4x2048x2304, .f32⟩
  | .hbm, ⟨38, _⟩ => ⟨S_, .f32⟩
  | .hbm, ⟨39, _⟩ => ⟨S4x8x4x2048, .f32⟩
  | .hbm, ⟨40, _⟩ => ⟨S4x8x4x2048x1, .f32⟩
  | .hbm, ⟨41, _⟩ => ⟨S4x8x4x2048x2304, .f32⟩
  | .hbm, ⟨42, _⟩ => ⟨S4x8x4x2048x2304, .f32⟩
  | .hbm, ⟨43, _⟩ => ⟨S4x8x128x4x2048, .f32⟩
  | .hbm, ⟨44, _⟩ => ⟨S4x2048x8x4x128, .f32⟩
  | .hbm, ⟨45, _⟩ => ⟨S8192x4096, .f32⟩
  | .hbm, ⟨46, _⟩ => ⟨S8192x4096, .bf16⟩
  | .hbm, ⟨47, _⟩ => ⟨S8192x4096, .f32⟩
  | .hbm, ⟨48, _⟩ => ⟨S8192x4096, .f32⟩
  | .hbm, ⟨49, _⟩ => ⟨S8192x4096, .bf16⟩
  | .hbm, ⟨50, _⟩ => ⟨S4096x4096, .f32⟩
  | .hbm, ⟨51, _⟩ => ⟨S4096x4096, .bf16⟩
  | .hbm, ⟨52, _⟩ => ⟨S4096x4096, .f32⟩
  | .hbm, ⟨53, _⟩ => ⟨S4096x4096, .bf16⟩
  | .hbm, ⟨54, _⟩ => ⟨S4096x4096, .f32⟩
  | .hbm, ⟨55, _⟩ => ⟨S4096x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== Kernel2.lean ====
abbrev S8192x4096 : Shape := ⟨2, ![8192, 4096]⟩
abbrev S4096x4096 : Shape := ⟨2, ![4096, 4096]⟩
abbrev S8192x20480 : Shape := ⟨2, ![8192, 20480]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 6
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S4096x4096, .bf16⟩
  | .hbm, ⟨3, _⟩ => ⟨S4096x4096, .bf16⟩
  | .hbm, ⟨4, _⟩ => ⟨S8192x20480, .bf16⟩
  | .hbm, ⟨5, _⟩ => ⟨S8192x4096, .bf16⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S4096x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S8192x4096 : Shape := ⟨2, ![8192, 4096]⟩
abbrev S4096x4096 : Shape := ⟨2, ![4096, 4096]⟩
abbrev S8192x20480 : Shape := ⟨2, ![8192, 20480]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S4096x4096, .bf16⟩
  | .hbm, ⟨3, _⟩ => ⟨S4096x4096, .bf16⟩
  | .hbm, ⟨4, _⟩ => ⟨S8192x20480, .bf16⟩
  | .hbm, ⟨5, _⟩ => ⟨S8192x4096, .bf16⟩
  | .hbm, ⟨6, _⟩ => ⟨S8192x4096, .f32⟩
  | .hbm, ⟨7, _⟩ => ⟨S8192x4096, .bf16⟩
  | .hbm, ⟨8, _⟩ => ⟨S8192x4096, .f32⟩
  | .hbm, ⟨9, _⟩ => ⟨S8192x4096, .f32⟩
  | .hbm, ⟨10, _⟩ => ⟨S4096x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S4096x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel3.lean ====
abbrev S9216x4096 : Shape := ⟨2, ![9216, 4096]⟩
abbrev S4096x38912 : Shape := ⟨2, ![4096, 38912]⟩
abbrev S8192x20480 : Shape := ⟨2, ![8192, 20480]⟩
abbrev S1024x4096 : Shape := ⟨2, ![1024, 4096]⟩
abbrev S1024x1024 : Shape := ⟨2, ![1024, 1024]⟩
abbrev S2x4096x1024 : Shape := ⟨3, ![2, 4096, 1024]⟩
abbrev S2x256x1024 : Shape := ⟨3, ![2, 256, 1024]⟩
abbrev S2 : Shape := ⟨1, ![2]⟩
abbrev S1 : Shape := ⟨1, ![1]⟩
abbrev S_ : Shape := ⟨0, ![]⟩
abbrev S1x256x1024 : Shape := ⟨3, ![1, 256, 1024]⟩
abbrev S256x1024 : Shape := ⟨2, ![256, 1024]⟩
abbrev S256x256 : Shape := ⟨2, ![256, 256]⟩
abbrev S256x4096 : Shape := ⟨2, ![256, 4096]⟩
abbrev S1x4096x1024 : Shape := ⟨3, ![1, 4096, 1024]⟩
abbrev S4096x1024 : Shape := ⟨2, ![4096, 1024]⟩

abbrev nBuf : Space → Nat
  | .hbm => 3
  | .vmem => 7
  | .smem => 0
  | _ => 0

abbrev bufTy : (tb : Table) → Fin (tcTables nBuf tb) → BufTy
  | .hbm, ⟨0, _⟩ => ⟨S9216x4096, .bf16⟩
  | .hbm, ⟨1, _⟩ => ⟨S4096x38912, .f32⟩
  | .hbm, ⟨2, _⟩ => ⟨S8192x20480, .bf16⟩
  | .local _ .vmem, ⟨0, _⟩ => ⟨S1024x4096, .bf16⟩
  | .local _ .vmem, ⟨1, _⟩ => ⟨S1024x4096, .bf16⟩
  | .local _ .vmem, ⟨2, _⟩ => ⟨S1024x1024, .bf16⟩
  | .local _ .vmem, ⟨3, _⟩ => ⟨S1024x1024, .bf16⟩
  | .local _ .vmem, ⟨4, _⟩ => ⟨S2x4096x1024, .bf16⟩
  | .local _ .vmem, ⟨5, _⟩ => ⟨S2x256x1024, .f32⟩
  | .local _ .vmem, ⟨6, _⟩ => ⟨S1024x1024, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![161], ![false]⟩

def k0_cond1 (i : grid0.Coords) : BitVec 1 :=
  let arg0 : BitVec 32 := BitVec.ofNat 32 (i 0).val
  let c0_i32_19 : BitVec 32 := 0#32
  let v46 : BitVec 1 := Scalar.cmpi .eq arg0 c0_i32_19
  let v47 : BitVec 32 := Scalar.extui v46
  let c0_i32_20 : BitVec 32 := 0#32
  let v48 : BitVec 1 := Scalar.cmpi .ne v47 c0_i32_20
  v48

def k0_mult1 : BitVec 32 :=
  let c0_i32_50 : BitVec 32 := 0#32
  c0_i32_50
def k0_mult2 : BitVec 32 :=
  let c18432_i32 : BitVec 32 := 18432#32
  c18432_i32
def k0_mult3 : BitVec 32 :=
  let c256_i32 : BitVec 32 := 256#32
  c256_i32
def k0_mult4 : BitVec 32 :=
  let c18432_i32_55 : BitVec 32 := 18432#32
  c18432_i32_55
def k0_mult5 : BitVec 32 :=
  let c0_i32_60 : BitVec 32 := 0#32
  c0_i32_60
def k0_mult6 : BitVec 32 :=
  let c18432_i32_61 : BitVec 32 := 18432#32
  c18432_i32_61
def k0_mult7 : BitVec 32 :=
  let c0_i32_66 : BitVec 32 := 0#32
  c0_i32_66
def k0_mult8 : BitVec 32 :=
  let c512_i32 : BitVec 32 := 512#32
  c512_i32
def k0_mult9 : BitVec 32 :=
  let c18432_i32_72 : BitVec 32 := 18432#32
  c18432_i32_72
def k0_mult10 : BitVec 32 :=
  let c256_i32_77 : BitVec 32 := 256#32
  c256_i32_77
def k0_mult11 : BitVec 32 :=
  let c18432_i32_78 : BitVec 32 := 18432#32
  c18432_i32_78
def k0_mult12 : BitVec 32 :=
  let c256_i32_83 : BitVec 32 := 256#32
  c256_i32_83
def k0_mult13 : BitVec 32 :=
  let c768_i32 : BitVec 32 := 768#32
  c768_i32
def k0_mult14 : BitVec 32 :=
  let c18432_i32_88 : BitVec 32 := 18432#32
  c18432_i32_88
def k0_mult15 : BitVec 32 :=
  let c512_i32_93 : BitVec 32 := 512#32
  c512_i32_93
def k0_mult16 : BitVec 32 :=
  let c18432_i32_94 : BitVec 32 := 18432#32
  c18432_i32_94
def k0_mult17 : BitVec 32 :=
  let c512_i32_99 : BitVec 32 := 512#32
  c512_i32_99
def k0_mult18 : BitVec 32 :=
  let c1024_i32 : BitVec 32 := 1024#32
  c1024_i32
def k0_mult19 : BitVec 32 :=
  let c18432_i32_105 : BitVec 32 := 18432#32
  c18432_i32_105
def k0_mult20 : BitVec 32 :=
  let c768_i32_110 : BitVec 32 := 768#32
  c768_i32_110
def k0_mult21 : BitVec 32 :=
  let c18432_i32_111 : BitVec 32 := 18432#32
  c18432_i32_111
def k0_mult22 : BitVec 32 :=
  let c768_i32_116 : BitVec 32 := 768#32
  c768_i32_116
def k0_mult23 : BitVec 32 :=
  let c1280_i32 : BitVec 32 := 1280#32
  c1280_i32
def k0_mult24 : BitVec 32 :=
  let c18432_i32_122 : BitVec 32 := 18432#32
  c18432_i32_122
def k0_mult25 : BitVec 32 :=
  let c1024_i32_127 : BitVec 32 := 1024#32
  c1024_i32_127
def k0_mult26 : BitVec 32 :=
  let c18432_i32_128 : BitVec 32 := 18432#32
  c18432_i32_128
def k0_mult27 : BitVec 32 :=
  let c1024_i32_133 : BitVec 32 := 1024#32
  c1024_i32_133
def k0_mult28 : BitVec 32 :=
  let c1536_i32 : BitVec 32 := 1536#32
  c1536_i32
def k0_mult29 : BitVec 32 :=
  let c18432_i32_139 : BitVec 32 := 18432#32
  c18432_i32_139
def k0_mult30 : BitVec 32 :=
  let c1280_i32_144 : BitVec 32 := 1280#32
  c1280_i32_144
def k0_mult31 : BitVec 32 :=
  let c18432_i32_145 : BitVec 32 := 18432#32
  c18432_i32_145
def k0_mult32 : BitVec 32 :=
  let c1280_i32_150 : BitVec 32 := 1280#32
  c1280_i32_150
def k0_mult33 : BitVec 32 :=
  let c1792_i32 : BitVec 32 := 1792#32
  c1792_i32
def k0_mult34 : BitVec 32 :=
  let c18432_i32_156 : BitVec 32 := 18432#32
  c18432_i32_156
def k0_mult35 : BitVec 32 :=
  let c1536_i32_161 : BitVec 32 := 1536#32
  c1536_i32_161
def k0_mult36 : BitVec 32 :=
  let c18432_i32_162 : BitVec 32 := 18432#32
  c18432_i32_162
def k0_mult37 : BitVec 32 :=
  let c1536_i32_167 : BitVec 32 := 1536#32
  c1536_i32_167
def k0_mult38 : BitVec 32 :=
  let c2048_i32 : BitVec 32 := 2048#32
  c2048_i32
def k0_mult39 : BitVec 32 :=
  let c18432_i32_173 : BitVec 32 := 18432#32
  c18432_i32_173
def k0_mult40 : BitVec 32 :=
  let c1792_i32_178 : BitVec 32 := 1792#32
  c1792_i32_178
def k0_mult41 : BitVec 32 :=
  let c18432_i32_179 : BitVec 32 := 18432#32
  c18432_i32_179
def k0_mult42 : BitVec 32 :=
  let c1792_i32_184 : BitVec 32 := 1792#32
  c1792_i32_184
def k0_mult43 : BitVec 32 :=
  let c2304_i32 : BitVec 32 := 2304#32
  c2304_i32
def k0_mult44 : BitVec 32 :=
  let c18432_i32_190 : BitVec 32 := 18432#32
  c18432_i32_190
def k0_mult45 : BitVec 32 :=
  let c2048_i32_195 : BitVec 32 := 2048#32
  c2048_i32_195
def k0_mult46 : BitVec 32 :=
  let c18432_i32_196 : BitVec 32 := 18432#32
  c18432_i32_196
def k0_mult47 : BitVec 32 :=
  let c2048_i32_201 : BitVec 32 := 2048#32
  c2048_i32_201
def k0_mult48 : BitVec 32 :=
  let c2560_i32 : BitVec 32 := 2560#32
  c2560_i32
def k0_mult49 : BitVec 32 :=
  let c18432_i32_207 : BitVec 32 := 18432#32
  c18432_i32_207
def k0_mult50 : BitVec 32 :=
  let c2304_i32_212 : BitVec 32 := 2304#32
  c2304_i32_212
def k0_mult51 : BitVec 32 :=
  let c18432_i32_213 : BitVec 32 := 18432#32
  c18432_i32_213
def k0_mult52 : BitVec 32 :=
  let c2304_i32_218 : BitVec 32 := 2304#32
  c2304_i32_218
def k0_mult53 : BitVec 32 :=
  let c2816_i32 : BitVec 32 := 2816#32
  c2816_i32
def k0_mult54 : BitVec 32 :=
  let c18432_i32_224 : BitVec 32 := 18432#32
  c18432_i32_224
def k0_mult55 : BitVec 32 :=
  let c2560_i32_229 : BitVec 32 := 2560#32
  c2560_i32_229
def k0_mult56 : BitVec 32 :=
  let c18432_i32_230 : BitVec 32 := 18432#32
  c18432_i32_230
def k0_mult57 : BitVec 32 :=
  let c2560_i32_235 : BitVec 32 := 2560#32
  c2560_i32_235
def k0_mult58 : BitVec 32 :=
  let c3072_i32 : BitVec 32 := 3072#32
  c3072_i32
def k0_mult59 : BitVec 32 :=
  let c18432_i32_241 : BitVec 32 := 18432#32
  c18432_i32_241
def k0_mult60 : BitVec 32 :=
  let c2816_i32_246 : BitVec 32 := 2816#32
  c2816_i32_246
def k0_mult61 : BitVec 32 :=
  let c18432_i32_247 : BitVec 32 := 18432#32
  c18432_i32_247
def k0_mult62 : BitVec 32 :=
  let c2816_i32_252 : BitVec 32 := 2816#32
  c2816_i32_252
def k0_mult63 : BitVec 32 :=
  let c3328_i32 : BitVec 32 := 3328#32
  c3328_i32
def k0_mult64 : BitVec 32 :=
  let c18432_i32_258 : BitVec 32 := 18432#32
  c18432_i32_258
def k0_mult65 : BitVec 32 :=
  let c3072_i32_263 : BitVec 32 := 3072#32
  c3072_i32_263
def k0_mult66 : BitVec 32 :=
  let c18432_i32_264 : BitVec 32 := 18432#32
  c18432_i32_264
def k0_mult67 : BitVec 32 :=
  let c3072_i32_269 : BitVec 32 := 3072#32
  c3072_i32_269
def k0_mult68 : BitVec 32 :=
  let c3584_i32 : BitVec 32 := 3584#32
  c3584_i32
def k0_mult69 : BitVec 32 :=
  let c18432_i32_275 : BitVec 32 := 18432#32
  c18432_i32_275
def k0_mult70 : BitVec 32 :=
  let c3328_i32_280 : BitVec 32 := 3328#32
  c3328_i32_280
def k0_mult71 : BitVec 32 :=
  let c18432_i32_281 : BitVec 32 := 18432#32
  c18432_i32_281
def k0_mult72 : BitVec 32 :=
  let c3328_i32_286 : BitVec 32 := 3328#32
  c3328_i32_286
def k0_mult73 : BitVec 32 :=
  let c3840_i32 : BitVec 32 := 3840#32
  c3840_i32
def k0_mult74 : BitVec 32 :=
  let c18432_i32_292 : BitVec 32 := 18432#32
  c18432_i32_292
def k0_mult75 : BitVec 32 :=
  let c3584_i32_297 : BitVec 32 := 3584#32
  c3584_i32_297
def k0_mult76 : BitVec 32 :=
  let c18432_i32_298 : BitVec 32 := 18432#32
  c18432_i32_298
def k0_mult77 : BitVec 32 :=
  let c3584_i32_303 : BitVec 32 := 3584#32
  c3584_i32_303
def k0_mult78 : BitVec 32 :=
  let c3840_i32_309 : BitVec 32 := 3840#32
  c3840_i32_309
def k0_mult79 : BitVec 32 :=
  let c18432_i32_310 : BitVec 32 := 18432#32
  c18432_i32_310
def k0_mult80 : BitVec 32 :=
  let c3840_i32_315 : BitVec 32 := 3840#32
  c3840_i32_315
def k0_cond2 (i : grid0.Coords) : BitVec 1 :=
  let arg0 : BitVec 32 := BitVec.ofNat 32 (i 0).val
  let c0_i32_26 : BitVec 32 := 0#32
  let v57 : BitVec 1 := Scalar.cmpi .sgt arg0 c0_i32_26
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c0_i32_21 : BitVec 32 := 0#32
  let v49 : BitVec 1 := Scalar.cmpi .eq v26 c0_i32_21
  let c7_i32 : BitVec 32 := 7#32
  let c1_i32_22 : BitVec 32 := 1#32
  let v50 : BitVec 32 := Scalar.subi v26 c1_i32_22
  let v51 : BitVec 32 := Scalar.select v49 c7_i32 v50
  let c2_i32 : BitVec 32 := 2#32
  let v55 : BitVec 32 := Scalar.muli v51 c2_i32
  let c0_i32_25 : BitVec 32 := 0#32
  let v56 : BitVec 32 := Scalar.addi v55 c0_i32_25
  let c16_i32 : BitVec 32 := 16#32
  let v58 : BitVec 1 := Scalar.cmpi .slt v56 c16_i32
  let v59 : BitVec 1 := Scalar.andi v57 v58
  let c0_i32_23 : BitVec 32 := 0#32
  let v52 : BitVec 1 := Scalar.cmpi .eq v26 c0_i32_23
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c1_i32_24 : BitVec 32 := 1#32
  let v53 : BitVec 32 := Scalar.addi v16 c1_i32_24
  let v54 : BitVec 32 := Scalar.select v52 v16 v53
  let c20_i32 : BitVec 32 := 20#32
  let v60 : BitVec 1 := Scalar.cmpi .slt v54 c20_i32
  let v61 : BitVec 1 := Scalar.andi v59 v60
  let v62 : BitVec 32 := Scalar.extui v61
  let c0_i32_27 : BitVec 32 := 0#32
  let v63 : BitVec 1 := Scalar.cmpi .ne v62 c0_i32_27
  v63

def k0_mult81 (i : grid0.Coords) : BitVec 32 :=
  let arg0 : BitVec 32 := BitVec.ofNat 32 (i 0).val
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c0_i32_21 : BitVec 32 := 0#32
  let v49 : BitVec 1 := Scalar.cmpi .eq v26 c0_i32_21
  let c7_i32 : BitVec 32 := 7#32
  let c1_i32_22 : BitVec 32 := 1#32
  let v50 : BitVec 32 := Scalar.subi v26 c1_i32_22
  let v51 : BitVec 32 := Scalar.select v49 c7_i32 v50
  let c2_i32 : BitVec 32 := 2#32
  let v55 : BitVec 32 := Scalar.muli v51 c2_i32
  let c0_i32_25 : BitVec 32 := 0#32
  let v56 : BitVec 32 := Scalar.addi v55 c0_i32_25
  let c256_i32 : BitVec 32 := 256#32
  let v95 : BitVec 32 := Scalar.muli v56 c256_i32
  v95
def k0_mult82 (i : grid0.Coords) : BitVec 32 :=
  let c18432_i32 : BitVec 32 := 18432#32
  let arg0 : BitVec 32 := BitVec.ofNat 32 (i 0).val
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c0_i32_23 : BitVec 32 := 0#32
  let v52 : BitVec 1 := Scalar.cmpi .eq v26 c0_i32_23
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c1_i32_24 : BitVec 32 := 1#32
  let v53 : BitVec 32 := Scalar.addi v16 c1_i32_24
  let v54 : BitVec 32 := Scalar.select v52 v16 v53
  let c1024_i32 : BitVec 32 := 1024#32
  let v97 : BitVec 32 := Scalar.muli v54 c1024_i32
  let v98 : BitVec 32 := Scalar.addi c18432_i32 v97
  v98
def k0_off1 (i : grid0.Coords) : Fin 2 → Nat :=
  let arg0 : BitVec 32 := BitVec.ofNat 32 (i 0).val
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c0_i32_21 : BitVec 32 := 0#32
  let v49 : BitVec 1 := Scalar.cmpi .eq v26 c0_i32_21
  let c7_i32 : BitVec 32 := 7#32
  let c1_i32_22 : BitVec 32 := 1#32
  let v50 : BitVec 32 := Scalar.subi v26 c1_i32_22
  let v51 : BitVec 32 := Scalar.select v49 c7_i32 v50
  let c2_i32 : BitVec 32 := 2#32
  let v55 : BitVec 32 := Scalar.muli v51 c2_i32
  let c0_i32_25 : BitVec 32 := 0#32
  let v56 : BitVec 32 := Scalar.addi v55 c0_i32_25
  let c256_i32 : BitVec 32 := 256#32
  let v95 : BitVec 32 := Scalar.muli v56 c256_i32
  let v96 : BitVec 32 := v95
  let c18432_i32 : BitVec 32 := 18432#32
  let c0_i32_23 : BitVec 32 := 0#32
  let v52 : BitVec 1 := Scalar.cmpi .eq v26 c0_i32_23
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c1_i32_24 : BitVec 32 := 1#32
  let v53 : BitVec 32 := Scalar.addi v16 c1_i32_24
  let v54 : BitVec 32 := Scalar.select v52 v16 v53
  let c1024_i32 : BitVec 32 := 1024#32
  let v97 : BitVec 32 := Scalar.muli v54 c1024_i32
  let v98 : BitVec 32 := Scalar.addi c18432_i32 v97
  let v99 : BitVec 32 := v98
  ![v96.toNat, v99.toNat]
def k0_mult83 (i : grid0.Coords) : BitVec 32 :=
  let arg0 : BitVec 32 := BitVec.ofNat 32 (i 0).val
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c0_i32_21 : BitVec 32 := 0#32
  let v49 : BitVec 1 := Scalar.cmpi .eq v26 c0_i32_21
  let c7_i32 : BitVec 32 := 7#32
  let c1_i32_22 : BitVec 32 := 1#32
  let v50 : BitVec 32 := Scalar.subi v26 c1_i32_22
  let v51 : BitVec 32 := Scalar.select v49 c7_i32 v50
  let c2_i32 : BitVec 32 := 2#32
  let v55 : BitVec 32 := Scalar.muli v51 c2_i32
  let c0_i32_25 : BitVec 32 := 0#32
  let v56 : BitVec 32 := Scalar.addi v55 c0_i32_25
  let c256_i32_53 : BitVec 32 := 256#32
  let v105 : BitVec 32 := Scalar.muli v56 c256_i32_53
  v105
def k0_off2 (i : grid0.Coords) : Fin 3 → Nat :=
  let arg0 : BitVec 32 := BitVec.ofNat 32 (i 0).val
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c0_i32_23 : BitVec 32 := 0#32
  let v52 : BitVec 1 := Scalar.cmpi .eq v26 c0_i32_23
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c1_i32_24 : BitVec 32 := 1#32
  let v53 : BitVec 32 := Scalar.addi v16 c1_i32_24
  let v54 : BitVec 32 := Scalar.select v52 v16 v53
  let c2_i32_56 : BitVec 32 := 2#32
  let c0_i32_57 : BitVec 32 := 0#32
  let v110 : BitVec 1 := Scalar.cmpi .eq c2_i32_56 c0_i32_57
  let c1_i32_58 : BitVec 32 := 1#32
  let v111 : BitVec 32 := Scalar.select v110 c1_i32_58 c2_i32_56
  let v112 : BitVec 32 := Scalar.remsi v54 v111
  let c0_i32_60 : BitVec 32 := 0#32
  let v114 : BitVec 1 := Scalar.cmpi .slt v112 c0_i32_60
  let c0_i32_61 : BitVec 32 := 0#32
  let v115 : BitVec 1 := Scalar.cmpi .slt v111 c0_i32_61
  let v116 : BitVec 1 := Scalar.xori v114 v115
  let c0_i32_59 : BitVec 32 := 0#32
  let v113 : BitVec 1 := Scalar.cmpi .ne v112 c0_i32_59
  let v117 : BitVec 1 := Scalar.andi v116 v113
  let v118 : BitVec 32 := Scalar.addi v112 v111
  let v119 : BitVec 32 := Scalar.select v117 v118 v112
  let v120 : Index := Scalar.indexCast v119
  let c0_i32_21 : BitVec 32 := 0#32
  let v49 : BitVec 1 := Scalar.cmpi .eq v26 c0_i32_21
  let c7_i32 : BitVec 32 := 7#32
  let c1_i32_22 : BitVec 32 := 1#32
  let v50 : BitVec 32 := Scalar.subi v26 c1_i32_22
  let v51 : BitVec 32 := Scalar.select v49 c7_i32 v50
  let c2_i32 : BitVec 32 := 2#32
  let v55 : BitVec 32 := Scalar.muli v51 c2_i32
  let c0_i32_25 : BitVec 32 := 0#32
  let v56 : BitVec 32 := Scalar.addi v55 c0_i32_25
  let c256_i32_53 : BitVec 32 := 256#32
  let v105 : BitVec 32 := Scalar.muli v56 c256_i32_53
  let v106 : BitVec 32 := v105
  let v121 : Index := Scalar.indexCast v106
  let c0_62 : Index := 0#32
  ![v120.toNat, v121.toNat, 0]
def k0_cond3 (i : grid0.Coords) : BitVec 1 :=
  let arg0 : BitVec 32 := BitVec.ofNat 32 (i 0).val
  let c0_i32_30 : BitVec 32 := 0#32
  let v66 : BitVec 1 := Scalar.cmpi .sgt arg0 c0_i32_30
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c0_i32_21 : BitVec 32 := 0#32
  let v49 : BitVec 1 := Scalar.cmpi .eq v26 c0_i32_21
  let c7_i32 : BitVec 32 := 7#32
  let c1_i32_22 : BitVec 32 := 1#32
  let v50 : BitVec 32 := Scalar.subi v26 c1_i32_22
  let v51 : BitVec 32 := Scalar.select v49 c7_i32 v50
  let c2_i32_28 : BitVec 32 := 2#32
  let v64 : BitVec 32 := Scalar.muli v51 c2_i32_28
  let c1_i32_29 : BitVec 32 := 1#32
  let v65 : BitVec 32 := Scalar.addi v64 c1_i32_29
  let c16_i32_31 : BitVec 32 := 16#32
  let v67 : BitVec 1 := Scalar.cmpi .slt v65 c16_i32_31
  let v68 : BitVec 1 := Scalar.andi v66 v67
  let c0_i32_23 : BitVec 32 := 0#32
  let v52 : BitVec 1 := Scalar.cmpi .eq v26 c0_i32_23
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c1_i32_24 : BitVec 32 := 1#32
  let v53 : BitVec 32 := Scalar.addi v16 c1_i32_24
  let v54 : BitVec 32 := Scalar.select v52 v16 v53
  let c20_i32_32 : BitVec 32 := 20#32
  let v69 : BitVec 1 := Scalar.cmpi .slt v54 c20_i32_32
  let v70 : BitVec 1 := Scalar.andi v68 v69
  let v71 : BitVec 32 := Scalar.extui v70
  let c0_i32_33 : BitVec 32 := 0#32
  let v72 : BitVec 1 := Scalar.cmpi .ne v71 c0_i32_33
  v72

def k0_mult84 (i : grid0.Coords) : BitVec 32 :=
  let arg0 : BitVec 32 := BitVec.ofNat 32 (i 0).val
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c0_i32_21 : BitVec 32 := 0#32
  let v49 : BitVec 1 := Scalar.cmpi .eq v26 c0_i32_21
  let c7_i32 : BitVec 32 := 7#32
  let c1_i32_22 : BitVec 32 := 1#32
  let v50 : BitVec 32 := Scalar.subi v26 c1_i32_22
  let v51 : BitVec 32 := Scalar.select v49 c7_i32 v50
  let c2_i32_28 : BitVec 32 := 2#32
  let v64 : BitVec 32 := Scalar.muli v51 c2_i32_28
  let c1_i32_29 : BitVec 32 := 1#32
  let v65 : BitVec 32 := Scalar.addi v64 c1_i32_29
  let c256_i32 : BitVec 32 := 256#32
  let v95 : BitVec 32 := Scalar.muli v65 c256_i32
  v95
def k0_mult85 (i : grid0.Coords) : BitVec 32 :=
  let c18432_i32 : BitVec 32 := 18432#32
  let arg0 : BitVec 32 := BitVec.ofNat 32 (i 0).val
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c0_i32_23 : BitVec 32 := 0#32
  let v52 : BitVec 1 := Scalar.cmpi .eq v26 c0_i32_23
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c1_i32_24 : BitVec 32 := 1#32
  let v53 : BitVec 32 := Scalar.addi v16 c1_i32_24
  let v54 : BitVec 32 := Scalar.select v52 v16 v53
  let c1024_i32 : BitVec 32 := 1024#32
  let v97 : BitVec 32 := Scalar.muli v54 c1024_i32
  let v98 : BitVec 32 := Scalar.addi c18432_i32 v97
  v98
def k0_off3 (i : grid0.Coords) : Fin 2 → Nat :=
  let arg0 : BitVec 32 := BitVec.ofNat 32 (i 0).val
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c0_i32_21 : BitVec 32 := 0#32
  let v49 : BitVec 1 := Scalar.cmpi .eq v26 c0_i32_21
  let c7_i32 : BitVec 32 := 7#32
  let c1_i32_22 : BitVec 32 := 1#32
  let v50 : BitVec 32 := Scalar.subi v26 c1_i32_22
  let v51 : BitVec 32 := Scalar.select v49 c7_i32 v50
  let c2_i32_28 : BitVec 32 := 2#32
  let v64 : BitVec 32 := Scalar.muli v51 c2_i32_28
  let c1_i32_29 : BitVec 32 := 1#32
  let v65 : BitVec 32 := Scalar.addi v64 c1_i32_29
  let c256_i32 : BitVec 32 := 256#32
  let v95 : BitVec 32 := Scalar.muli v65 c256_i32
  let v96 : BitVec 32 := v95
  let c18432_i32 : BitVec 32 := 18432#32
  let c0_i32_23 : BitVec 32 := 0#32
  let v52 : BitVec 1 := Scalar.cmpi .eq v26 c0_i32_23
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c1_i32_24 : BitVec 32 := 1#32
  let v53 : BitVec 32 := Scalar.addi v16 c1_i32_24
  let v54 : BitVec 32 := Scalar.select v52 v16 v53
  let c1024_i32 : BitVec 32 := 1024#32
  let v97 : BitVec 32 := Scalar.muli v54 c1024_i32
  let v98 : BitVec 32 := Scalar.addi c18432_i32 v97
  let v99 : BitVec 32 := v98
  ![v96.toNat, v99.toNat]
def k0_mult86 (i : grid0.Coords) : BitVec 32 :=
  let arg0 : BitVec 32 := BitVec.ofNat 32 (i 0).val
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c0_i32_21 : BitVec 32 := 0#32
  let v49 : BitVec 1 := Scalar.cmpi .eq v26 c0_i32_21
  let c7_i32 : BitVec 32 := 7#32
  let c1_i32_22 : BitVec 32 := 1#32
  let v50 : BitVec 32 := Scalar.subi v26 c1_i32_22
  let v51 : BitVec 32 := Scalar.select v49 c7_i32 v50
  let c2_i32_28 : BitVec 32 := 2#32
  let v64 : BitVec 32 := Scalar.muli v51 c2_i32_28
  let c1_i32_29 : BitVec 32 := 1#32
  let v65 : BitVec 32 := Scalar.addi v64 c1_i32_29
  let c256_i32_53 : BitVec 32 := 256#32
  let v105 : BitVec 32 := Scalar.muli v65 c256_i32_53
  v105
def k0_off4 (i : grid0.Coords) : Fin 3 → Nat :=
  let arg0 : BitVec 32 := BitVec.ofNat 32 (i 0).val
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c0_i32_23 : BitVec 32 := 0#32
  let v52 : BitVec 1 := Scalar.cmpi .eq v26 c0_i32_23
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c1_i32_24 : BitVec 32 := 1#32
  let v53 : BitVec 32 := Scalar.addi v16 c1_i32_24
  let v54 : BitVec 32 := Scalar.select v52 v16 v53
  let c2_i32_55 : BitVec 32 := 2#32
  let c0_i32_56 : BitVec 32 := 0#32
  let v110 : BitVec 1 := Scalar.cmpi .eq c2_i32_55 c0_i32_56
  let c1_i32_57 : BitVec 32 := 1#32
  let v111 : BitVec 32 := Scalar.select v110 c1_i32_57 c2_i32_55
  let v112 : BitVec 32 := Scalar.remsi v54 v111
  let c0_i32_59 : BitVec 32 := 0#32
  let v114 : BitVec 1 := Scalar.cmpi .slt v112 c0_i32_59
  let c0_i32_60 : BitVec 32 := 0#32
  let v115 : BitVec 1 := Scalar.cmpi .slt v111 c0_i32_60
  let v116 : BitVec 1 := Scalar.xori v114 v115
  let c0_i32_58 : BitVec 32 := 0#32
  let v113 : BitVec 1 := Scalar.cmpi .ne v112 c0_i32_58
  let v117 : BitVec 1 := Scalar.andi v116 v113
  let v118 : BitVec 32 := Scalar.addi v112 v111
  let v119 : BitVec 32 := Scalar.select v117 v118 v112
  let v120 : Index := Scalar.indexCast v119
  let c0_i32_21 : BitVec 32 := 0#32
  let v49 : BitVec 1 := Scalar.cmpi .eq v26 c0_i32_21
  let c7_i32 : BitVec 32 := 7#32
  let c1_i32_22 : BitVec 32 := 1#32
  let v50 : BitVec 32 := Scalar.subi v26 c1_i32_22
  let v51 : BitVec 32 := Scalar.select v49 c7_i32 v50
  let c2_i32_28 : BitVec 32 := 2#32
  let v64 : BitVec 32 := Scalar.muli v51 c2_i32_28
  let c1_i32_29 : BitVec 32 := 1#32
  let v65 : BitVec 32 := Scalar.addi v64 c1_i32_29
  let c256_i32_53 : BitVec 32 := 256#32
  let v105 : BitVec 32 := Scalar.muli v65 c256_i32_53
  let v106 : BitVec 32 := v105
  let v121 : Index := Scalar.indexCast v106
  let c0_61 : Index := 0#32
  ![v120.toNat, v121.toNat, 0]
def k0_cond4 (i : grid0.Coords) : BitVec 1 :=
  let arg0 : BitVec 32 := BitVec.ofNat 32 (i 0).val
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c2_i32_34 : BitVec 32 := 2#32
  let v73 : BitVec 32 := Scalar.muli v26 c2_i32_34
  let c0_i32_35 : BitVec 32 := 0#32
  let v74 : BitVec 32 := Scalar.addi v73 c0_i32_35
  let c16_i32_36 : BitVec 32 := 16#32
  let v75 : BitVec 1 := Scalar.cmpi .slt v74 c16_i32_36
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c1_i32_37 : BitVec 32 := 1#32
  let v76 : BitVec 32 := Scalar.addi v16 c1_i32_37
  let c20_i32_38 : BitVec 32 := 20#32
  let v77 : BitVec 1 := Scalar.cmpi .slt v76 c20_i32_38
  let v78 : BitVec 1 := Scalar.andi v75 v77
  let v79 : BitVec 32 := Scalar.extui v78
  let c0_i32_39 : BitVec 32 := 0#32
  let v80 : BitVec 1 := Scalar.cmpi .ne v79 c0_i32_39
  v80

def k0_mult87 (i : grid0.Coords) : BitVec 32 :=
  let arg0 : BitVec 32 := BitVec.ofNat 32 (i 0).val
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c2_i32_34 : BitVec 32 := 2#32
  let v73 : BitVec 32 := Scalar.muli v26 c2_i32_34
  let c0_i32_35 : BitVec 32 := 0#32
  let v74 : BitVec 32 := Scalar.addi v73 c0_i32_35
  let c256_i32 : BitVec 32 := 256#32
  let v96 : BitVec 32 := Scalar.muli v74 c256_i32
  v96
def k0_mult88 (i : grid0.Coords) : BitVec 32 :=
  let c18432_i32 : BitVec 32 := 18432#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c1_i32_49 : BitVec 32 := 1#32
  let v95 : BitVec 32 := Scalar.addi v16 c1_i32_49
  let c1024_i32 : BitVec 32 := 1024#32
  let v98 : BitVec 32 := Scalar.muli v95 c1024_i32
  let v99 : BitVec 32 := Scalar.addi c18432_i32 v98
  v99
def k0_off5 (i : grid0.Coords) : Fin 2 → Nat :=
  let arg0 : BitVec 32 := BitVec.ofNat 32 (i 0).val
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c2_i32_34 : BitVec 32 := 2#32
  let v73 : BitVec 32 := Scalar.muli v26 c2_i32_34
  let c0_i32_35 : BitVec 32 := 0#32
  let v74 : BitVec 32 := Scalar.addi v73 c0_i32_35
  let c256_i32 : BitVec 32 := 256#32
  let v96 : BitVec 32 := Scalar.muli v74 c256_i32
  let v97 : BitVec 32 := v96
  let c18432_i32 : BitVec 32 := 18432#32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c1_i32_49 : BitVec 32 := 1#32
  let v95 : BitVec 32 := Scalar.addi v16 c1_i32_49
  let c1024_i32 : BitVec 32 := 1024#32
  let v98 : BitVec 32 := Scalar.muli v95 c1024_i32
  let v99 : BitVec 32 := Scalar.addi c18432_i32 v98
  let v100 : BitVec 32 := v99
  ![v97.toNat, v100.toNat]
def k0_cond5 (i : grid0.Coords) : BitVec 1 :=
  let arg0 : BitVec 32 := BitVec.ofNat 32 (i 0).val
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c2_i32_40 : BitVec 32 := 2#32
  let v81 : BitVec 32 := Scalar.muli v26 c2_i32_40
  let c1_i32_41 : BitVec 32 := 1#32
  let v82 : BitVec 32 := Scalar.addi v81 c1_i32_41
  let c16_i32_42 : BitVec 32 := 16#32
  let v83 : BitVec 1 := Scalar.cmpi .slt v82 c16_i32_42
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c1_i32_43 : BitVec 32 := 1#32
  let v84 : BitVec 32 := Scalar.addi v16 c1_i32_43
  let c20_i32_44 : BitVec 32 := 20#32
  let v85 : BitVec 1 := Scalar.cmpi .slt v84 c20_i32_44
  let v86 : BitVec 1 := Scalar.andi v83 v85
  let v87 : BitVec 32 := Scalar.extui v86
  let c0_i32_45 : BitVec 32 := 0#32
  let v88 : BitVec 1 := Scalar.cmpi .ne v87 c0_i32_45
  v88

def k0_mult89 (i : grid0.Coords) : BitVec 32 :=
  let arg0 : BitVec 32 := BitVec.ofNat 32 (i 0).val
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c2_i32_40 : BitVec 32 := 2#32
  let v81 : BitVec 32 := Scalar.muli v26 c2_i32_40
  let c1_i32_41 : BitVec 32 := 1#32
  let v82 : BitVec 32 := Scalar.addi v81 c1_i32_41
  let c256_i32 : BitVec 32 := 256#32
  let v96 : BitVec 32 := Scalar.muli v82 c256_i32
  v96
def k0_mult90 (i : grid0.Coords) : BitVec 32 :=
  let c18432_i32 : BitVec 32 := 18432#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c1_i32_49 : BitVec 32 := 1#32
  let v95 : BitVec 32 := Scalar.addi v16 c1_i32_49
  let c1024_i32 : BitVec 32 := 1024#32
  let v98 : BitVec 32 := Scalar.muli v95 c1024_i32
  let v99 : BitVec 32 := Scalar.addi c18432_i32 v98
  v99
def k0_off6 (i : grid0.Coords) : Fin 2 → Nat :=
  let arg0 : BitVec 32 := BitVec.ofNat 32 (i 0).val
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c2_i32_40 : BitVec 32 := 2#32
  let v81 : BitVec 32 := Scalar.muli v26 c2_i32_40
  let c1_i32_41 : BitVec 32 := 1#32
  let v82 : BitVec 32 := Scalar.addi v81 c1_i32_41
  let c256_i32 : BitVec 32 := 256#32
  let v96 : BitVec 32 := Scalar.muli v82 c256_i32
  let v97 : BitVec 32 := v96
  let c18432_i32 : BitVec 32 := 18432#32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c1_i32_49 : BitVec 32 := 1#32
  let v95 : BitVec 32 := Scalar.addi v16 c1_i32_49
  let c1024_i32 : BitVec 32 := 1024#32
  let v98 : BitVec 32 := Scalar.muli v95 c1024_i32
  let v99 : BitVec 32 := Scalar.addi c18432_i32 v98
  let v100 : BitVec 32 := v99
  ![v97.toNat, v100.toNat]
def k0_cond6 (i : grid0.Coords) : BitVec 1 :=
  let arg0 : BitVec 32 := BitVec.ofNat 32 (i 0).val
  let c160_i32 : BitVec 32 := 160#32
  let v89 : BitVec 1 := Scalar.cmpi .slt arg0 c160_i32
  let v90 : BitVec 32 := Scalar.extui v89
  let c0_i32_46 : BitVec 32 := 0#32
  let v91 : BitVec 1 := Scalar.cmpi .ne v90 c0_i32_46
  v91

def k0_off7 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c2_i32_49 : BitVec 32 := 2#32
  let c0_i32_50 : BitVec 32 := 0#32
  let v95 : BitVec 1 := Scalar.cmpi .eq c2_i32_49 c0_i32_50
  let c1_i32_51 : BitVec 32 := 1#32
  let v96 : BitVec 32 := Scalar.select v95 c1_i32_51 c2_i32_49
  let v97 : BitVec 32 := Scalar.remsi v16 v96
  let c0_i32_53 : BitVec 32 := 0#32
  let v99 : BitVec 1 := Scalar.cmpi .slt v97 c0_i32_53
  let c0_i32_54 : BitVec 32 := 0#32
  let v100 : BitVec 1 := Scalar.cmpi .slt v96 c0_i32_54
  let v101 : BitVec 1 := Scalar.xori v99 v100
  let c0_i32_52 : BitVec 32 := 0#32
  let v98 : BitVec 1 := Scalar.cmpi .ne v97 c0_i32_52
  let v102 : BitVec 1 := Scalar.andi v101 v98
  let v103 : BitVec 32 := Scalar.addi v97 v96
  let v104 : BitVec 32 := Scalar.select v102 v103 v97
  let v162 : Index := Scalar.indexCast v104
  let c0_87 : Index := 0#32
  let c0_88 : Index := 0#32
  ![v162.toNat, 0, 0]
def k0_cond7 (i : grid0.Coords) : BitVec 1 :=
  let arg0 : BitVec 32 := BitVec.ofNat 32 (i 0).val
  let c160_i32_47 : BitVec 32 := 160#32
  let v92 : BitVec 1 := Scalar.cmpi .eq arg0 c160_i32_47
  let v93 : BitVec 32 := Scalar.extui v92
  let c0_i32_48 : BitVec 32 := 0#32
  let v94 : BitVec 1 := Scalar.cmpi .ne v93 c0_i32_48
  v94

def cc0_transform_0 (i : grid0.Coords) : Fin 2 → Nat :=
  let arg0 : BitVec 32 := BitVec.ofNat 32 (i 0).val
  let c159_i32 : BitVec 32 := 159#32
  let v0 : BitVec 32 := Scalar.minsi arg0 c159_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v28.toNat, v18.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference3Ideal.lean ====
abbrev S9216x4096 : Shape := ⟨2, ![9216, 4096]⟩
abbrev S4096x38912 : Shape := ⟨2, ![4096, 38912]⟩
abbrev S8192x4096 : Shape := ⟨2, ![8192, 4096]⟩
abbrev S4096x20480 : Shape := ⟨2, ![4096, 20480]⟩
abbrev S8192x20480 : Shape := ⟨2, ![8192, 20480]⟩
abbrev S8192x12288 : Shape := ⟨2, ![8192, 12288]⟩
abbrev S_ : Shape := ⟨0, ![]⟩
abbrev S8192x8192 : Shape := ⟨2, ![8192, 8192]⟩

abbrev nBuf : Space → Nat
  | .hbm => 27
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S4096x38912, .f32⟩
  | .hbm, ⟨2, _⟩ => ⟨S8192x4096, .bf16⟩
  | .hbm, ⟨3, _⟩ => ⟨S8192x4096, .f32⟩
  | .hbm, ⟨4, _⟩ => ⟨S4096x20480, .f32⟩
  | .hbm, ⟨5, _⟩ => ⟨S8192x20480, .f32⟩
  | .hbm, ⟨6, _⟩ => ⟨S8192x12288, .f32⟩
  | .hbm, ⟨7, _⟩ => ⟨S8192x12288, .f32⟩
  | .hbm, ⟨8, _⟩ => ⟨S8192x12288, .f32⟩
  | .hbm, ⟨9, _⟩ => ⟨S_, .f32⟩
  | .hbm, ⟨10, _⟩ => ⟨S8192x12288, .f32⟩
  | .hbm, ⟨11, _⟩ => ⟨S8192x12288, .f32⟩
  | .hbm, ⟨12, _⟩ => ⟨S_, .f32⟩
  | .hbm, ⟨13, _⟩ => ⟨S8192x12288, .f32⟩
  | .hbm, ⟨14, _⟩ => ⟨S8192x12288, .f32⟩
  | .hbm, ⟨15, _⟩ => ⟨S8192x12288, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x20480, .f32⟩
  | .hbm, ⟨26, _⟩ => ⟨S8192x20480, .bf16⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== Kernel4.lean ====
abbrev S8192x4096 : Shape := ⟨2, ![8192, 4096]⟩
abbrev S4096x4096 : Shape := ⟨2, ![4096, 4096]⟩
abbrev S8x1x12288 : Shape := ⟨3, ![8, 1, 12288]⟩
abbrev S1x4096 : Shape := ⟨2, ![1, 4096]⟩
abbrev S512x4096 : Shape := ⟨2, ![512, 4096]⟩
abbrev S4096x512 : Shape := ⟨2, ![4096, 512]⟩
abbrev S512x512 : Shape := ⟨2, ![512, 512]⟩
abbrev S1x1x512 : Shape := ⟨3, ![1, 1, 512]⟩
abbrev S8x512x512 : Shape := ⟨3, ![8, 512, 512]⟩
abbrev S1x512 : Shape := ⟨2, ![1, 512]⟩
abbrev S1x512x512 : Shape := ⟨3, ![1, 512, 512]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S8x1x12288, .f32⟩
  | .hbm, ⟨4, _⟩ => ⟨S1x4096, .f32⟩
  | .hbm, ⟨5, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | .local _ .vmem, ⟨6, _⟩ => ⟨S1x1x512, .f32⟩
  | .local _ .vmem, ⟨7, _⟩ => ⟨S1x1x512, .f32⟩
  | .local _ .vmem, ⟨8, _⟩ => ⟨S1x4096, .f32⟩
  | .local _ .vmem, ⟨9, _⟩ => ⟨S512x4096, .f32⟩
  | .local _ .vmem, ⟨10, _⟩ => ⟨S512x4096, .f32⟩
  | .local _ .vmem, ⟨11, _⟩ => ⟨S8x512x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 8], ![false, false]⟩

def k0_off1 (i : grid0.Coords) : Fin 3 → Nat :=
  let arg1 : BitVec 32 := BitVec.ofNat 32 (i 1).val
  let v9 : Index := Scalar.indexCast arg1
  let c0_8 : Index := 0#32
  let c0_9 : Index := 0#32
  ![v9.toNat, 0, 0]
def k0_cond1 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32 : BitVec 32 := 0#32
  let v15 : BitVec 1 := Scalar.cmpi .ne v14 c0_i32
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.addi c16_i32 arg1
  let c0_i32_4 : BitVec 32 := 0#32
  let c0_i32_5 : BitVec 32 := 0#32
  ![v16.toNat, c0_i32_4.toNat, v17.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference4Ideal.lean ====
abbrev S8192x4096 : Shape := ⟨2, ![8192, 4096]⟩
abbrev S4096x4096 : Shape := ⟨2, ![4096, 4096]⟩
abbrev S8x1x12288 : Shape := ⟨3, ![8, 1, 12288]⟩
abbrev S1x4096 : Shape := ⟨2, ![1, 4096]⟩
abbrev S4x1x4096 : Shape := ⟨3, ![4, 1, 4096]⟩
abbrev S4x4096 : Shape := ⟨2, ![4, 4096]⟩
abbrev S4x2048x4096 : Shape := ⟨3, ![4, 2048, 4096]⟩
abbrev S_ : Shape := ⟨0, ![]⟩
abbrev S4x2048 : Shape := ⟨2, ![4, 2048]⟩
abbrev S4x2048x1 : Shape := ⟨3, ![4, 2048, 1]⟩
abbrev S4096 : Shape := ⟨1, ![4096]⟩
abbrev S1x1x4096 : Shape := ⟨3, ![1, 1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S8x1x12288, .f32⟩
  | .hbm, ⟨4, _⟩ => ⟨S1x4096, .f32⟩
  | .hbm, ⟨5, _⟩ => ⟨S4x1x4096, .f32⟩
  | .hbm, ⟨6, _⟩ => ⟨S4x4096, .f32⟩
  | .hbm, ⟨7, _⟩ => ⟨S8192x4096, .f32⟩
  | .hbm, ⟨8, _⟩ => ⟨S4096x4096, .f32⟩
  | .hbm, ⟨9, _⟩ => ⟨S8192x4096, .f32⟩
  | .hbm, ⟨10, _⟩ => ⟨S4x2048x4096, .f32⟩
  | .hbm, ⟨11, _⟩ => ⟨S4x2048x4096, .f32⟩
  | .hbm, ⟨12, _⟩ => ⟨S4x1x4096, .f32⟩
  | .hbm, ⟨13, _⟩ => ⟨S4x2048x4096, .f32⟩
  | .hbm, ⟨14, _⟩ => ⟨S4x2048x4096, .f32⟩
  | .hbm, ⟨15, _⟩ => ⟨S4x2048x4096, .f32⟩
  | .hbm, ⟨16, _⟩ => ⟨S4x2048x4096, .f32⟩
  | .hbm, ⟨17, _⟩ => ⟨S_, .f32⟩
  | .hbm, ⟨18, _⟩ => ⟨S4x2048, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S4x2048x1, .f32⟩
  | .hbm, ⟨27, _⟩ => ⟨S4x2048x4096, .f32⟩
  | .hbm, ⟨28, _⟩ => ⟨S4x2048x4096, .f32⟩
  | .hbm, ⟨29, _⟩ => ⟨S4096, .f32⟩
  | .hbm, ⟨30, _⟩ => ⟨S1x1x4096, .f32⟩
  | .hbm, ⟨31, _⟩ => ⟨S4x2048x4096, .f32⟩
  | .hbm, ⟨32, _⟩ => ⟨S4x2048x4096, .f32⟩
  | .hbm, ⟨33, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Proof.AttnIdeal.Block.lean ====
/-
  What one grid step of the attention kernel leaves behind, as plain terms over the blocks it reads: the
  two scratch panels (keys, and values transposed with rows of ones below), the output block, and one
  64-row strip of a weight rounded to bf16. Nothing here runs the program.
-/
module

public import proofs.«01_k».proof.Proof.Gen.KernelIdeal.Frame
public import proofs.«01_k».proof.Proof.Gen.KernelIdeal.Skeleton
public import Idealize.ShloMosaic.Lib.Ring
public import Idealize.ShloMosaic.Lib.Tactic
public import Idealize.ShloMosaic.Lib.WholeRead
public import Idealize.ShloMosaic.Lib.Pipeline.FrameBody

@[expose] public section

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

abbrev hA : Memref sig .tc .hbm S4096x4096 .f32 := Memref.whole main_v0
abbrev hB : Memref sig .tc .hbm S4096x4096 .f32 := Memref.whole main_v1
abbrev hC : Memref sig .tc .hbm S4096x4096 .f32 := Memref.whole main_v2
abbrev oA : Memref sig .tc .hbm S4096x4096 .bf16 := Memref.whole main_v3_1
abbrev oB : Memref sig .tc .hbm S4096x4096 .bf16 := Memref.whole main_v3_2
abbrev oC : Memref sig .tc .hbm S4096x4096 .bf16 := Memref.whole main_v3_3
abbrev kS : Memref sig .tc .vmem S2304x128 .bf16 := Memref.whole cc0_scratch0
abbrev vS : Memref sig .tc .vmem S144x2304 .bf16 := Memref.whole cc0_scratch1
abbrev iS : Memref sig .tc .vmem S3x64x4096 .f32 := Memref.whole cc0_scratch2
abbrev uS : Memref sig .tc .vmem S3x64x4096 .bf16 := Memref.whole cc0_scratch3

/-! ## The blocks -/

/-- The keys panel's pieces: the latent keys in rows 0 to 2047, the context keys below (last store first). -/
def KL (x4 : Vec F S2048x128 .bf16) (x6 : Vec F S256x128 .bf16) : List (View.Piece (Elt F) S2304x128 .bf16) :=
  [⟨(Rect.unit (s := S2304x128) ![2048, 0] S256x128.size inb_S2304x128_S256x128_2048_0), k0_pay3 (View.ld x6 (Rect.unit (s := S256x128) ![0, 0] S256x128.size inb_S256x128_S256x128_0_0))⟩,
   ⟨(Rect.unit (s := S2304x128) ![0, 0] S2048x128.size inb_S2304x128_S2048x128_0_0), k0_pay2 (View.ld x4 (Rect.unit (s := S2048x128) ![0, 0] S2048x128.size inb_S2048x128_S2048x128_0_0))⟩]

/-- The values panel's pieces: the latent values transposed, the context values transposed, and ones below. -/
def VL (x5 : Vec F S2048x128 .bf16) (x7 : Vec F S256x128 .bf16) : List (View.Piece (Elt F) S144x2304 .bf16) :=
  [⟨(Rect.unit (s := S144x2304) ![128, 0] S16x2304.size inb_S144x2304_S16x2304_128_0), k0_pay6⟩,
   ⟨(Rect.unit (s := S144x2304) ![0, 2048] S128x256.size inb_S144x2304_S128x256_0_2048), k0_pay5 (View.ld x7 (Rect.unit (s := S256x128) ![0, 0] S256x128.size inb_S256x128_S256x128_0_0))⟩,
   ⟨(Rect.unit (s := S144x2304) ![0, 0] S128x2048.size inb_S144x2304_S128x2048_0_0), k0_pay4 (View.ld x5 (Rect.unit (s := S2048x128) ![0, 0] S2048x128.size inb_S2048x128_S2048x128_0_0))⟩]

/-- The keys panel, whole. -/
def KB (x4 : Vec F S2048x128 .bf16) (x6 : Vec F S256x128 .bf16) : Vec F S2304x128 .bf16 := View.canon (KL x4 x6)

/-- The values panel, whole. -/
def VB (x5 : Vec F S2048x128 .bf16) (x7 : Vec F S256x128 .bf16) : Vec F S144x2304 .bf16 := View.canon (VL x5 x7)

/-- Head 0 of the group: scores of both key chunks, their maximum, the weighted sums, the gated quotient. -/
def head0 (Q : Vec F S1024x128 .bf16) (K0 K1 : Vec F S1152x128 .bf16) (V0 V1 : Vec F S144x1152 .bf16) (G : Vec F S1024x128 .bf16) :
    FVec F S1024x128 .bf16 :=
  k0_pay13 (k0_pay8 K1 Q) (k0_pay9 K0 Q K1 Q) (k0_pay11 K0 Q K1 Q V0) V1 G

/-- Head 1 of the group. -/
def head1 (Q : Vec F S1024x128 .bf16) (K0 K1 : Vec F S1152x128 .bf16) (V0 V1 : Vec F S144x1152 .bf16) (G : Vec F S1024x128 .bf16) :
    FVec F S1024x128 .bf16 :=
  k0_pay17 (k0_pay10 K0 Q) (k0_pay12 K1 Q) (k0_pay14 (k0_pay10 K0 Q) K1 Q) V0 V1 G

/-- Head 2 of the group. -/
def head2 (Q : Vec F S1024x128 .bf16) (K0 K1 : Vec F S1152x128 .bf16) (V0 V1 : Vec F S144x1152 .bf16) (G : Vec F S1024x128 .bf16) :
    FVec F S1024x128 .bf16 :=
  k0_pay24 (k0_pay23 (k0_pay15 K0 Q) (k0_pay16 K1 Q) (k0_pay19 K0 Q) (k0_pay20 K0 Q) V0 V1) G

/-- Head 3 of the group. -/
def head3 (Q : Vec F S1024x128 .bf16) (K0 K1 : Vec F S1152x128 .bf16) (V0 V1 : Vec F S144x1152 .bf16) (G : Vec F S1024x128 .bf16) :
    FVec F S1024x128 .bf16 :=
  k0_pay26 (k0_pay25 (k0_pay21 K0 Q) (k0_pay22 K1 Q) V0 V1) G

/-- The output block's pieces, one per head (last store first). -/
def OL (x3 : Vec F S1024x512 .bf16) (K : Vec F S2304x128 .bf16) (V : Vec F S144x2304 .bf16) (x8 : Vec F S1024x512 .bf16) :
    List (View.Piece (Elt F) S1024x512 .bf16) :=
  [⟨(Rect.unit (s := S1024x512) ![0, 384] S1024x128.size inb_S1024x512_S1024x128_0_384), head3 (View.ld x3 (Rect.unit (s := S1024x512) ![0, 384] S1024x128.size inb_S1024x512_S1024x128_0_384)) (View.ld K (Rect.unit (s := S2304x128) ![0, 0] S1152x128.size inb_S2304x128_S1152x128_0_0)) (View.ld K (Rect.unit (s := S2304x128) ![1152, 0] S1152x128.size inb_S2304x128_S1152x128_1152_0)) (View.ld V (Rect.unit (s := S144x2304) ![0, 0] S144x1152.size inb_S144x2304_S144x1152_0_0)) (View.ld V (Rect.unit (s := S144x2304) ![0, 1152] S144x1152.size inb_S144x2304_S144x1152_0_1152)) (View.ld x8 (Rect.unit (s := S1024x512) ![0, 384] S1024x128.size inb_S1024x512_S1024x128_0_384))⟩,
   ⟨(Rect.unit (s := S1024x512) ![0, 256] S1024x128.size inb_S1024x512_S1024x128_0_256), head2 (View.ld x3 (Rect.unit (s := S1024x512) ![0, 256] S1024x128.size inb_S1024x512_S1024x128_0_256)) (View.ld K (Rect.unit (s := S2304x128) ![0, 0] S1152x128.size inb_S2304x128_S1152x128_0_0)) (View.ld K (Rect.unit (s := S2304x128) ![1152, 0] S1152x128.size inb_S2304x128_S1152x128_1152_0)) (View.ld V (Rect.unit (s := S144x2304) ![0, 0] S144x1152.size inb_S144x2304_S144x1152_0_0)) (View.ld V (Rect.unit (s := S144x2304) ![0, 1152] S144x1152.size inb_S144x2304_S144x1152_0_1152)) (View.ld x8 (Rect.unit (s := S1024x512) ![0, 256] S1024x128.size inb_S1024x512_S1024x128_0_256))⟩,
   ⟨(Rect.unit (s := S1024x512) ![0, 128] S1024x128.size inb_S1024x512_S1024x128_0_128), head1 (View.ld x3 (Rect.unit (s := S1024x512) ![0, 128] S1024x128.size inb_S1024x512_S1024x128_0_128)) (View.ld K (Rect.unit (s := S2304x128) ![0, 0] S1152x128.size inb_S2304x128_S1152x128_0_0)) (View.ld K (Rect.unit (s := S2304x128) ![1152, 0] S1152x128.size inb_S2304x128_S1152x128_1152_0)) (View.ld V (Rect.unit (s := S144x2304) ![0, 0] S144x1152.size inb_S144x2304_S144x1152_0_0)) (View.ld V (Rect.unit (s := S144x2304) ![0, 1152] S144x1152.size inb_S144x2304_S144x1152_0_1152)) (View.ld x8 (Rect.unit (s := S1024x512) ![0, 128] S1024x128.size inb_S1024x512_S1024x128_0_128))⟩,
   ⟨(Rect.unit (s := S1024x512) ![0, 0] S1024x128.size inb_S1024x512_S1024x128_0_0), head0 (View.ld x3 (Rect.unit (s := S1024x512) ![0, 0] S1024x128.size inb_S1024x512_S1024x128_0_0)) (View.ld K (Rect.unit (s := S2304x128) ![0, 0] S1152x128.size inb_S2304x128_S1152x128_0_0)) (View.ld K (Rect.unit (s := S2304x128) ![1152, 0] S1152x128.size inb_S2304x128_S1152x128_1152_0)) (View.ld V (Rect.unit (s := S144x2304) ![0, 0] S144x1152.size inb_S144x2304_S144x1152_0_0)) (View.ld V (Rect.unit (s := S144x2304) ![0, 1152] S144x1152.size inb_S144x2304_S144x1152_0_1152)) (View.ld x8 (Rect.unit (s := S1024x512) ![0, 0] S1024x128.size inb_S1024x512_S1024x128_0_0))⟩]

/-- The output block. -/
def outB (x3 : Vec F S1024x512 .bf16) (K : Vec F S2304x128 .bf16) (V : Vec F S144x2304 .bf16) (x8 : Vec F S1024x512 .bf16) :
    Vec F S1024x512 .bf16 := View.canon (OL x3 K V x8)

/-- The keys panel's two pieces fill it. -/
theorem KL_cover (x4 : Vec F S2048x128 .bf16) (x6 : Vec F S256x128 .bf16) : ∀ y, ∃ p ∈ KL x4 x6, y ∈ p.1.set := by
  intro y
  by_cases h : (y 0).val < 2048
  · refine ⟨_, List.mem_cons_of_mem _ List.mem_cons_self, ?_⟩
    rw [Rect.mem_set_unit]
    intro a; fin_cases a
    · exact ⟨Nat.zero_le _, by simpa using h⟩
    · exact ⟨Nat.zero_le _, by simpa using (y 1).isLt⟩
  · refine ⟨_, List.mem_cons_self, ?_⟩
    rw [Rect.mem_set_unit]
    intro a; fin_cases a
    · exact ⟨by simpa using h, by simpa using (y 0).isLt⟩
    · exact ⟨Nat.zero_le _, by simpa using (y 1).isLt⟩

/-- The values panel's three pieces fill it. -/
theorem VL_cover (x5 : Vec F S2048x128 .bf16) (x7 : Vec F S256x128 .bf16) : ∀ y, ∃ p ∈ VL x5 x7, y ∈ p.1.set := by
  intro y
  by_cases h0 : (y 0).val < 128
  · by_cases h : (y 1).val < 2048
    · refine ⟨_, List.mem_cons_of_mem _ (List.mem_cons_of_mem _ List.mem_cons_self), ?_⟩
      rw [Rect.mem_set_unit]
      intro a; fin_cases a
      · exact ⟨Nat.zero_le _, by simpa using h0⟩
      · exact ⟨Nat.zero_le _, by simpa using h⟩
    · refine ⟨_, List.mem_cons_of_mem _ List.mem_cons_self, ?_⟩
      rw [Rect.mem_set_unit]
      intro a; fin_cases a
      · exact ⟨Nat.zero_le _, by simpa using h0⟩
      · exact ⟨by simpa using h, by simpa using (y 1).isLt⟩
  · refine ⟨_, List.mem_cons_self, ?_⟩
    rw [Rect.mem_set_unit]
    intro a; fin_cases a
    · exact ⟨by simpa using h0, by simpa using (y 0).isLt⟩
    · exact ⟨Nat.zero_le _, by simpa using (y 1).isLt⟩

/-- The four heads' columns fill the output block. -/
theorem OL_cover (x3 : Vec F S1024x512 .bf16) (K : Vec F S2304x128 .bf16) (V : Vec F S144x2304 .bf16) (x8 : Vec F S1024x512 .bf16) :
    ∀ y, ∃ p ∈ OL x3 K V x8, y ∈ p.1.set :=
  View.cover_of_tiledL (OL x3 K V x8) ![1024, 128] (by sl_kernel_rfl)

/-- What the output's buffer reads after a step that kept the panels. -/
theorem out_odd (M : Memref sig .tc .vmem S1024x512 .bf16) (f : M.view.ty.Contents (Elt F)) (x3 x8 : Vec F S1024x512 .bf16)
    {K K' : Vec F S2304x128 .bf16} {V V' : Vec F S144x2304 .bf16} (hk : K = K') (hv : V = V') :
    M.view.read (Elt F) (M.view.writes (Elt F) f (OL x3 K V x8)) = outB x3 K' V' x8 := by
  subst hk hv
  exact View.read_writes_eq_canon _ _ _ (OL_cover x3 K V x8)

/-- What it reads after a step that filled the panels first. -/
theorem out_even (M : Memref sig .tc .vmem S1024x512 .bf16) (f : M.view.ty.Contents (Elt F)) (x3 x8 : Vec F S1024x512 .bf16)
    (x4 x5 : Vec F S2048x128 .bf16) (x6 x7 : Vec F S256x128 .bf16) :
    M.view.read (Elt F) (M.view.writes (Elt F) f
      (OL x3 (kS.view.read (Elt F) (kS.view.writes (Elt F) kS.view.junk (KL x4 x6))) (vS.view.read (Elt F) (vS.view.writes (Elt F) vS.view.junk (VL x5 x7))) x8))
      = outB x3 (KB x4 x6) (VB x5 x7) x8 :=
  out_odd M f x3 x8 (View.read_writes_eq_canon _ _ _ (KL_cover x4 x6)) (View.read_writes_eq_canon _ _ _ (VL_cover x5 x7))

/-! ## One strip of a weight -/

/-- The 64 rows of a weight at an offset. -/
abbrev rowsO {e : EltTy} (M : Memref sig .tc .hbm S4096x4096 e) (o : Fin 2 → ℕ) (h : ∀ a, o a + S64x4096.size a ≤ S4096x4096.size a) :
    Memref sig .tc .hbm S64x4096 e :=
  M.slice (Rect.unit (s := S4096x4096) o S64x4096.size h) (fun _ => rfl)

/-- One slot of the three-slot staging buffers. -/
abbrev slotO {e : EltTy} (M : Memref sig .tc .vmem S3x64x4096 e) (o : Fin 3 → ℕ) (h : ∀ a, o a + S1x64x4096.size a ≤ S3x64x4096.size a) :
    Memref sig .tc .vmem S64x4096 e :=
  (M.slice (Rect.unit (s := S3x64x4096) o S1x64x4096.size h) (fun _ => rfl)).squeeze S64x4096 squeezes_S1x64x4096_S64x4096

/-- The rows of `f` at the offset, rounded to bf16. -/
def strip (c : Dev nD) (H : Memref sig .tc .hbm S4096x4096 .f32) (o : Fin 2 → ℕ) (h : ∀ a, o a + S64x4096.size a ≤ S4096x4096.size a)
    (f : HbBuf (F := F) c H) : Vec F S64x4096 .bf16 :=
  truncf .bf16 (View.read (Elt F) (rowsO H o h).view f : FVec F S64x4096 .f32) bitsLt_bf16_f32

/-- The strip written over `g` at the same rows. -/
def put (c : Dev nD) (H : Memref sig .tc .hbm S4096x4096 .f32) (M : Memref sig .tc .hbm S4096x4096 .bf16) (o : Fin 2 → ℕ)
    (h : ∀ a, o a + S64x4096.size a ≤ S4096x4096.size a) (f : HbBuf (F := F) c H) (g : HbBuf (F := F) c M) : HbBuf (F := F) c M :=
  View.write (Elt F) (rowsO M o h).view g (strip c H o h f) Finset.univ

/-- What a slot reads after the store of `p` through it: `p` without its leading axis. -/
theorem slot_read {e : EltTy} (M : Memref sig .tc .vmem S3x64x4096 e) (o : Fin 3 → ℕ) (h : ∀ a, o a + S1x64x4096.size a ≤ S3x64x4096.size a)
    (u : M.view.ty.Contents (Elt F)) (p : Vec F S1x64x4096 e) (L : List (View.Piece (Elt F) S3x64x4096 e)) :
    View.read (Elt F) (slotO M o h).view (M.view.writes (Elt F) u (⟨Rect.unit (s := S3x64x4096) o S1x64x4096.size h, p⟩ :: L))
      = shapeCast S64x4096 p shapeCasts_S1x64x4096_S64x4096 := by
  funext y
  exact congrFun (View.read_write_univ (v := M.view.slice (Rect.unit (s := S3x64x4096) o S1x64x4096.size h)) (M.view.writes (Elt F) u L) p) _

/-- What a slot reads after a strip was copied into it. -/
theorem slot_load {e : EltTy} (M : Memref sig .tc .vmem S3x64x4096 e) (o : Fin 3 → ℕ) (h : ∀ a, o a + S1x64x4096.size a ≤ S3x64x4096.size a)
    (u : M.view.ty.Contents (Elt F)) (p : Vec F S64x4096 e) :
    shapeCast S64x4096 (M.view.readAt (Elt F) (Rect.unit (s := S3x64x4096) o S1x64x4096.size h).toLoadRect
      (View.write (Elt F) (slotO M o h).view u p Finset.univ) : Vec F S1x64x4096 e) shapeCasts_S1x64x4096_S64x4096 = p :=
  View.read_write_univ (v := (slotO M o h).view) u p

/-- A copy into another slot is not seen. -/
theorem slot_load_other {e : EltTy} (M : Memref sig .tc .vmem S3x64x4096 e) (o o' : Fin 3 → ℕ) (h : ∀ a, o a + S1x64x4096.size a ≤ S3x64x4096.size a)
    (h' : ∀ a, o' a + S1x64x4096.size a ≤ S3x64x4096.size a) (hne : o 0 ≠ o' 0) (u : M.view.ty.Contents (Elt F)) (p : Vec F S64x4096 e) :
    (M.view.readAt (Elt F) (Rect.unit (s := S3x64x4096) o S1x64x4096.size h).toLoadRect
      (View.write (Elt F) (slotO M o' h').view u p Finset.univ) : Vec F S1x64x4096 e)
      = M.view.readAt (Elt F) (Rect.unit (s := S3x64x4096) o S1x64x4096.size h).toLoadRect u := by
  refine View.read_congr (v := M.view.slice (Rect.unit (s := S3x64x4096) o S1x64x4096.size h)) fun i hi => View.write_of_not_mem _ _ _ fun hm => ?_
  have hm' : i ∈ (M.view.slice (Rect.unit (s := S3x64x4096) o' S1x64x4096.size h')).set := by
    rw [← View.set_reshape (s' := S64x4096) (h := squeezes_S1x64x4096_S64x4096.numel_eq)]
    exact hm
  rw [View.set_slice, Finset.mem_map] at hi hm'
  obtain ⟨x, hx, rfl⟩ := hi
  obtain ⟨x', hx', he⟩ := hm'
  obtain rfl := M.view.emb.injective he
  rw [Rect.mem_set_unit] at hx hx'
  have a := hx 0; have b := hx' 0
  have e : S1x64x4096.size 0 = 1 := rfl
  rw [e] at a b
  omega

/-- A strip's round trip through both staging buffers. -/
theorem trunc_trip (v : Vec F S1x64x4096 .f32) :
    shapeCast S64x4096 (shapeCast S1x64x4096 (truncf .bf16 (shapeCast S64x4096 v shapeCasts_S1x64x4096_S64x4096 : FVec F S64x4096 .f32) bitsLt_bf16_f32 : FVec F S64x4096 .bf16)
      shapeCasts_S64x4096_S1x64x4096) shapeCasts_S1x64x4096_S64x4096
      = truncf .bf16 (shapeCast S64x4096 v shapeCasts_S1x64x4096_S64x4096 : FVec F S64x4096 .f32) bitsLt_bf16_f32 := by
  funext y
  unfold shapeCast
  rw [Shape.reshapeEquiv_reshapeEquiv, Shape.reshapeEquiv_self]

/-- Strip 0: copied into its slot, rounded, stored, and read back, it is the strip rounded. -/
theorem trip0 (fi : iS.view.ty.Contents (Elt F)) (dA dB dC : Vec F S64x4096 .f32) (u : uS.view.ty.Contents (Elt F))
    (L : List (View.Piece (Elt F) S3x64x4096 .bf16)) :
    View.read (Elt F) (slotO uS ![0, 0, 0] inb_S3x64x4096_S1x64x4096_0_0_0).view (uS.view.writes (Elt F) u
      (⟨Rect.unit (s := S3x64x4096) ![0, 0, 0] S1x64x4096.size inb_S3x64x4096_S1x64x4096_0_0_0,
        k0_pay27 (iS.view.readAt (Elt F) (Rect.unit (s := S3x64x4096) ![0, 0, 0] S1x64x4096.size inb_S3x64x4096_S1x64x4096_0_0_0).toLoadRect
          (View.write (Elt F) (slotO iS ![2, 0, 0] inb_S3x64x4096_S1x64x4096_2_0_0).view (View.write (Elt F) (slotO iS ![1, 0, 0] inb_S3x64x4096_S1x64x4096_1_0_0).view
            (View.write (Elt F) (slotO iS ![0, 0, 0] inb_S3x64x4096_S1x64x4096_0_0_0).view fi dA Finset.univ) dB Finset.univ) dC Finset.univ))⟩ :: L))
      = (truncf .bf16 (dA : FVec F S64x4096 .f32) bitsLt_bf16_f32 : FVec F S64x4096 .bf16) := by
  refine (slot_read _ _ _ _ _ _).trans ((trunc_trip _).trans (congrArg (fun x => truncf .bf16 (x : FVec F S64x4096 .f32) bitsLt_bf16_f32) ?_))
  exact (congrArg (fun x => shapeCast S64x4096 x shapeCasts_S1x64x4096_S64x4096) ((slot_load_other _ _ _ _ _ (by decide) _ _).trans (slot_load_other _ _ _ _ _ (by decide) _ _))).trans (slot_load _ _ _ _ _)

/-- Strip 1: copied into its slot, rounded, stored, and read back, it is the strip rounded. -/
theorem trip1 (fi : iS.view.ty.Contents (Elt F)) (dA dB dC : Vec F S64x4096 .f32) (u : uS.view.ty.Contents (Elt F))
    (L : List (View.Piece (Elt F) S3x64x4096 .bf16)) :
    View.read (Elt F) (slotO uS ![1, 0, 0] inb_S3x64x4096_S1x64x4096_1_0_0).view (uS.view.writes (Elt F) u
      (⟨Rect.unit (s := S3x64x4096) ![1, 0, 0] S1x64x4096.size inb_S3x64x4096_S1x64x4096_1_0_0,
        k0_pay28 (iS.view.readAt (Elt F) (Rect.unit (s := S3x64x4096) ![1, 0, 0] S1x64x4096.size inb_S3x64x4096_S1x64x4096_1_0_0).toLoadRect
          (View.write (Elt F) (slotO iS ![2, 0, 0] inb_S3x64x4096_S1x64x4096_2_0_0).view (View.write (Elt F) (slotO iS ![1, 0, 0] inb_S3x64x4096_S1x64x4096_1_0_0).view
            (View.write (Elt F) (slotO iS ![0, 0, 0] inb_S3x64x4096_S1x64x4096_0_0_0).view fi dA Finset.univ) dB Finset.univ) dC Finset.univ))⟩ :: L))
      = (truncf .bf16 (dB : FVec F S64x4096 .f32) bitsLt_bf16_f32 : FVec F S64x4096 .bf16) := by
  refine (slot_read _ _ _ _ _ _).trans ((trunc_trip _).trans (congrArg (fun x => truncf .bf16 (x : FVec F S64x4096 .f32) bitsLt_bf16_f32) ?_))
  exact (congrArg (fun x => shapeCast S64x4096 x shapeCasts_S1x64x4096_S64x4096) (slot_load_other _ _ _ _ _ (by decide) _ _)).trans (slot_load _ _ _ _ _)

/-- Strip 2: copied into its slot, rounded, stored, and read back, it is the strip rounded. -/
theorem trip2 (fi : iS.view.ty.Contents (Elt F)) (dA dB dC : Vec F S64x4096 .f32) (u : uS.view.ty.Contents (Elt F))
    (L : List (View.Piece (Elt F) S3x64x4096 .bf16)) :
    View.read (Elt F) (slotO uS ![2, 0, 0] inb_S3x64x4096_S1x64x4096_2_0_0).view (uS.view.writes (Elt F) u
      (⟨Rect.unit (s := S3x64x4096) ![2, 0, 0] S1x64x4096.size inb_S3x64x4096_S1x64x4096_2_0_0,
        k0_pay1 (iS.view.readAt (Elt F) (Rect.unit (s := S3x64x4096) ![2, 0, 0] S1x64x4096.size inb_S3x64x4096_S1x64x4096_2_0_0).toLoadRect
          (View.write (Elt F) (slotO iS ![2, 0, 0] inb_S3x64x4096_S1x64x4096_2_0_0).view (View.write (Elt F) (slotO iS ![1, 0, 0] inb_S3x64x4096_S1x64x4096_1_0_0).view
            (View.write (Elt F) (slotO iS ![0, 0, 0] inb_S3x64x4096_S1x64x4096_0_0_0).view fi dA Finset.univ) dB Finset.univ) dC Finset.univ))⟩ :: L))
      = (truncf .bf16 (dC : FVec F S64x4096 .f32) bitsLt_bf16_f32 : FVec F S64x4096 .bf16) := by
  refine (slot_read _ _ _ _ _ _).trans ((trunc_trip _).trans (congrArg (fun x => truncf .bf16 (x : FVec F S64x4096 .f32) bitsLt_bf16_f32) ?_))
  exact slot_load _ _ _ _ _

/-! ## Ownership in flight -/

/-- A strip on its way out of a slot: it gives back the strip's rows, written, and the slot. -/
abbrev flightO (c : Dev nD) (d : Fin 20) (M : Memref sig .tc .hbm S4096x4096 .bf16) (T : Memref sig .tc .vmem S64x4096 .bf16) (o : Fin 2 → ℕ)
    (h : ∀ a, o a + S64x4096.size a ≤ S4096x4096.size a) (g : HbBuf (F := F) c M) (u : HbBuf (F := F) c T) : sProp 𝕄 :=
  Transfers.Flight (countersEmb (U := Pipeline.UD sig nD τ)) (c : Thread nD τ) (SemLoc.dma d) () 16384
    iprop((M.view.loc (c : Thread nD τ) ↦[(rowsO M o h).view.set]{fullShare} g) ∗ (T.view.loc (c : Thread nD τ) ↦[T.view.set]{fullShare} u))

/-- The rest of the array beside the strip in flight. -/
abbrev restO (c : Dev nD) (M : Memref sig .tc .hbm S4096x4096 .bf16) (o : Fin 2 → ℕ) (h : ∀ a, o a + S64x4096.size a ≤ S4096x4096.size a)
    (g : HbBuf (F := F) c M) : sProp 𝕄 :=
  M.view.loc (c : Thread nD τ) ↦[Finset.univ \ (rowsO M o h).view.set]{fullShare} g

end Cert.KernelIdeal.Attn

end
-- ==== Proof.AttnIdeal.Run.lean ====
/-
  One grid step of the attention kernel, run from what it holds to what it leaves, in the four cases of the grid:
  the first step, a later step that refills the panels, one that keeps them, and the last.
-/
module

public import proofs.«01_k».proof.Proof.AttnIdeal.Block
public import proofs.«01_k».proof.Proof.Gen.KernelIdeal.Frame
public import proofs.«01_k».proof.Proof.Gen.KernelIdeal.Skeleton
public import Idealize.ShloMosaic.Lib.Ring
public import Idealize.ShloMosaic.Lib.Tactic
public import Idealize.ShloMosaic.Lib.WholeRead
public import Idealize.ShloMosaic.Lib.Pipeline.FrameBody

@[expose] public section

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The first grid step: nothing is in flight yet; the panels are filled, three strips start out. -/
theorem run_first (c : Dev nD) (i : grid0.Coords)
    (arg3 : Memref sig .tc .vmem S1024x512 .bf16) (harg3 : arg3.IsWhole)
    (arg4 : Memref sig .tc .vmem S2048x128 .bf16) (harg4 : arg4.IsWhole)
    (arg5 : Memref sig .tc .vmem S2048x128 .bf16) (harg5 : arg5.IsWhole)
    (arg6 : Memref sig .tc .vmem S256x128 .bf16) (harg6 : arg6.IsWhole)
    (arg7 : Memref sig .tc .vmem S256x128 .bf16) (harg7 : arg7.IsWhole)
    (arg8 : Memref sig .tc .vmem S1024x512 .bf16) (harg8 : arg8.IsWhole)
    (arg12 : Memref sig .tc .vmem S1024x512 .bf16) (harg12 : arg12.IsWhole)
    (h1 : Scalar.cmpi .ne (Scalar.extui (Scalar.cmpi .eq (BitVec.ofNat 32 (i 2).val) 0#32)) 0#32 = 1#1)
    (h2 : ¬ (k0_cond2 i = 1#1)) (h3 : ¬ (k0_cond3 i = 1#1)) (h4 : ¬ (k0_cond4 i = 1#1)) (h5 : ¬ (k0_cond5 i = 1#1)) (h6 : ¬ (k0_cond6 i = 1#1)) (h7 : ¬ (k0_cond7 i = 1#1))
    (x3 : Vec F S1024x512 .bf16) (x4 x5 : Vec F S2048x128 .bf16) (x6 x7 : Vec F S256x128 .bf16) (x8 : Vec F S1024x512 .bf16)
    (fA : HbBuf (F := F) c hA) (fB : HbBuf (F := F) c hB) (fC : HbBuf (F := F) c hC)
    (gA : HbBuf (F := F) c oA) (gB : HbBuf (F := F) c oB) (gC : HbBuf (F := F) c oC)
    (fk : HbBuf (F := F) c kS) (fv : HbBuf (F := F) c vS) (fi : HbBuf (F := F) c iS) (fu : HbBuf (F := F) c uS)
    (W : Waits sig Unit) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
          ∗ (∃ d, owns (c : Thread nD τ) arg12 fullShare d)
          ∗ hbPt c hA fA ∗ hbPt c hB fB ∗ hbPt c hC fC ∗ hbPt c oA gA ∗ hbPt c oB gB ∗ hbPt c oC gC
          ∗ hbPt c kS fk ∗ hbPt c vS fv ∗ hbPt c iS fi ∗ hbPt c uS fu ∗ semVal ((c : Thread nD τ), SemLoc.dma 14) 0 ∗ semVal ((c : Thread nD τ), SemLoc.dma 15) 0 ∗ semVal ((c : Thread nD τ), SemLoc.dma 16) 0
          ∗ semVal ((c : Thread nD τ), SemLoc.dma 17) 0 ∗ semVal ((c : Thread nD τ), SemLoc.dma 18) 0 ∗ semVal ((c : Thread nD τ), SemLoc.dma 19) 0
          ∗ owes (c : Thread nD τ) 0 W)
      ⊢ wp frame (wpE (defs₀ (F := F)) Variants.none c none) Set.univ
          (cc0_attn i arg3 harg3 arg4 harg4 arg5 harg5 arg6 harg6 arg7 harg7 arg8 harg8 hA (Memref.isWhole_whole _) hB (Memref.isWhole_whole _) hC (Memref.isWhole_whole _)
            arg12 harg12 oA (Memref.isWhole_whole _) oB (Memref.isWhole_whole _) oC (Memref.isWhole_whole _)
            kS (Memref.isWhole_whole _) vS (Memref.isWhole_whole _) iS (Memref.isWhole_whole _) uS (Memref.isWhole_whole _) cc0_scratch4 cc0_scratch5)
          (fun _ => iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
            ∗ owns (c : Thread nD τ) arg12 fullShare (outB x3 (KB x4 x6) (VB x5 x7) x8)
            ∗ hbPt c hA fA ∗ hbPt c hB fB ∗ hbPt c hC fC ∗ restO c oA (k0_off1 i) (k0_off1_inb i) (put c hA oA (k0_off1 i) (k0_off1_inb i) fA gA) ∗ restO c oB (k0_off1 i) (k0_off1_inb i) (put c hB oB (k0_off1 i) (k0_off1_inb i) fB gB) ∗ restO c oC (k0_off1 i) (k0_off1_inb i) (put c hC oC (k0_off1 i) (k0_off1_inb i) fC gC)
            ∗ (∃ K : HbBuf (F := F) c kS, ⌜kS.view.read (Elt F) K = KB x4 x6⌝ ∗ hbPt c kS K)
            ∗ (∃ V : HbBuf (F := F) c vS, ⌜vS.view.read (Elt F) V = VB x5 x7⌝ ∗ hbPt c vS V)
            ∗ (∃ I : HbBuf (F := F) c iS, hbPt c iS I) ∗ semVal ((c : Thread nD τ), SemLoc.dma 14) 0 ∗ semVal ((c : Thread nD τ), SemLoc.dma 15) 0 ∗ semVal ((c : Thread nD τ), SemLoc.dma 16) 0
            ∗ (∃ u : HbBuf (F := F) c uS, flightO c 17 oA (slotO uS ![0, 0, 0] inb_S3x64x4096_S1x64x4096_0_0_0) (k0_off1 i) (k0_off1_inb i) (put c hA oA (k0_off1 i) (k0_off1_inb i) fA gA) u) ∗ (∃ u : HbBuf (F := F) c uS, flightO c 18 oB (slotO uS ![1, 0, 0] inb_S3x64x4096_S1x64x4096_1_0_0) (k0_off1 i) (k0_off1_inb i) (put c hB oB (k0_off1 i) (k0_off1_inb i) fB gB) u) ∗ (∃ u : HbBuf (F := F) c uS, flightO c 19 oC (slotO uS ![2, 0, 0] inb_S3x64x4096_S1x64x4096_2_0_0) (k0_off1 i) (k0_off1_inb i) (put c hC oC (k0_off1 i) (k0_off1_inb i) fC gC) u)
            ∗ (∃ W' : Waits sig Unit, owes (c : Thread nD τ) 0 W'))) := by
  simp only [cc0_attn_eq_skeleton]; unfold cc0_attn_skel
  unfold owns
  iintro ⟨⟨%f3, %e3, H3⟩, ⟨%f4, %e4, H4⟩, ⟨%f5, %e5, H5⟩, ⟨%f6, %e6, H6⟩, ⟨%f7, %e7, H7⟩, ⟨%f8, %e8, H8⟩, ⟨%d12, %f12, -, H12⟩, HA, HB, HC, GA, GB, GC, HK, HV, HI, HU, S0, S1, S2, T0, T1, T2, HW⟩
  subst e3; subst e4; subst e5; subst e6; subst e7; subst e8
  set_option sl_exec.dmaWindow true in
  set_option sl_exec.dmaWindowLent true in
  set_option sl_exec.rejoinStated true in
  set_option sl_exec.resultNames true in
  sl_exec (disch := assumption)
  sl_step
  have eA : run_first.sl.GA_w3 c i fA fB fC gA fi fu = put c hA oA (k0_off1 i) (k0_off1_inb i) fA gA :=
    congrArg (fun p => View.write (Elt F) (rowsO oA (k0_off1 i) (k0_off1_inb i)).view gA p Finset.univ) (trip0 fi (View.read (Elt F) (rowsO hA (k0_off1 i) (k0_off1_inb i)).view fA) (View.read (Elt F) (rowsO hB (k0_off1 i) (k0_off1_inb i)).view fB) (View.read (Elt F) (rowsO hC (k0_off1 i) (k0_off1_inb i)).view fC) fu [])
  have eB : run_first.sl.GB_w4 c i fA fB fC gB fi fu = put c hB oB (k0_off1 i) (k0_off1_inb i) fB gB :=
    congrArg (fun p => View.write (Elt F) (rowsO oB (k0_off1 i) (k0_off1_inb i)).view gB p Finset.univ) (trip1 fi (View.read (Elt F) (rowsO hA (k0_off1 i) (k0_off1_inb i)).view fA) (View.read (Elt F) (rowsO hB (k0_off1 i) (k0_off1_inb i)).view fB) (View.read (Elt F) (rowsO hC (k0_off1 i) (k0_off1_inb i)).view fC) fu (run_first.sl.HU_1 c i fA fB fC fi))
  have eC : run_first.sl.GC_w5 c i fA fB fC gC fi fu = put c hC oC (k0_off1 i) (k0_off1_inb i) fC gC :=
    congrArg (fun p => View.write (Elt F) (rowsO oC (k0_off1 i) (k0_off1_inb i)).view gC p Finset.univ) (trip2 fi (View.read (Elt F) (rowsO hA (k0_off1 i) (k0_off1_inb i)).view fA) (View.read (Elt F) (rowsO hB (k0_off1 i) (k0_off1_inb i)).view fB) (View.read (Elt F) (rowsO hC (k0_off1 i) (k0_off1_inb i)).view fC) fu (run_first.sl.HU_2 c i fA fB fC fi))
  rw [eA, eB, eC]
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H12]
  · iexists _; isplitr
    swap; · iexact H12
    ipureintro; exact out_even arg12 f12 (arg3.view.read (Elt F) f3) (arg8.view.read (Elt F) f8) (arg4.view.read (Elt F) f4) (arg5.view.read (Elt F) f5) (arg6.view.read (Elt F) f6) (arg7.view.read (Elt F) f7)
  isplitl [HA]
  · iexact HA
  isplitl [HB]
  · iexact HB
  isplitl [HC]
  · iexact HC
  isplitl [GA]
  · iexact GA
  isplitl [GB]
  · iexact GB
  isplitl [GC]
  · iexact GC
  isplitl [HK]
  · iexists _; isplitr
    swap; · iexact HK
    ipureintro; exact View.read_writes_eq_canon _ _ _ (KL_cover (arg4.view.read (Elt F) f4) (arg6.view.read (Elt F) f6))
  isplitl [HV]
  · iexists _; isplitr
    swap; · iexact HV
    ipureintro; exact View.read_writes_eq_canon _ _ _ (VL_cover (arg5.view.read (Elt F) f5) (arg7.view.read (Elt F) f7))
  isplitl [HI]
  · iexists _; iexact HI
  isplitl [S0]
  · iexact S0
  isplitl [S1]
  · iexact S1
  isplitl [S2]
  · iexact S2
  isplitl [T0]
  · iexists _; iexact T0
  isplitl [T1]
  · iexists _; iexact T1
  isplitl [T2]
  · iexists _; iexact T2
  iexists _; iexact HW

set_option maxHeartbeats 1000000 in
/-- A later step at the start of a head group: the panels are filled, three strips come home, three start out. -/
theorem run_mid_even (c : Dev nD) (i : grid0.Coords)
    (arg3 : Memref sig .tc .vmem S1024x512 .bf16) (harg3 : arg3.IsWhole)
    (arg4 : Memref sig .tc .vmem S2048x128 .bf16) (harg4 : arg4.IsWhole)
    (arg5 : Memref sig .tc .vmem S2048x128 .bf16) (harg5 : arg5.IsWhole)
    (arg6 : Memref sig .tc .vmem S256x128 .bf16) (harg6 : arg6.IsWhole)
    (arg7 : Memref sig .tc .vmem S256x128 .bf16) (harg7 : arg7.IsWhole)
    (arg8 : Memref sig .tc .vmem S1024x512 .bf16) (harg8 : arg8.IsWhole)
    (arg12 : Memref sig .tc .vmem S1024x512 .bf16) (harg12 : arg12.IsWhole)
    (h1 : Scalar.cmpi .ne (Scalar.extui (Scalar.cmpi .eq (BitVec.ofNat 32 (i 2).val) 0#32)) 0#32 = 1#1)
    (h2 : k0_cond2 i = 1#1) (h3 : ¬ (k0_cond3 i = 1#1)) (h4 : k0_cond4 i = 1#1) (h5 : ¬ (k0_cond5 i = 1#1)) (h6 : k0_cond6 i = 1#1) (h7 : ¬ (k0_cond7 i = 1#1))
    (x3 : Vec F S1024x512 .bf16) (x4 x5 : Vec F S2048x128 .bf16) (x6 x7 : Vec F S256x128 .bf16) (x8 : Vec F S1024x512 .bf16)
    (fA : HbBuf (F := F) c hA) (fB : HbBuf (F := F) c hB) (fC : HbBuf (F := F) c hC)
    (gA : HbBuf (F := F) c oA) (gB : HbBuf (F := F) c oB) (gC : HbBuf (F := F) c oC)
    (fk : HbBuf (F := F) c kS) (fv : HbBuf (F := F) c vS) (fi : HbBuf (F := F) c iS) (fu0 fu1 fu2 : HbBuf (F := F) c uS)
    (W : Waits sig Unit) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
          ∗ (∃ d, owns (c : Thread nD τ) arg12 fullShare d)
          ∗ hbPt c hA fA ∗ hbPt c hB fB ∗ hbPt c hC fC ∗ restO c oA (k0_off2 i) (k0_off2_inb i h2) gA ∗ restO c oB (k0_off4 i) (k0_off4_inb i h4) gB ∗ restO c oC (k0_off6 i) (k0_off6_inb i h6) gC
          ∗ hbPt c kS fk ∗ hbPt c vS fv ∗ hbPt c iS fi ∗ semVal ((c : Thread nD τ), SemLoc.dma 14) 0 ∗ semVal ((c : Thread nD τ), SemLoc.dma 15) 0 ∗ semVal ((c : Thread nD τ), SemLoc.dma 16) 0
          ∗ flightO c 17 oA (slotO uS ![0, 0, 0] inb_S3x64x4096_S1x64x4096_0_0_0) (k0_off2 i) (k0_off2_inb i h2) gA fu0 ∗ flightO c 18 oB (slotO uS ![1, 0, 0] inb_S3x64x4096_S1x64x4096_1_0_0) (k0_off4 i) (k0_off4_inb i h4) gB fu1 ∗ flightO c 19 oC (slotO uS ![2, 0, 0] inb_S3x64x4096_S1x64x4096_2_0_0) (k0_off6 i) (k0_off6_inb i h6) gC fu2
          ∗ owes (c : Thread nD τ) 0 W)
      ⊢ wp frame (wpE (defs₀ (F := F)) Variants.none c none) Set.univ
          (cc0_attn i arg3 harg3 arg4 harg4 arg5 harg5 arg6 harg6 arg7 harg7 arg8 harg8 hA (Memref.isWhole_whole _) hB (Memref.isWhole_whole _) hC (Memref.isWhole_whole _)
            arg12 harg12 oA (Memref.isWhole_whole _) oB (Memref.isWhole_whole _) oC (Memref.isWhole_whole _)
            kS (Memref.isWhole_whole _) vS (Memref.isWhole_whole _) iS (Memref.isWhole_whole _) uS (Memref.isWhole_whole _) cc0_scratch4 cc0_scratch5)
          (fun _ => iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
            ∗ owns (c : Thread nD τ) arg12 fullShare (outB x3 (KB x4 x6) (VB x5 x7) x8)
            ∗ hbPt c hA fA ∗ hbPt c hB fB ∗ hbPt c hC fC ∗ restO c oA (k0_off1 i) (k0_off1_inb i) (put c hA oA (k0_off1 i) (k0_off1_inb i) fA gA) ∗ restO c oB (k0_off1 i) (k0_off1_inb i) (put c hB oB (k0_off1 i) (k0_off1_inb i) fB gB) ∗ restO c oC (k0_off1 i) (k0_off1_inb i) (put c hC oC (k0_off1 i) (k0_off1_inb i) fC gC)
            ∗ (∃ K : HbBuf (F := F) c kS, ⌜kS.view.read (Elt F) K = KB x4 x6⌝ ∗ hbPt c kS K)
            ∗ (∃ V : HbBuf (F := F) c vS, ⌜vS.view.read (Elt F) V = VB x5 x7⌝ ∗ hbPt c vS V)
            ∗ (∃ I : HbBuf (F := F) c iS, hbPt c iS I) ∗ semVal ((c : Thread nD τ), SemLoc.dma 14) 0 ∗ semVal ((c : Thread nD τ), SemLoc.dma 15) 0 ∗ semVal ((c : Thread nD τ), SemLoc.dma 16) 0
            ∗ (∃ u : HbBuf (F := F) c uS, flightO c 17 oA (slotO uS ![0, 0, 0] inb_S3x64x4096_S1x64x4096_0_0_0) (k0_off1 i) (k0_off1_inb i) (put c hA oA (k0_off1 i) (k0_off1_inb i) fA gA) u) ∗ (∃ u : HbBuf (F := F) c uS, flightO c 18 oB (slotO uS ![1, 0, 0] inb_S3x64x4096_S1x64x4096_1_0_0) (k0_off1 i) (k0_off1_inb i) (put c hB oB (k0_off1 i) (k0_off1_inb i) fB gB) u) ∗ (∃ u : HbBuf (F := F) c uS, flightO c 19 oC (slotO uS ![2, 0, 0] inb_S3x64x4096_S1x64x4096_2_0_0) (k0_off1 i) (k0_off1_inb i) (put c hC oC (k0_off1 i) (k0_off1_inb i) fC gC) u)
            ∗ (∃ W' : Waits sig Unit, owes (c : Thread nD τ) 0 W'))) := by
  simp only [cc0_attn_eq_skeleton]; unfold cc0_attn_skel
  unfold owns
  iintro ⟨⟨%f3, %e3, H3⟩, ⟨%f4, %e4, H4⟩, ⟨%f5, %e5, H5⟩, ⟨%f6, %e6, H6⟩, ⟨%f7, %e7, H7⟩, ⟨%f8, %e8, H8⟩, ⟨%d12, %f12, -, H12⟩, HA, HB, HC, GA, GB, GC, HK, HV, HI, S0, S1, S2, T0, T1, T2, HW⟩
  subst e3; subst e4; subst e5; subst e6; subst e7; subst e8
  set_option sl_exec.dmaWindow true in
  set_option sl_exec.dmaWindowLent true in
  set_option sl_exec.rejoinStated true in
  set_option sl_exec.resultNames true in
  sl_exec (disch := assumption)
  sl_step
  have eA : run_mid_even.sl.GA_w3 c i fA fB fC gA fi fu0 = put c hA oA (k0_off1 i) (k0_off1_inb i) fA gA :=
    congrArg (fun p => View.write (Elt F) (rowsO oA (k0_off1 i) (k0_off1_inb i)).view gA p Finset.univ) (trip0 fi (View.read (Elt F) (rowsO hA (k0_off1 i) (k0_off1_inb i)).view fA) (View.read (Elt F) (rowsO hB (k0_off1 i) (k0_off1_inb i)).view fB) (View.read (Elt F) (rowsO hC (k0_off1 i) (k0_off1_inb i)).view fC) fu0 [])
  have eB : run_mid_even.sl.GB_w4 c i fA fB fC gB fi fu1 = put c hB oB (k0_off1 i) (k0_off1_inb i) fB gB :=
    congrArg (fun p => View.write (Elt F) (rowsO oB (k0_off1 i) (k0_off1_inb i)).view gB p Finset.univ) (trip1 fi (View.read (Elt F) (rowsO hA (k0_off1 i) (k0_off1_inb i)).view fA) (View.read (Elt F) (rowsO hB (k0_off1 i) (k0_off1_inb i)).view fB) (View.read (Elt F) (rowsO hC (k0_off1 i) (k0_off1_inb i)).view fC) fu1 [])
  have eC : run_mid_even.sl.GC_w5 c i fA fB fC gC fi fu2 = put c hC oC (k0_off1 i) (k0_off1_inb i) fC gC :=
    congrArg (fun p => View.write (Elt F) (rowsO oC (k0_off1 i) (k0_off1_inb i)).view gC p Finset.univ) (trip2 fi (View.read (Elt F) (rowsO hA (k0_off1 i) (k0_off1_inb i)).view fA) (View.read (Elt F) (rowsO hB (k0_off1 i) (k0_off1_inb i)).view fB) (View.read (Elt F) (rowsO hC (k0_off1 i) (k0_off1_inb i)).view fC) fu2 [])
  rw [eA, eB, eC]
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H12]
  · iexists _; isplitr
    swap; · iexact H12
    ipureintro; exact out_even arg12 f12 (arg3.view.read (Elt F) f3) (arg8.view.read (Elt F) f8) (arg4.view.read (Elt F) f4) (arg5.view.read (Elt F) f5) (arg6.view.read (Elt F) f6) (arg7.view.read (Elt F) f7)
  isplitl [HA]
  · iexact HA
  isplitl [HB]
  · iexact HB
  isplitl [HC]
  · iexact HC
  isplitl [GA]
  · iexact GA
  isplitl [GB]
  · iexact GB
  isplitl [GC]
  · iexact GC
  isplitl [HK]
  · iexists _; isplitr
    swap; · iexact HK
    ipureintro; exact View.read_writes_eq_canon _ _ _ (KL_cover (arg4.view.read (Elt F) f4) (arg6.view.read (Elt F) f6))
  isplitl [HV]
  · iexists _; isplitr
    swap; · iexact HV
    ipureintro; exact View.read_writes_eq_canon _ _ _ (VL_cover (arg5.view.read (Elt F) f5) (arg7.view.read (Elt F) f7))
  isplitl [HI]
  · iexists _; iexact HI
  isplitl [S0]
  · iexact S0
  isplitl [S1]
  · iexact S1
  isplitl [S2]
  · iexact S2
  isplitl [T0]
  · iexists _; iexact T0
  isplitl [T1]
  · iexists _; iexact T1
  isplitl [T2]
  · iexists _; iexact T2
  iexists _; iexact HW

set_option maxHeartbeats 1000000 in
/-- A later step inside a head group: the panels stay, three strips come home, three start out. -/
theorem run_mid_odd (c : Dev nD) (i : grid0.Coords)
    (arg3 : Memref sig .tc .vmem S1024x512 .bf16) (harg3 : arg3.IsWhole)
    (arg4 : Memref sig .tc .vmem S2048x128 .bf16) (harg4 : arg4.IsWhole)
    (arg5 : Memref sig .tc .vmem S2048x128 .bf16) (harg5 : arg5.IsWhole)
    (arg6 : Memref sig .tc .vmem S256x128 .bf16) (harg6 : arg6.IsWhole)
    (arg7 : Memref sig .tc .vmem S256x128 .bf16) (harg7 : arg7.IsWhole)
    (arg8 : Memref sig .tc .vmem S1024x512 .bf16) (harg8 : arg8.IsWhole)
    (arg12 : Memref sig .tc .vmem S1024x512 .bf16) (harg12 : arg12.IsWhole)
    (h1 : ¬ (Scalar.cmpi .ne (Scalar.extui (Scalar.cmpi .eq (BitVec.ofNat 32 (i 2).val) 0#32)) 0#32 = 1#1))
    (h2 : k0_cond2 i = 1#1) (h3 : ¬ (k0_cond3 i = 1#1)) (h4 : k0_cond4 i = 1#1) (h5 : ¬ (k0_cond5 i = 1#1)) (h6 : k0_cond6 i = 1#1) (h7 : ¬ (k0_cond7 i = 1#1))
    (x3 : Vec F S1024x512 .bf16) (x4 x5 : Vec F S2048x128 .bf16) (x6 x7 : Vec F S256x128 .bf16) (x8 : Vec F S1024x512 .bf16)
    (fA : HbBuf (F := F) c hA) (fB : HbBuf (F := F) c hB) (fC : HbBuf (F := F) c hC)
    (gA : HbBuf (F := F) c oA) (gB : HbBuf (F := F) c oB) (gC : HbBuf (F := F) c oC)
    (fk : HbBuf (F := F) c kS) (fv : HbBuf (F := F) c vS) (fi : HbBuf (F := F) c iS) (fu0 fu1 fu2 : HbBuf (F := F) c uS)
    (hk : kS.view.read (Elt F) fk = KB x4 x6) (hv : vS.view.read (Elt F) fv = VB x5 x7)
    (W : Waits sig Unit) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
          ∗ (∃ d, owns (c : Thread nD τ) arg12 fullShare d)
          ∗ hbPt c hA fA ∗ hbPt c hB fB ∗ hbPt c hC fC ∗ restO c oA (k0_off2 i) (k0_off2_inb i h2) gA ∗ restO c oB (k0_off4 i) (k0_off4_inb i h4) gB ∗ restO c oC (k0_off6 i) (k0_off6_inb i h6) gC
          ∗ hbPt c kS fk ∗ hbPt c vS fv ∗ hbPt c iS fi ∗ semVal ((c : Thread nD τ), SemLoc.dma 14) 0 ∗ semVal ((c : Thread nD τ), SemLoc.dma 15) 0 ∗ semVal ((c : Thread nD τ), SemLoc.dma 16) 0
          ∗ flightO c 17 oA (slotO uS ![0, 0, 0] inb_S3x64x4096_S1x64x4096_0_0_0) (k0_off2 i) (k0_off2_inb i h2) gA fu0 ∗ flightO c 18 oB (slotO uS ![1, 0, 0] inb_S3x64x4096_S1x64x4096_1_0_0) (k0_off4 i) (k0_off4_inb i h4) gB fu1 ∗ flightO c 19 oC (slotO uS ![2, 0, 0] inb_S3x64x4096_S1x64x4096_2_0_0) (k0_off6 i) (k0_off6_inb i h6) gC fu2
          ∗ owes (c : Thread nD τ) 0 W)
      ⊢ wp frame (wpE (defs₀ (F := F)) Variants.none c none) Set.univ
          (cc0_attn i arg3 harg3 arg4 harg4 arg5 harg5 arg6 harg6 arg7 harg7 arg8 harg8 hA (Memref.isWhole_whole _) hB (Memref.isWhole_whole _) hC (Memref.isWhole_whole _)
            arg12 harg12 oA (Memref.isWhole_whole _) oB (Memref.isWhole_whole _) oC (Memref.isWhole_whole _)
            kS (Memref.isWhole_whole _) vS (Memref.isWhole_whole _) iS (Memref.isWhole_whole _) uS (Memref.isWhole_whole _) cc0_scratch4 cc0_scratch5)
          (fun _ => iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
            ∗ owns (c : Thread nD τ) arg12 fullShare (outB x3 (KB x4 x6) (VB x5 x7) x8)
            ∗ hbPt c hA fA ∗ hbPt c hB fB ∗ hbPt c hC fC ∗ restO c oA (k0_off1 i) (k0_off1_inb i) (put c hA oA (k0_off1 i) (k0_off1_inb i) fA gA) ∗ restO c oB (k0_off1 i) (k0_off1_inb i) (put c hB oB (k0_off1 i) (k0_off1_inb i) fB gB) ∗ restO c oC (k0_off1 i) (k0_off1_inb i) (put c hC oC (k0_off1 i) (k0_off1_inb i) fC gC)
            ∗ (∃ K : HbBuf (F := F) c kS, ⌜kS.view.read (Elt F) K = KB x4 x6⌝ ∗ hbPt c kS K)
            ∗ (∃ V : HbBuf (F := F) c vS, ⌜vS.view.read (Elt F) V = VB x5 x7⌝ ∗ hbPt c vS V)
            ∗ (∃ I : HbBuf (F := F) c iS, hbPt c iS I) ∗ semVal ((c : Thread nD τ), SemLoc.dma 14) 0 ∗ semVal ((c : Thread nD τ), SemLoc.dma 15) 0 ∗ semVal ((c : Thread nD τ), SemLoc.dma 16) 0
            ∗ (∃ u : HbBuf (F := F) c uS, flightO c 17 oA (slotO uS ![0, 0, 0] inb_S3x64x4096_S1x64x4096_0_0_0) (k0_off1 i) (k0_off1_inb i) (put c hA oA (k0_off1 i) (k0_off1_inb i) fA gA) u) ∗ (∃ u : HbBuf (F := F) c uS, flightO c 18 oB (slotO uS ![1, 0, 0] inb_S3x64x4096_S1x64x4096_1_0_0) (k0_off1 i) (k0_off1_inb i) (put c hB oB (k0_off1 i) (k0_off1_inb i) fB gB) u) ∗ (∃ u : HbBuf (F := F) c uS, flightO c 19 oC (slotO uS ![2, 0, 0] inb_S3x64x4096_S1x64x4096_2_0_0) (k0_off1 i) (k0_off1_inb i) (put c hC oC (k0_off1 i) (k0_off1_inb i) fC gC) u)
            ∗ (∃ W' : Waits sig Unit, owes (c : Thread nD τ) 0 W'))) := by
  simp only [cc0_attn_eq_skeleton]; unfold cc0_attn_skel
  unfold owns
  iintro ⟨⟨%f3, %e3, H3⟩, H4, H5, H6, H7, ⟨%f8, %e8, H8⟩, ⟨%d12, %f12, -, H12⟩, HA, HB, HC, GA, GB, GC, HK, HV, HI, S0, S1, S2, T0, T1, T2, HW⟩
  subst e3; subst e8
  set_option sl_exec.dmaWindow true in
  set_option sl_exec.dmaWindowLent true in
  set_option sl_exec.rejoinStated true in
  set_option sl_exec.resultNames true in
  sl_exec (disch := assumption)
  sl_step
  have eA : run_mid_odd.sl.GA_w3 c i fA fB fC gA fi fu0 = put c hA oA (k0_off1 i) (k0_off1_inb i) fA gA :=
    congrArg (fun p => View.write (Elt F) (rowsO oA (k0_off1 i) (k0_off1_inb i)).view gA p Finset.univ) (trip0 fi (View.read (Elt F) (rowsO hA (k0_off1 i) (k0_off1_inb i)).view fA) (View.read (Elt F) (rowsO hB (k0_off1 i) (k0_off1_inb i)).view fB) (View.read (Elt F) (rowsO hC (k0_off1 i) (k0_off1_inb i)).view fC) fu0 [])
  have eB : run_mid_odd.sl.GB_w4 c i fA fB fC gB fi fu1 = put c hB oB (k0_off1 i) (k0_off1_inb i) fB gB :=
    congrArg (fun p => View.write (Elt F) (rowsO oB (k0_off1 i) (k0_off1_inb i)).view gB p Finset.univ) (trip1 fi (View.read (Elt F) (rowsO hA (k0_off1 i) (k0_off1_inb i)).view fA) (View.read (Elt F) (rowsO hB (k0_off1 i) (k0_off1_inb i)).view fB) (View.read (Elt F) (rowsO hC (k0_off1 i) (k0_off1_inb i)).view fC) fu1 [])
  have eC : run_mid_odd.sl.GC_w5 c i fA fB fC gC fi fu2 = put c hC oC (k0_off1 i) (k0_off1_inb i) fC gC :=
    congrArg (fun p => View.write (Elt F) (rowsO oC (k0_off1 i) (k0_off1_inb i)).view gC p Finset.univ) (trip2 fi (View.read (Elt F) (rowsO hA (k0_off1 i) (k0_off1_inb i)).view fA) (View.read (Elt F) (rowsO hB (k0_off1 i) (k0_off1_inb i)).view fB) (View.read (Elt F) (rowsO hC (k0_off1 i) (k0_off1_inb i)).view fC) fu2 [])
  rw [eA, eB, eC]
  isplitl [H3]
  · iexists _; isplitr
    swap; · iexact H3
    ipureintro; rfl
  isplitl [H4]
  · iexact H4
  isplitl [H5]
  · iexact H5
  isplitl [H6]
  · iexact H6
  isplitl [H7]
  · iexact H7
  isplitl [H8]
  · iexists _; isplitr
    swap; · iexact H8
    ipureintro; rfl
  isplitl [H12]
  · iexists _; isplitr
    swap; · iexact H12
    ipureintro; exact out_odd arg12 f12 (arg3.view.read (Elt F) f3) (arg8.view.read (Elt F) f8) hk hv
  isplitl [HA]
  · iexact HA
  isplitl [HB]
  · iexact HB
  isplitl [HC]
  · iexact HC
  isplitl [GA]
  · iexact GA
  isplitl [GB]
  · iexact GB
  isplitl [GC]
  · iexact GC
  isplitl [HK]
  · iexists _; isplitr
    swap; · iexact HK
    ipureintro; exact hk
  isplitl [HV]
  · iexists _; isplitr
    swap; · iexact HV
    ipureintro; exact hv
  isplitl [HI]
  · iexists _; iexact HI
  isplitl [S0]
  · iexact S0
  isplitl [S1]
  · iexact S1
  isplitl [S2]
  · iexact S2
  isplitl [T0]
  · iexists _; iexact T0
  isplitl [T1]
  · iexists _; iexact T1
  isplitl [T2]
  · iexists _; iexact T2
  iexists _; iexact HW

set_option maxHeartbeats 1000000 in
/-- The last grid step: the panels stay, and every strip comes home. -/
theorem run_last (c : Dev nD) (i : grid0.Coords)
    (arg3 : Memref sig .tc .vmem S1024x512 .bf16) (harg3 : arg3.IsWhole)
    (arg4 : Memref sig .tc .vmem S2048x128 .bf16) (harg4 : arg4.IsWhole)
    (arg5 : Memref sig .tc .vmem S2048x128 .bf16) (harg5 : arg5.IsWhole)
    (arg6 : Memref sig .tc .vmem S256x128 .bf16) (harg6 : arg6.IsWhole)
    (arg7 : Memref sig .tc .vmem S256x128 .bf16) (harg7 : arg7.IsWhole)
    (arg8 : Memref sig .tc .vmem S1024x512 .bf16) (harg8 : arg8.IsWhole)
    (arg12 : Memref sig .tc .vmem S1024x512 .bf16) (harg12 : arg12.IsWhole)
    (h1 : ¬ (Scalar.cmpi .ne (Scalar.extui (Scalar.cmpi .eq (BitVec.ofNat 32 (i 2).val) 0#32)) 0#32 = 1#1))
    (h2 : k0_cond2 i = 1#1) (h3 : k0_cond3 i = 1#1) (h4 : k0_cond4 i = 1#1) (h5 : k0_cond5 i = 1#1) (h6 : k0_cond6 i = 1#1) (h7 : k0_cond7 i = 1#1)
    (x3 : Vec F S1024x512 .bf16) (x4 x5 : Vec F S2048x128 .bf16) (x6 x7 : Vec F S256x128 .bf16) (x8 : Vec F S1024x512 .bf16)
    (fA : HbBuf (F := F) c hA) (fB : HbBuf (F := F) c hB) (fC : HbBuf (F := F) c hC)
    (gA : HbBuf (F := F) c oA) (gB : HbBuf (F := F) c oB) (gC : HbBuf (F := F) c oC)
    (fk : HbBuf (F := F) c kS) (fv : HbBuf (F := F) c vS) (fi : HbBuf (F := F) c iS) (fu0 fu1 fu2 : HbBuf (F := F) c uS)
    (hk : kS.view.read (Elt F) fk = KB x4 x6) (hv : vS.view.read (Elt F) fv = VB x5 x7)
    (W : Waits sig Unit) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
          ∗ (∃ d, owns (c : Thread nD τ) arg12 fullShare d)
          ∗ hbPt c hA fA ∗ hbPt c hB fB ∗ hbPt c hC fC ∗ restO c oA (k0_off2 i) (k0_off2_inb i h2) gA ∗ restO c oB (k0_off4 i) (k0_off4_inb i h4) gB ∗ restO c oC (k0_off6 i) (k0_off6_inb i h6) gC
          ∗ hbPt c kS fk ∗ hbPt c vS fv ∗ hbPt c iS fi ∗ semVal ((c : Thread nD τ), SemLoc.dma 14) 0 ∗ semVal ((c : Thread nD τ), SemLoc.dma 15) 0 ∗ semVal ((c : Thread nD τ), SemLoc.dma 16) 0
          ∗ flightO c 17 oA (slotO uS ![0, 0, 0] inb_S3x64x4096_S1x64x4096_0_0_0) (k0_off2 i) (k0_off2_inb i h2) gA fu0 ∗ flightO c 18 oB (slotO uS ![1, 0, 0] inb_S3x64x4096_S1x64x4096_1_0_0) (k0_off4 i) (k0_off4_inb i h4) gB fu1 ∗ flightO c 19 oC (slotO uS ![2, 0, 0] inb_S3x64x4096_S1x64x4096_2_0_0) (k0_off6 i) (k0_off6_inb i h6) gC fu2
          ∗ owes (c : Thread nD τ) 0 W)
      ⊢ wp frame (wpE (defs₀ (F := F)) Variants.none c none) Set.univ
          (cc0_attn i arg3 harg3 arg4 harg4 arg5 harg5 arg6 harg6 arg7 harg7 arg8 harg8 hA (Memref.isWhole_whole _) hB (Memref.isWhole_whole _) hC (Memref.isWhole_whole _)
            arg12 harg12 oA (Memref.isWhole_whole _) oB (Memref.isWhole_whole _) oC (Memref.isWhole_whole _)
            kS (Memref.isWhole_whole _) vS (Memref.isWhole_whole _) iS (Memref.isWhole_whole _) uS (Memref.isWhole_whole _) cc0_scratch4 cc0_scratch5)
          (fun _ => iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
            ∗ owns (c : Thread nD τ) arg12 fullShare (outB x3 (KB x4 x6) (VB x5 x7) x8)
            ∗ hbPt c hA fA ∗ hbPt c hB fB ∗ hbPt c hC fC ∗ hbPt c oA (put c hA oA (k0_off1 i) (k0_off1_inb i) fA gA) ∗ hbPt c oB (put c hB oB (k0_off1 i) (k0_off1_inb i) fB gB) ∗ hbPt c oC (put c hC oC (k0_off1 i) (k0_off1_inb i) fC gC)
            ∗ (∃ K : HbBuf (F := F) c kS, ⌜kS.view.read (Elt F) K = KB x4 x6⌝ ∗ hbPt c kS K)
            ∗ (∃ V : HbBuf (F := F) c vS, ⌜vS.view.read (Elt F) V = VB x5 x7⌝ ∗ hbPt c vS V)
            ∗ (∃ I : HbBuf (F := F) c iS, hbPt c iS I) ∗ semVal ((c : Thread nD τ), SemLoc.dma 14) 0 ∗ semVal ((c : Thread nD τ), SemLoc.dma 15) 0 ∗ semVal ((c : Thread nD τ), SemLoc.dma 16) 0
            ∗ (∃ u : HbBuf (F := F) c uS, (slotO uS ![0, 0, 0] inb_S3x64x4096_S1x64x4096_0_0_0).view.loc (c : Thread nD τ) ↦[(slotO uS ![0, 0, 0] inb_S3x64x4096_S1x64x4096_0_0_0).view.set]{fullShare} u) ∗ (∃ u : HbBuf (F := F) c uS, (slotO uS ![1, 0, 0] inb_S3x64x4096_S1x64x4096_1_0_0).view.loc (c : Thread nD τ) ↦[(slotO uS ![1, 0, 0] inb_S3x64x4096_S1x64x4096_1_0_0).view.set]{fullShare} u) ∗ (∃ u : HbBuf (F := F) c uS, (slotO uS ![2, 0, 0] inb_S3x64x4096_S1x64x4096_2_0_0).view.loc (c : Thread nD τ) ↦[(slotO uS ![2, 0, 0] inb_S3x64x4096_S1x64x4096_2_0_0).view.set]{fullShare} u) ∗ semVal ((c : Thread nD τ), SemLoc.dma 17) 0 ∗ semVal ((c : Thread nD τ), SemLoc.dma 18) 0 ∗ semVal ((c : Thread nD τ), SemLoc.dma 19) 0
            ∗ (∃ W' : Waits sig Unit, owes (c : Thread nD τ) 0 W'))) := by
  simp only [cc0_attn_eq_skeleton]; unfold cc0_attn_skel
  unfold owns
  iintro ⟨⟨%f3, %e3, H3⟩, H4, H5, H6, H7, ⟨%f8, %e8, H8⟩, ⟨%d12, %f12, -, H12⟩, HA, HB, HC, GA, GB, GC, HK, HV, HI, S0, S1, S2, T0, T1, T2, HW⟩
  subst e3; subst e8
  set_option sl_exec.dmaWindow true in
  set_option sl_exec.dmaWindowLent true in
  set_option sl_exec.rejoinStated true in
  set_option sl_exec.resultNames true in
  sl_exec (disch := assumption)
  sl_step
  have eA : run_last.sl.GA_w3 c i fA fB fC gA fi fu0 = put c hA oA (k0_off1 i) (k0_off1_inb i) fA gA :=
    congrArg (fun p => View.write (Elt F) (rowsO oA (k0_off1 i) (k0_off1_inb i)).view gA p Finset.univ) (trip0 fi (View.read (Elt F) (rowsO hA (k0_off1 i) (k0_off1_inb i)).view fA) (View.read (Elt F) (rowsO hB (k0_off1 i) (k0_off1_inb i)).view fB) (View.read (Elt F) (rowsO hC (k0_off1 i) (k0_off1_inb i)).view fC) fu0 [])
  have eB : run_last.sl.GB_w4 c i fA fB fC gB fi fu1 = put c hB oB (k0_off1 i) (k0_off1_inb i) fB gB :=
    congrArg (fun p => View.write (Elt F) (rowsO oB (k0_off1 i) (k0_off1_inb i)).view gB p Finset.univ) (trip1 fi (View.read (Elt F) (rowsO hA (k0_off1 i) (k0_off1_inb i)).view fA) (View.read (Elt F) (rowsO hB (k0_off1 i) (k0_off1_inb i)).view fB) (View.read (Elt F) (rowsO hC (k0_off1 i) (k0_off1_inb i)).view fC) fu1 [])
  have eC : run_last.sl.GC_w5 c i fA fB fC gC fi fu2 = put c hC oC (k0_off1 i) (k0_off1_inb i) fC gC :=
    congrArg (fun p => View.write (Elt F) (rowsO oC (k0_off1 i) (k0_off1_inb i)).view gC p Finset.univ) (trip2 fi (View.read (Elt F) (rowsO hA (k0_off1 i) (k0_off1_inb i)).view fA) (View.read (Elt F) (rowsO hB (k0_off1 i) (k0_off1_inb i)).view fB) (View.read (Elt F) (rowsO hC (k0_off1 i) (k0_off1_inb i)).view fC) fu2 [])
  rw [eA, eB, eC]
  isplitl [H3]
  · iexists _; isplitr
    swap; · iexact H3
    ipureintro; rfl
  isplitl [H4]
  · iexact H4
  isplitl [H5]
  · iexact H5
  isplitl [H6]
  · iexact H6
  isplitl [H7]
  · iexact H7
  isplitl [H8]
  · iexists _; isplitr
    swap; · iexact H8
    ipureintro; rfl
  isplitl [H12]
  · iexists _; isplitr
    swap; · iexact H12
    ipureintro; exact out_odd arg12 f12 (arg3.view.read (Elt F) f3) (arg8.view.read (Elt F) f8) hk hv
  isplitl [HA]
  · iexact HA
  isplitl [HB]
  · iexact HB
  isplitl [HC]
  · iexact HC
  isplitl [GA]
  · iexact GA
  isplitl [GB]
  · iexact GB
  isplitl [GC]
  · iexact GC
  isplitl [HK]
  · iexists _; isplitr
    swap; · iexact HK
    ipureintro; exact hk
  isplitl [HV]
  · iexists _; isplitr
    swap; · iexact HV
    ipureintro; exact hv
  isplitl [HI]
  · iexists _; iexact HI
  isplitl [S0]
  · iexact S0
  isplitl [S1]
  · iexact S1
  isplitl [S2]
  · iexact S2
  isplitl [T0_src]
  · iexists _; iexact T0_src
  isplitl [T1_src]
  · iexists _; iexact T1_src
  isplitl [T2_src]
  · iexists _; iexact T2_src
  isplitl [T0]
  · iexact T0
  isplitl [T1]
  · iexact T1
  isplitl [T2]
  · iexact T2
  iexists _; iexact HW

end Cert.KernelIdeal.Attn

end
-- ==== Proof.AttnIdeal.Frame.lean ====
/-
  The attention kernel's run over its 64 grid steps: what is held between two steps (the panels between the two
  row blocks of one head group, the three weight strips on their way out, the arrays written so far), each step
  taken from that to the next, and the program's run to the arrays it leaves.
-/
module

public import proofs.«01_k».proof.Proof.AttnIdeal.Run
public import Idealize.ShloMosaic.Lib.Pipeline.FrameValue

@[expose] public section

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch's operands -/

set_option maxHeartbeats 800000 in
/-- The host's part before the call. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The weights the body reads. -/
def H0 : Finset (Ref sig .tc) := {main_v0, main_v1, main_v2}
/-- The arrays the body writes. -/
def R0 : Finset (Ref sig .tc) := {main_v3_1, main_v3_2, main_v3_3}
/-- The six transfer cells. -/
abbrev osem0 : Fin 6 → SemLoc sig := fun j => (![SemLoc.dma 14, SemLoc.dma 15, SemLoc.dma 16, SemLoc.dma 17, SemLoc.dma 18, SemLoc.dma 19] : Fin 6 → SemLoc sig) j
theorem ownSemFacts0 : Pipeline.OwnSemFacts spec0 osem0 := by decide
theorem H0_sub : H0 ⊆ Pipeline.restRefs sig spec0 := by decide
theorem R0_sub : R0 ⊆ Pipeline.restRefs sig spec0 \ H0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 14) 0 ∗ semVal ((c : Thread nD τ), SemLoc.dma 15) 0 ∗ semVal ((c : Thread nD τ), SemLoc.dma 16) 0
          ∗ semVal ((c : Thread nD τ), SemLoc.dma 17) 0 ∗ semVal ((c : Thread nD τ), SemLoc.dma 18) 0 ∗ semVal ((c : Thread nD τ), SemLoc.dma 19) 0) := by
  rw [Pipeline.ownSems0_eq_of_list c osem0 [0, 1, 2, 3, 4, 5] (by decide) (by decide)]; rfl

theorem hbmPts0_eq (c : Dev nD) :
    (bigSep H0 (fun b => ((c : Thread nD τ).loc b) ↦{fullShare} V m c b) : sProp 𝕄)
      = iprop(hbPt c hA (V m c main_v0) ∗ hbPt c hB (V m c main_v1) ∗ hbPt c hC (V m c main_v2)) := by
  rw [BI.bigSep_eq_bigSepL_of_eq [main_v0, main_v1, main_v2] (by decide) (by decide)]; rfl

theorem routed0_eq (c : Dev nD) (W : (b : Ref sig .tc) → Buf (Elt F) ((c.tc : Thread nD τ).loc b)) :
    (Pipeline.routed R0 c W : sProp 𝕄) = iprop(hbPt c oA (W main_v3_1) ∗ hbPt c oB (W main_v3_2) ∗ hbPt c oC (W main_v3_3)) := by
  unfold Pipeline.routed; rw [BI.bigSep_eq_bigSepL_of_eq [main_v3_1, main_v3_2, main_v3_3] (by decide) (by decide)]; rfl

/-! ## The arrays written, step by step -/

/-- What the output of weight A holds after `n` strips. -/
def GA (c : Dev nD) : ℕ → HbBuf (F := F) c oA
  | 0 => V m c main_v3_1
  | n + 1 => if h : n < grid0.N then put c hA oA (k0_off1 (grid0.coords ⟨n, h⟩)) (k0_off1_inb _) (V m c main_v0) (GA c n) else GA c n

theorem GA_succ (c : Dev nD) (t : Fin grid0.N) :
    GA m c (t.val + 1) = put c hA oA (k0_off1 (grid0.coords t)) (k0_off1_inb _) (V m c main_v0) (GA m c t.val) :=
  dif_pos t.isLt

/-- What the output of weight B holds after `n` strips. -/
def GB (c : Dev nD) : ℕ → HbBuf (F := F) c oB
  | 0 => V m c main_v3_2
  | n + 1 => if h : n < grid0.N then put c hB oB (k0_off1 (grid0.coords ⟨n, h⟩)) (k0_off1_inb _) (V m c main_v1) (GB c n) else GB c n

theorem GB_succ (c : Dev nD) (t : Fin grid0.N) :
    GB m c (t.val + 1) = put c hB oB (k0_off1 (grid0.coords t)) (k0_off1_inb _) (V m c main_v1) (GB m c t.val) :=
  dif_pos t.isLt

/-- What the output of weight C holds after `n` strips. -/
def GC (c : Dev nD) : ℕ → HbBuf (F := F) c oC
  | 0 => V m c main_v3_3
  | n + 1 => if h : n < grid0.N then put c hC oC (k0_off1 (grid0.coords ⟨n, h⟩)) (k0_off1_inb _) (V m c main_v2) (GC c n) else GC c n

theorem GC_succ (c : Dev nD) (t : Fin grid0.N) :
    GC m c (t.val + 1) = put c hC oC (k0_off1 (grid0.coords t)) (k0_off1_inb _) (V m c main_v2) (GC m c t.val) :=
  dif_pos t.isLt

/-! ## The outputs between two steps -/

/-- Before the first step: the arrays whole, nothing in flight. -/
def outFirst (c : Dev nD) (gA : HbBuf (F := F) c oA) (gB : HbBuf (F := F) c oB) (gC : HbBuf (F := F) c oC) : sProp 𝕄 :=
  iprop(hbPt c oA gA ∗ hbPt c oB gB ∗ hbPt c oC gC ∗ (∃ u : HbBuf (F := F) c uS, hbPt c uS u)
    ∗ semVal ((c : Thread nD τ), SemLoc.dma 17) 0 ∗ semVal ((c : Thread nD τ), SemLoc.dma 18) 0 ∗ semVal ((c : Thread nD τ), SemLoc.dma 19) 0)

/-- Between two steps: the last step's three strips in flight. -/
def outMid (c : Dev nD) (o2 o4 o6 : Fin 2 → ℕ) (h2 : ∀ a, o2 a + S64x4096.size a ≤ S4096x4096.size a) (h4 : ∀ a, o4 a + S64x4096.size a ≤ S4096x4096.size a)
    (h6 : ∀ a, o6 a + S64x4096.size a ≤ S4096x4096.size a) (gA : HbBuf (F := F) c oA) (gB : HbBuf (F := F) c oB) (gC : HbBuf (F := F) c oC) : sProp 𝕄 :=
  iprop(restO c oA o2 h2 gA ∗ restO c oB o4 h4 gB ∗ restO c oC o6 h6 gC
    ∗ (∃ u : HbBuf (F := F) c uS, flightO c 17 oA (slotO uS ![0, 0, 0] inb_S3x64x4096_S1x64x4096_0_0_0) o2 h2 gA u)
    ∗ (∃ u : HbBuf (F := F) c uS, flightO c 18 oB (slotO uS ![1, 0, 0] inb_S3x64x4096_S1x64x4096_1_0_0) o4 h4 gB u)
    ∗ (∃ u : HbBuf (F := F) c uS, flightO c 19 oC (slotO uS ![2, 0, 0] inb_S3x64x4096_S1x64x4096_2_0_0) o6 h6 gC u))

theorem outMid_congr (c : Dev nD) {o o2 o4 o6 : Fin 2 → ℕ} (e2 : o = o2) (e4 : o = o4) (e6 : o = o6) (h : ∀ a, o a + S64x4096.size a ≤ S4096x4096.size a)
    (h2 : ∀ a, o2 a + S64x4096.size a ≤ S4096x4096.size a) (h4 : ∀ a, o4 a + S64x4096.size a ≤ S4096x4096.size a)
    (h6 : ∀ a, o6 a + S64x4096.size a ≤ S4096x4096.size a) (gA : HbBuf (F := F) c oA) (gB : HbBuf (F := F) c oB) (gC : HbBuf (F := F) c oC) :
    outMid c o o o h h h gA gB gC = outMid c o2 o4 o6 h2 h4 h6 gA gB gC := by
  subst e2 e4 e6; rfl

/-- After the last step: everything has landed. -/
def outLast (c : Dev nD) (gA : HbBuf (F := F) c oA) (gB : HbBuf (F := F) c oB) (gC : HbBuf (F := F) c oC) : sProp 𝕄 :=
  iprop(hbPt c oA gA ∗ hbPt c oB gB ∗ hbPt c oC gC
    ∗ (∃ u : HbBuf (F := F) c uS, (slotO uS ![0, 0, 0] inb_S3x64x4096_S1x64x4096_0_0_0).view.loc (c : Thread nD τ) ↦[(slotO uS ![0, 0, 0] inb_S3x64x4096_S1x64x4096_0_0_0).view.set]{fullShare} u)
    ∗ (∃ u : HbBuf (F := F) c uS, (slotO uS ![1, 0, 0] inb_S3x64x4096_S1x64x4096_1_0_0).view.loc (c : Thread nD τ) ↦[(slotO uS ![1, 0, 0] inb_S3x64x4096_S1x64x4096_1_0_0).view.set]{fullShare} u)
    ∗ (∃ u : HbBuf (F := F) c uS, (slotO uS ![2, 0, 0] inb_S3x64x4096_S1x64x4096_2_0_0).view.loc (c : Thread nD τ) ↦[(slotO uS ![2, 0, 0] inb_S3x64x4096_S1x64x4096_2_0_0).view.set]{fullShare} u)
    ∗ semVal ((c : Thread nD τ), SemLoc.dma 17) 0 ∗ semVal ((c : Thread nD τ), SemLoc.dma 18) 0 ∗ semVal ((c : Thread nD τ), SemLoc.dma 19) 0)

/-- The outputs after `n` steps. -/
def outs (c : Dev nD) : ℕ → sProp 𝕄
  | 0 => outFirst c (GA m c 0) (GB m c 0) (GC m c 0)
  | n + 1 => if h : n + 1 < grid0.N then
      outMid c (k0_off1 (grid0.coords ⟨n, Nat.lt_of_succ_lt h⟩)) (k0_off1 (grid0.coords ⟨n, Nat.lt_of_succ_lt h⟩)) (k0_off1 (grid0.coords ⟨n, Nat.lt_of_succ_lt h⟩))
        (k0_off1_inb _) (k0_off1_inb _) (k0_off1_inb _) (GA m c (n + 1)) (GB m c (n + 1)) (GC m c (n + 1))
    else outLast c (GA m c (n + 1)) (GB m c (n + 1)) (GC m c (n + 1))

theorem outs_succ_mid (c : Dev nD) (t : Fin grid0.N) (h : t.val + 1 < grid0.N) :
    outs m c (t.val + 1) = outMid c (k0_off1 (grid0.coords t)) (k0_off1 (grid0.coords t)) (k0_off1 (grid0.coords t))
      (k0_off1_inb _) (k0_off1_inb _) (k0_off1_inb _) (GA m c (t.val + 1)) (GB m c (t.val + 1)) (GC m c (t.val + 1)) := dif_pos h

theorem outs_succ_last (c : Dev nD) (t : Fin grid0.N) (h : ¬ t.val + 1 < grid0.N) :
    outs m c (t.val + 1) = outLast c (GA m c (t.val + 1)) (GB m c (t.val + 1)) (GC m c (t.val + 1)) := dif_neg h

/-- The rows a step waits for are the previous step's. -/
theorem off_prev : ∀ t : Fin grid0.N, t.val ≠ 0 →
    k0_off1 (grid0.coords ⟨t.val - 1, lt_of_le_of_lt (Nat.sub_le _ _) t.isLt⟩) = k0_off2 (grid0.coords t)
    ∧ k0_off1 (grid0.coords ⟨t.val - 1, lt_of_le_of_lt (Nat.sub_le _ _) t.isLt⟩) = k0_off4 (grid0.coords t)
    ∧ k0_off1 (grid0.coords ⟨t.val - 1, lt_of_le_of_lt (Nat.sub_le _ _) t.isLt⟩) = k0_off6 (grid0.coords t) := by decide +kernel

theorem outs_pos (c : Dev nD) (t : Fin grid0.N) (ht : t.val ≠ 0) (h2 : k0_cond2 (grid0.coords t) = 1#1) (h4 : k0_cond4 (grid0.coords t) = 1#1)
    (h6 : k0_cond6 (grid0.coords t) = 1#1) :
    outs m c t.val = outMid c (k0_off2 (grid0.coords t)) (k0_off4 (grid0.coords t)) (k0_off6 (grid0.coords t)) (k0_off2_inb _ h2) (k0_off4_inb _ h4) (k0_off6_inb _ h6)
      (GA m c t.val) (GB m c t.val) (GC m c t.val) := by
  obtain ⟨e2, e4, e6⟩ := off_prev t ht
  rw [← outMid_congr c e2 e4 e6 (k0_off1_inb _)]
  obtain ⟨n, hn⟩ := t
  cases n with
  | zero => exact absurd rfl ht
  | succ n => exact dif_pos hn

/-- Which branches a step takes: the panels are filled at the even steps, the waits skip the first, the last drains. -/
theorem cond_iff : ∀ t : Fin grid0.N,
    (Scalar.cmpi .ne (Scalar.extui (Scalar.cmpi .eq (BitVec.ofNat 32 ((grid0.coords t) 2).val) 0#32)) 0#32 = 1#1 ↔ t.val % 2 = 0)
    ∧ (k0_cond2 (grid0.coords t) = 1#1 ↔ t.val ≠ 0) ∧ (k0_cond3 (grid0.coords t) = 1#1 ↔ t.val = 63)
    ∧ (k0_cond4 (grid0.coords t) = 1#1 ↔ t.val ≠ 0) ∧ (k0_cond5 (grid0.coords t) = 1#1 ↔ t.val = 63)
    ∧ (k0_cond6 (grid0.coords t) = 1#1 ↔ t.val ≠ 0) ∧ (k0_cond7 (grid0.coords t) = 1#1 ↔ t.val = 63) := by decide +kernel

/-! ## The three slots make the staging buffer -/

theorem mem_slot (k : ℕ) (h : ∀ a, (![k, 0, 0] : Fin 3 → ℕ) a + S1x64x4096.size a ≤ S3x64x4096.size a) (y : S3x64x4096.Idx) :
    y ∈ (slotO uS ![k, 0, 0] h).view.set ↔ (y 0).val = k := by
  have e : (slotO uS ![k, 0, 0] h).view.set = (Rect.unit (s := S3x64x4096) ![k, 0, 0] S1x64x4096.size h).set := by
    refine (View.set_reshape (s' := S64x4096) (h := squeezes_S1x64x4096_S64x4096.numel_eq) (v := uS.view.slice (Rect.unit (s := S3x64x4096) ![k, 0, 0] S1x64x4096.size h))).trans ?_
    rw [View.set_slice]
    ext z
    rw [Finset.mem_map]
    exact ⟨fun ⟨x, hx, hz⟩ => hz ▸ hx, fun hz => ⟨z, hz, rfl⟩⟩
  rw [e, Rect.mem_set_unit]
  constructor
  · intro hy
    have := hy 0
    have e1 : S1x64x4096.size 0 = 1 := rfl
    rw [e1] at this
    have e2 : (![k, 0, 0] : Fin 3 → ℕ) 0 = k := rfl
    omega
  · intro hy a
    fin_cases a
    · exact ⟨le_of_eq hy.symm, by show (y 0).val < k + 1; omega⟩
    · exact ⟨Nat.zero_le _, by simpa using (y 1).isLt⟩
    · exact ⟨Nat.zero_le _, by simpa using (y 2).isLt⟩

theorem slots_join (c : Dev nD) (u0 u1 u2 : HbBuf (F := F) c uS) :
    iprop(((slotO uS ![0, 0, 0] inb_S3x64x4096_S1x64x4096_0_0_0).view.loc (c : Thread nD τ) ↦[(slotO uS ![0, 0, 0] inb_S3x64x4096_S1x64x4096_0_0_0).view.set]{fullShare} u0)
      ∗ ((slotO uS ![1, 0, 0] inb_S3x64x4096_S1x64x4096_1_0_0).view.loc (c : Thread nD τ) ↦[(slotO uS ![1, 0, 0] inb_S3x64x4096_S1x64x4096_1_0_0).view.set]{fullShare} u1)
      ∗ ((slotO uS ![2, 0, 0] inb_S3x64x4096_S1x64x4096_2_0_0).view.loc (c : Thread nD τ) ↦[(slotO uS ![2, 0, 0] inb_S3x64x4096_S1x64x4096_2_0_0).view.set]{fullShare} u2))
      ⊢ (iprop(∃ u : HbBuf (F := F) c uS, hbPt c uS u) : sProp 𝕄) := by
  have d12 : Disjoint (slotO uS ![1, 0, 0] inb_S3x64x4096_S1x64x4096_1_0_0).view.set (slotO uS ![2, 0, 0] inb_S3x64x4096_S1x64x4096_2_0_0).view.set :=
    Finset.disjoint_left.mpr fun y h h' => by rw [mem_slot] at h h'; omega
  have d0 : Disjoint (slotO uS ![0, 0, 0] inb_S3x64x4096_S1x64x4096_0_0_0).view.set ((slotO uS ![1, 0, 0] inb_S3x64x4096_S1x64x4096_1_0_0).view.set ∪ (slotO uS ![2, 0, 0] inb_S3x64x4096_S1x64x4096_2_0_0).view.set) :=
    Finset.disjoint_left.mpr fun y h h' => by
      rw [Finset.mem_union, mem_slot, mem_slot] at h'; rw [mem_slot] at h; omega
  have hu : (slotO uS ![0, 0, 0] inb_S3x64x4096_S1x64x4096_0_0_0).view.set ∪ ((slotO uS ![1, 0, 0] inb_S3x64x4096_S1x64x4096_1_0_0).view.set ∪ (slotO uS ![2, 0, 0] inb_S3x64x4096_S1x64x4096_2_0_0).view.set) = Finset.univ := by
    ext y
    rw [Finset.mem_union, Finset.mem_union, mem_slot, mem_slot, mem_slot]
    have : (y 0).val < 3 := (y 0).isLt
    constructor
    · intro _; exact Finset.mem_univ _
    · intro _; omega
  refine (BI.sep_mono_r (pointsTo_join d12)).trans ((pointsTo_join d0).trans ?_)
  rw [hu]
  iintro H; iexists _; iexact H

/-! ## The proof data -/

/-- The keys panel before step `n`: at an odd step, the head group's. -/
def panelK (c : Dev nD) (n : ℕ) : sProp 𝕄 :=
  iprop(∃ K : HbBuf (F := F) c kS, ⌜∀ h : n < grid0.N, n % 2 = 1 → kS.view.read (Elt F) K = KB (X0_1 m c ⟨n, h⟩) (iblk m c 3 ⟨n, h⟩)⌝ ∗ hbPt c kS K)

/-- The values panel before step `n`: at an odd step, the head group's. -/
def panelV (c : Dev nD) (n : ℕ) : sProp 𝕄 :=
  iprop(∃ K : HbBuf (F := F) c vS, ⌜∀ h : n < grid0.N, n % 2 = 1 → vS.view.read (Elt F) K = VB (X0_2 m c ⟨n, h⟩) (iblk m c 4 ⟨n, h⟩)⌝ ∗ hbPt c vS K)

/-- What is held between two steps. -/
def inv (c : Dev nD) (n : ℕ) : sProp 𝕄 :=
  iprop((∃ r, prngReg c r) ∗ hbPt c hA (V m c main_v0) ∗ hbPt c hB (V m c main_v1) ∗ hbPt c hC (V m c main_v2)
    ∗ panelK m c n ∗ panelV m c n ∗ (∃ I : HbBuf (F := F) c iS, hbPt c iS I)
    ∗ semVal ((c : Thread nD τ), SemLoc.dma 14) 0 ∗ semVal ((c : Thread nD τ), SemLoc.dma 15) 0 ∗ semVal ((c : Thread nD τ), SemLoc.dma 16) 0
    ∗ outs m c n)

/-- The output block of step `t`. -/
def outAt (c : Dev nD) (t : Fin cfg0.N) : Vec F S1024x512 .bf16 :=
  outB (iblk m c 0 t) (KB (X0_1 m c t) (iblk m c 3 t)) (VB (X0_2 m c t) (iblk m c 4 t)) (iblk m c 5 t)

/-- The pipeline's proof data: inputs keep their blocks, the output takes `outAt`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => X0_1 m c t
    | ⟨2, _⟩ => X0_2 m c t
    | ⟨3, _⟩ => iblk m c 3 t
    | ⟨4, _⟩ => iblk m c 4 t
    | ⟨5, _⟩ => iblk m c 5 t
    | ⟨6, _⟩ => outAt m c t
  Φ n := inv m c n.val
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

theorem clip0_1 (t t' : Fin cfg0.N) (h : (cfg0.win 1).index t = (cfg0.win 1).index t') :
    (cfg0.win 1).clip (cfg0.grid.coords t) = (cfg0.win 1).clip (cfg0.grid.coords t') :=
  funext fun a => congrArg (fun n => Pipeline.Clip.of n ((cfg0.win 1).size a) (S9216x1024.size a)) (congrFun h a)

theorem fetched0_1 (c : Dev nD) (t : Fin cfg0.N) (d) : (dats m 0 c).fetched 1 t d = X0_1 m c t := by
  unfold Dat.fetched X0_1; rw [fill0_1 t d dflt0_1]; unfold Dat.blockOf iblk; rw [A_eq]; try rfl

theorem before0_1 (c : Dev nD) (t : Fin cfg0.N) (d) : (dats m 0 c).before 1 t d = X0_1 m c t :=
  ((dats m 0 c).before_in_eq_fetched 1 rfl (fun _ => rfl) clip0_1
      (fun t => by rw [after0_1]; unfold X0_1; rw [Pipeline.Window.cut_fill]; unfold Dat.blockOf iblk; rw [A_eq]; try rfl) t d).trans
    (fetched0_1 m c t d)

/-- The block does not move at an odd step. -/
theorem X0_1_odd (c : Dev nD) (t : Fin cfg0.N) (ht : t.val % 2 = 1) (h' : t.val - 1 < cfg0.N) : X0_1 m c t = X0_1 m c ⟨t.val - 1, h'⟩ := by
  have hf : (cfg0.win 1).fetch t = false := by
    rw [← Bool.not_eq_true, fetch0_1]; omega
  obtain ⟨_, hix⟩ := (cfg0.win 1).index_eq_of_fetch rfl t hf
  rw [← fetched0_1 m c t dflt0_1, ← fetched0_1 m c ⟨t.val - 1, h'⟩ dflt0_1]
  exact (dats m 0 c).fetched_congr 1 hix (clip0_1 _ _ hix) _

theorem clip0_2 (t t' : Fin cfg0.N) (h : (cfg0.win 2).index t = (cfg0.win 2).index t') :
    (cfg0.win 2).clip (cfg0.grid.coords t) = (cfg0.win 2).clip (cfg0.grid.coords t') :=
  funext fun a => congrArg (fun n => Pipeline.Clip.of n ((cfg0.win 2).size a) (S9216x1024.size a)) (congrFun h a)

theorem fetched0_2 (c : Dev nD) (t : Fin cfg0.N) (d) : (dats m 0 c).fetched 2 t d = X0_2 m c t := by
  unfold Dat.fetched X0_2; rw [fill0_2 t d dflt0_2]; unfold Dat.blockOf iblk; rw [A_eq]; try rfl

theorem before0_2 (c : Dev nD) (t : Fin cfg0.N) (d) : (dats m 0 c).before 2 t d = X0_2 m c t :=
  ((dats m 0 c).before_in_eq_fetched 2 rfl (fun _ => rfl) clip0_2
      (fun t => by rw [after0_2]; unfold X0_2; rw [Pipeline.Window.cut_fill]; unfold Dat.blockOf iblk; rw [A_eq]; try rfl) t d).trans
    (fetched0_2 m c t d)

/-- The block does not move at an odd step. -/
theorem X0_2_odd (c : Dev nD) (t : Fin cfg0.N) (ht : t.val % 2 = 1) (h' : t.val - 1 < cfg0.N) : X0_2 m c t = X0_2 m c ⟨t.val - 1, h'⟩ := by
  have hf : (cfg0.win 2).fetch t = false := by
    rw [← Bool.not_eq_true, fetch0_2]; omega
  obtain ⟨_, hix⟩ := (cfg0.win 2).index_eq_of_fetch rfl t hf
  rw [← fetched0_2 m c t dflt0_2, ← fetched0_2 m c ⟨t.val - 1, h'⟩ dflt0_2]
  exact (dats m 0 c).fetched_congr 2 hix (clip0_2 _ _ hix) _

/-- The block does not move at an odd step. -/
theorem iblk3_odd (c : Dev nD) (t : Fin cfg0.N) (ht : t.val % 2 = 1) (h' : t.val - 1 < cfg0.N) : iblk m c 3 t = iblk m c 3 ⟨t.val - 1, h'⟩ := by
  have hf : (cfg0.win 3).fetch t = false := by
    rw [← Bool.not_eq_true, fetch0_3]; omega
  obtain ⟨_, hix⟩ := (cfg0.win 3).index_eq_of_fetch rfl t hf
  have e : ∀ t : Fin cfg0.N, (dats m 0 c).fetched 3 t (fun _ => Classical.choice inferInstance) = iblk m c 3 t := fun t => by
    unfold Dat.fetched Dat.blockOf iblk; rw [A_eq]; try rfl
  rw [← e t, ← e ⟨t.val - 1, h'⟩]
  exact (dats m 0 c).fetched_congr 3 hix rfl _

/-- The block does not move at an odd step. -/
theorem iblk4_odd (c : Dev nD) (t : Fin cfg0.N) (ht : t.val % 2 = 1) (h' : t.val - 1 < cfg0.N) : iblk m c 4 t = iblk m c 4 ⟨t.val - 1, h'⟩ := by
  have hf : (cfg0.win 4).fetch t = false := by
    rw [← Bool.not_eq_true, fetch0_4]; omega
  obtain ⟨_, hix⟩ := (cfg0.win 4).index_eq_of_fetch rfl t hf
  have e : ∀ t : Fin cfg0.N, (dats m 0 c).fetched 4 t (fun _ => Classical.choice inferInstance) = iblk m c 4 t := fun t => by
    unfold Dat.fetched Dat.blockOf iblk; rw [A_eq]; try rfl
  rw [← e t, ← e ⟨t.val - 1, h'⟩]
  exact (dats m 0 c).fetched_congr 4 hix rfl _

/-- The keys panel a step leaves is the next step's. -/
theorem panelK_next (c : Dev nD) (t : Fin cfg0.N) (K : HbBuf (F := F) c kS) (hK : kS.view.read (Elt F) K = KB (X0_1 m c t) (iblk m c 3 t)) :
    ∀ h : t.val + 1 < grid0.N, (t.val + 1) % 2 = 1 → kS.view.read (Elt F) K = KB (X0_1 m c ⟨t.val + 1, h⟩) (iblk m c 3 ⟨t.val + 1, h⟩) := fun h ho => by
  rw [hK, X0_1_odd m c ⟨t.val + 1, h⟩ ho t.isLt, iblk3_odd m c ⟨t.val + 1, h⟩ ho t.isLt]; rfl

/-- The values panel a step leaves is the next step's. -/
theorem panelV_next (c : Dev nD) (t : Fin cfg0.N) (K : HbBuf (F := F) c vS) (hK : vS.view.read (Elt F) K = VB (X0_2 m c t) (iblk m c 4 t)) :
    ∀ h : t.val + 1 < grid0.N, (t.val + 1) % 2 = 1 → vS.view.read (Elt F) K = VB (X0_2 m c ⟨t.val + 1, h⟩) (iblk m c 4 ⟨t.val + 1, h⟩) := fun h ho => by
  rw [hK, X0_2_odd m c ⟨t.val + 1, h⟩ ho t.isLt, iblk4_odd m c ⟨t.val + 1, h⟩ ho t.isLt]; rfl

/-! ## One step -/

/-- A step's run, to whatever its end gives with what was set aside. -/
theorem use_run {c : Dev nD} {p : Prog (TpuEff nD τ sig (Elt F) Λ₀ .tc) PUnit} {P : sProp 𝕄} {Q S : PUnit → sProp 𝕄}
    (h : P ⊢ wp frame (wpE (defs₀ (F := F)) Variants.none c none) Set.univ p Q) :
    iprop(P ∗ (∀ a, Q a -∗ S a)) ⊢ wp frame (wpE (defs₀ (F := F)) Variants.none c none) Set.univ p S :=
  (BI.sep_mono_l h).trans (wp_wand_r _ _ _)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 1000000 in
theorem sound_first (c : Dev nD) (t : Fin cfg0.N) (ht : t.val = 0) :
    bodyPre m c t ⊢ wp frame (wpE (defs₀ (F := F)) Variants.none c none) Set.univ (bodyAt0 t) (fun _ => bodyPost m c t) := by
  have hN : grid0.N = 64 := N_0
  have hN' : cfg0.N = 64 := N_0
  obtain ⟨c1, c2, c3, c4, c5, c6, c7⟩ := cond_iff t
  unfold bodyPre bodyPost bodyAt0
  simp only [before0_0, before0_1, before0_2, before0_3, before0_4, before0_5]
  rw [after0_0, after0_1, after0_2, after0_3, after0_4, after0_5, after0_6]
  unfold Dat.owesAt Pipeline.owesWithin
  rw [show (dats m 0 c).owed t.castSucc = 0 from rfl, show (dats m 0 c).owed t.succ = 0 from rfl]
  rw [show (dats m 0 c).Φ t.castSucc = inv m c t.val from rfl, show (dats m 0 c).Φ t.succ = inv m c (t.val + 1) from rfl]
  unfold inv panelK panelV
  rw [show outs m c t.val = outFirst c (GA m c t.val) (GB m c t.val) (GC m c t.val) from by rw [ht]; rfl]
  rw [outs_succ_mid m c t (by omega), GA_succ, GB_succ, GC_succ]
  unfold outFirst outMid
  iintro ⟨⟨Hg, HA, HB, HC, ⟨%fk, %hk, HK⟩, ⟨%fv, %hv, HV⟩, ⟨%fi, HI⟩, Hq14, Hq15, Hq16, ⟨HoA, HoB, HoC, ⟨%fu, HU⟩, Hq17, Hq18, Hq19⟩⟩, ⟨%W, -, HW⟩, ⟨%d0, H0⟩, ⟨%d1, H1⟩, ⟨%d2, H2⟩, ⟨%d3, H3⟩, ⟨%d4, H4⟩, ⟨%d5, H5⟩, ⟨%d6, H6⟩⟩
  have hrun := run_first c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (st0_5 t) (hstage0_5 ((cfg0.slots t 5).cast nbuf0_5)) (st0_6 t) (hstage0_6 ((cfg0.slots t 6).cast nbuf0_6))
    (c1.mpr (by omega)) (fun h => absurd (c2.mp h) (by omega)) (fun h => absurd (c3.mp h) (by omega)) (fun h => absurd (c4.mp h) (by omega)) (fun h => absurd (c5.mp h) (by omega)) (fun h => absurd (c6.mp h) (by omega)) (fun h => absurd (c7.mp h) (by omega))
    (iblk m c 0 t) (X0_1 m c t) (X0_2 m c t) (iblk m c 3 t) (iblk m c 4 t) (iblk m c 5 t)
    (V m c main_v0) (V m c main_v1) (V m c main_v2) (GA m c t.val) (GB m c t.val) (GC m c t.val) fk fv fi fu W
  iapply (use_run hrun)
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HA]; · iexact HA
    isplitl [HB]; · iexact HB
    isplitl [HC]; · iexact HC
    isplitl [HoA]; · iexact HoA
    isplitl [HoB]; · iexact HoB
    isplitl [HoC]; · iexact HoC
    isplitl [HK]; · iexact HK
    isplitl [HV]; · iexact HV
    isplitl [HI]; · iexact HI
    isplitl [HU]; · iexact HU
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    iexact HW
  · iintro %_ ⟨H0, H1, H2, H3, H4, H5, H6, HA, HB, HC, HoA, HoB, HoC, ⟨%K', %hK, HK⟩, ⟨%V', %hV, HV⟩, HI, Hq14, Hq15, Hq16, HF0, HF1, HF2, ⟨%W', HW⟩⟩
    isplitl [Hg HA HB HC HK HV HI Hq14 Hq15 Hq16 HoA HoB HoC HF0 HF1 HF2]
    · isplitl [Hg]; · iexact Hg
      isplitl [HA]; · iexact HA
      isplitl [HB]; · iexact HB
      isplitl [HC]; · iexact HC
      isplitl [HK]
      · iexists K'; isplitr; · ipureintro; exact panelK_next m c t K' hK
        iexact HK
      isplitl [HV]
      · iexists V'; isplitr; · ipureintro; exact panelV_next m c t V' hV
        iexact HV
      isplitl [HI]; · iexact HI
      isplitl [Hq14]; · iexact Hq14
      isplitl [Hq15]; · iexact Hq15
      isplitl [Hq16]; · iexact Hq16
      isplitl [HoA]; · iexact HoA
      isplitl [HoB]; · iexact HoB
      isplitl [HoC]; · iexact HoC
      isplitl [HF0]; · iexact HF0
      isplitl [HF1]; · iexact HF1
      iexact HF2
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    iexact H6

set_option maxHeartbeats 1000000 in
theorem sound_even (c : Dev nD) (t : Fin cfg0.N) (h0 : t.val ≠ 0) (he : t.val % 2 = 0) :
    bodyPre m c t ⊢ wp frame (wpE (defs₀ (F := F)) Variants.none c none) Set.univ (bodyAt0 t) (fun _ => bodyPost m c t) := by
  have hN : grid0.N = 64 := N_0
  have hN' : cfg0.N = 64 := N_0
  obtain ⟨c1, c2, c3, c4, c5, c6, c7⟩ := cond_iff t
  unfold bodyPre bodyPost bodyAt0
  simp only [before0_0, before0_1, before0_2, before0_3, before0_4, before0_5]
  rw [after0_0, after0_1, after0_2, after0_3, after0_4, after0_5, after0_6]
  unfold Dat.owesAt Pipeline.owesWithin
  rw [show (dats m 0 c).owed t.castSucc = 0 from rfl, show (dats m 0 c).owed t.succ = 0 from rfl]
  rw [show (dats m 0 c).Φ t.castSucc = inv m c t.val from rfl, show (dats m 0 c).Φ t.succ = inv m c (t.val + 1) from rfl]
  unfold inv panelK panelV
  rw [outs_pos m c t (by omega) (c2.mpr (by omega)) (c4.mpr (by omega)) (c6.mpr (by omega))]
  rw [outs_succ_mid m c t (by omega), GA_succ, GB_succ, GC_succ]
  unfold outMid
  iintro ⟨⟨Hg, HA, HB, HC, ⟨%fk, %hk, HK⟩, ⟨%fv, %hv, HV⟩, ⟨%fi, HI⟩, Hq14, Hq15, Hq16, ⟨HoA, HoB, HoC, ⟨%fu0, HF0⟩, ⟨%fu1, HF1⟩, ⟨%fu2, HF2⟩⟩⟩, ⟨%W, -, HW⟩, ⟨%d0, H0⟩, ⟨%d1, H1⟩, ⟨%d2, H2⟩, ⟨%d3, H3⟩, ⟨%d4, H4⟩, ⟨%d5, H5⟩, ⟨%d6, H6⟩⟩
  have hrun := run_mid_even c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (st0_5 t) (hstage0_5 ((cfg0.slots t 5).cast nbuf0_5)) (st0_6 t) (hstage0_6 ((cfg0.slots t 6).cast nbuf0_6))
    (c1.mpr (by omega)) (c2.mpr (by omega)) (fun h => absurd (c3.mp h) (by omega)) (c4.mpr (by omega)) (fun h => absurd (c5.mp h) (by omega)) (c6.mpr (by omega)) (fun h => absurd (c7.mp h) (by omega))
    (iblk m c 0 t) (X0_1 m c t) (X0_2 m c t) (iblk m c 3 t) (iblk m c 4 t) (iblk m c 5 t)
    (V m c main_v0) (V m c main_v1) (V m c main_v2) (GA m c t.val) (GB m c t.val) (GC m c t.val) fk fv fi fu0 fu1 fu2 W
  iapply (use_run hrun)
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HA]; · iexact HA
    isplitl [HB]; · iexact HB
    isplitl [HC]; · iexact HC
    isplitl [HoA]; · iexact HoA
    isplitl [HoB]; · iexact HoB
    isplitl [HoC]; · iexact HoC
    isplitl [HK]; · iexact HK
    isplitl [HV]; · iexact HV
    isplitl [HI]; · iexact HI
    isplitl [Hq14]; · iexact Hq14
    isplitl [Hq15]; · iexact Hq15
    isplitl [Hq16]; · iexact Hq16
    isplitl [HF0]; · iexact HF0
    isplitl [HF1]; · iexact HF1
    isplitl [HF2]; · iexact HF2
    iexact HW
  · iintro %_ ⟨H0, H1, H2, H3, H4, H5, H6, HA, HB, HC, HoA, HoB, HoC, ⟨%K', %hK, HK⟩, ⟨%V', %hV, HV⟩, HI, Hq14, Hq15, Hq16, HF0, HF1, HF2, ⟨%W', HW⟩⟩
    isplitl [Hg HA HB HC HK HV HI Hq14 Hq15 Hq16 HoA HoB HoC HF0 HF1 HF2]
    · isplitl [Hg]; · iexact Hg
      isplitl [HA]; · iexact HA
      isplitl [HB]; · iexact HB
      isplitl [HC]; · iexact HC
      isplitl [HK]
      · iexists K'; isplitr; · ipureintro; exact panelK_next m c t K' hK
        iexact HK
      isplitl [HV]
      · iexists V'; isplitr; · ipureintro; exact panelV_next m c t V' hV
        iexact HV
      isplitl [HI]; · iexact HI
      isplitl [Hq14]; · iexact Hq14
      isplitl [Hq15]; · iexact Hq15
      isplitl [Hq16]; · iexact Hq16
      isplitl [HoA]; · iexact HoA
      isplitl [HoB]; · iexact HoB
      isplitl [HoC]; · iexact HoC
      isplitl [HF0]; · iexact HF0
      isplitl [HF1]; · iexact HF1
      iexact HF2
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    iexact H6

set_option maxHeartbeats 1000000 in
theorem sound_odd (c : Dev nD) (t : Fin cfg0.N) (ho : t.val % 2 = 1) (hl : t.val ≠ 63) :
    bodyPre m c t ⊢ wp frame (wpE (defs₀ (F := F)) Variants.none c none) Set.univ (bodyAt0 t) (fun _ => bodyPost m c t) := by
  have hN : grid0.N = 64 := N_0
  have hN' : cfg0.N = 64 := N_0
  obtain ⟨c1, c2, c3, c4, c5, c6, c7⟩ := cond_iff t
  unfold bodyPre bodyPost bodyAt0
  simp only [before0_0, before0_1, before0_2, before0_3, before0_4, before0_5]
  rw [after0_0, after0_1, after0_2, after0_3, after0_4, after0_5, after0_6]
  unfold Dat.owesAt Pipeline.owesWithin
  rw [show (dats m 0 c).owed t.castSucc = 0 from rfl, show (dats m 0 c).owed t.succ = 0 from rfl]
  rw [show (dats m 0 c).Φ t.castSucc = inv m c t.val from rfl, show (dats m 0 c).Φ t.succ = inv m c (t.val + 1) from rfl]
  unfold inv panelK panelV
  rw [outs_pos m c t (by omega) (c2.mpr (by omega)) (c4.mpr (by omega)) (c6.mpr (by omega))]
  rw [outs_succ_mid m c t (by omega), GA_succ, GB_succ, GC_succ]
  unfold outMid
  iintro ⟨⟨Hg, HA, HB, HC, ⟨%fk, %hk, HK⟩, ⟨%fv, %hv, HV⟩, ⟨%fi, HI⟩, Hq14, Hq15, Hq16, ⟨HoA, HoB, HoC, ⟨%fu0, HF0⟩, ⟨%fu1, HF1⟩, ⟨%fu2, HF2⟩⟩⟩, ⟨%W, -, HW⟩, ⟨%d0, H0⟩, ⟨%d1, H1⟩, ⟨%d2, H2⟩, ⟨%d3, H3⟩, ⟨%d4, H4⟩, ⟨%d5, H5⟩, ⟨%d6, H6⟩⟩
  have hrun := run_mid_odd c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (st0_5 t) (hstage0_5 ((cfg0.slots t 5).cast nbuf0_5)) (st0_6 t) (hstage0_6 ((cfg0.slots t 6).cast nbuf0_6))
    (fun h => absurd (c1.mp h) (by omega)) (c2.mpr (by omega)) (fun h => absurd (c3.mp h) (by omega)) (c4.mpr (by omega)) (fun h => absurd (c5.mp h) (by omega)) (c6.mpr (by omega)) (fun h => absurd (c7.mp h) (by omega))
    (iblk m c 0 t) (X0_1 m c t) (X0_2 m c t) (iblk m c 3 t) (iblk m c 4 t) (iblk m c 5 t)
    (V m c main_v0) (V m c main_v1) (V m c main_v2) (GA m c t.val) (GB m c t.val) (GC m c t.val) fk fv fi fu0 fu1 fu2 (hk t.isLt (by omega)) (hv t.isLt (by omega)) W
  iapply (use_run hrun)
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HA]; · iexact HA
    isplitl [HB]; · iexact HB
    isplitl [HC]; · iexact HC
    isplitl [HoA]; · iexact HoA
    isplitl [HoB]; · iexact HoB
    isplitl [HoC]; · iexact HoC
    isplitl [HK]; · iexact HK
    isplitl [HV]; · iexact HV
    isplitl [HI]; · iexact HI
    isplitl [Hq14]; · iexact Hq14
    isplitl [Hq15]; · iexact Hq15
    isplitl [Hq16]; · iexact Hq16
    isplitl [HF0]; · iexact HF0
    isplitl [HF1]; · iexact HF1
    isplitl [HF2]; · iexact HF2
    iexact HW
  · iintro %_ ⟨H0, H1, H2, H3, H4, H5, H6, HA, HB, HC, HoA, HoB, HoC, ⟨%K', %hK, HK⟩, ⟨%V', %hV, HV⟩, HI, Hq14, Hq15, Hq16, HF0, HF1, HF2, ⟨%W', HW⟩⟩
    isplitl [Hg HA HB HC HK HV HI Hq14 Hq15 Hq16 HoA HoB HoC HF0 HF1 HF2]
    · isplitl [Hg]; · iexact Hg
      isplitl [HA]; · iexact HA
      isplitl [HB]; · iexact HB
      isplitl [HC]; · iexact HC
      isplitl [HK]
      · iexists K'; isplitr; · ipureintro; exact panelK_next m c t K' hK
        iexact HK
      isplitl [HV]
      · iexists V'; isplitr; · ipureintro; exact panelV_next m c t V' hV
        iexact HV
      isplitl [HI]; · iexact HI
      isplitl [Hq14]; · iexact Hq14
      isplitl [Hq15]; · iexact Hq15
      isplitl [Hq16]; · iexact Hq16
      isplitl [HoA]; · iexact HoA
      isplitl [HoB]; · iexact HoB
      isplitl [HoC]; · iexact HoC
      isplitl [HF0]; · iexact HF0
      isplitl [HF1]; · iexact HF1
      iexact HF2
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    iexact H6

set_option maxHeartbeats 1000000 in
theorem sound_last (c : Dev nD) (t : Fin cfg0.N) (ht : t.val = 63) :
    bodyPre m c t ⊢ wp frame (wpE (defs₀ (F := F)) Variants.none c none) Set.univ (bodyAt0 t) (fun _ => bodyPost m c t) := by
  have hN : grid0.N = 64 := N_0
  have hN' : cfg0.N = 64 := N_0
  obtain ⟨c1, c2, c3, c4, c5, c6, c7⟩ := cond_iff t
  unfold bodyPre bodyPost bodyAt0
  simp only [before0_0, before0_1, before0_2, before0_3, before0_4, before0_5]
  rw [after0_0, after0_1, after0_2, after0_3, after0_4, after0_5, after0_6]
  unfold Dat.owesAt Pipeline.owesWithin
  rw [show (dats m 0 c).owed t.castSucc = 0 from rfl, show (dats m 0 c).owed t.succ = 0 from rfl]
  rw [show (dats m 0 c).Φ t.castSucc = inv m c t.val from rfl, show (dats m 0 c).Φ t.succ = inv m c (t.val + 1) from rfl]
  unfold inv panelK panelV
  rw [outs_pos m c t (by omega) (c2.mpr (by omega)) (c4.mpr (by omega)) (c6.mpr (by omega))]
  rw [outs_succ_last m c t (by omega), GA_succ, GB_succ, GC_succ]
  unfold outMid outLast
  iintro ⟨⟨Hg, HA, HB, HC, ⟨%fk, %hk, HK⟩, ⟨%fv, %hv, HV⟩, ⟨%fi, HI⟩, Hq14, Hq15, Hq16, ⟨HoA, HoB, HoC, ⟨%fu0, HF0⟩, ⟨%fu1, HF1⟩, ⟨%fu2, HF2⟩⟩⟩, ⟨%W, -, HW⟩, ⟨%d0, H0⟩, ⟨%d1, H1⟩, ⟨%d2, H2⟩, ⟨%d3, H3⟩, ⟨%d4, H4⟩, ⟨%d5, H5⟩, ⟨%d6, H6⟩⟩
  have hrun := run_last c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (st0_5 t) (hstage0_5 ((cfg0.slots t 5).cast nbuf0_5)) (st0_6 t) (hstage0_6 ((cfg0.slots t 6).cast nbuf0_6))
    (fun h => absurd (c1.mp h) (by omega)) (c2.mpr (by omega)) (c3.mpr (by omega)) (c4.mpr (by omega)) (c5.mpr (by omega)) (c6.mpr (by omega)) (c7.mpr (by omega))
    (iblk m c 0 t) (X0_1 m c t) (X0_2 m c t) (iblk m c 3 t) (iblk m c 4 t) (iblk m c 5 t)
    (V m c main_v0) (V m c main_v1) (V m c main_v2) (GA m c t.val) (GB m c t.val) (GC m c t.val) fk fv fi fu0 fu1 fu2 (hk t.isLt (by omega)) (hv t.isLt (by omega)) W
  iapply (use_run hrun)
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HA]; · iexact HA
    isplitl [HB]; · iexact HB
    isplitl [HC]; · iexact HC
    isplitl [HoA]; · iexact HoA
    isplitl [HoB]; · iexact HoB
    isplitl [HoC]; · iexact HoC
    isplitl [HK]; · iexact HK
    isplitl [HV]; · iexact HV
    isplitl [HI]; · iexact HI
    isplitl [Hq14]; · iexact Hq14
    isplitl [Hq15]; · iexact Hq15
    isplitl [Hq16]; · iexact Hq16
    isplitl [HF0]; · iexact HF0
    isplitl [HF1]; · iexact HF1
    isplitl [HF2]; · iexact HF2
    iexact HW
  · iintro %_ ⟨H0, H1, H2, H3, H4, H5, H6, HA, HB, HC, HoA, HoB, HoC, ⟨%K', %hK, HK⟩, ⟨%V', %hV, HV⟩, HI, Hq14, Hq15, Hq16, HF0, HF1, HF2, Hq17, Hq18, Hq19, ⟨%W', HW⟩⟩
    isplitl [Hg HA HB HC HK HV HI Hq14 Hq15 Hq16 HoA HoB HoC HF0 HF1 HF2 Hq17 Hq18 Hq19]
    · isplitl [Hg]; · iexact Hg
      isplitl [HA]; · iexact HA
      isplitl [HB]; · iexact HB
      isplitl [HC]; · iexact HC
      isplitl [HK]
      · iexists K'; isplitr; · ipureintro; exact panelK_next m c t K' hK
        iexact HK
      isplitl [HV]
      · iexists V'; isplitr; · ipureintro; exact panelV_next m c t V' hV
        iexact HV
      isplitl [HI]; · iexact HI
      isplitl [Hq14]; · iexact Hq14
      isplitl [Hq15]; · iexact Hq15
      isplitl [Hq16]; · iexact Hq16
      isplitl [HoA]; · iexact HoA
      isplitl [HoB]; · iexact HoB
      isplitl [HoC]; · iexact HoC
      isplitl [HF0]; · iexact HF0
      isplitl [HF1]; · iexact HF1
      isplitl [HF2]; · iexact HF2
      isplitl [Hq17]; · iexact Hq17
      isplitl [Hq18]; · iexact Hq18
      iexact Hq19
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    iexact H6

theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_first m c t h0
  · by_cases hl : t.val = 63
    · exact sound_last m c t hl
    · rcases Nat.mod_two_eq_zero_or_one t.val with he | ho
      · exact sound_even m c t h0 he
      · exact sound_odd m c t ho hl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- What the written arrays hold at the end. -/
def Gend (c : Dev nD) (b : Ref sig .tc) : Buf (Elt F) ((c.tc : Thread nD τ).loc b) :=
  Function.update (Function.update (Function.update (V m c) main_v3_1 (GA m c 64)) main_v3_2 (GB m c 64)) main_v3_3 (GC m c 64) b

theorem Gend_A (c : Dev nD) : Gend m c main_v3_1 = GA m c 64 := by
  unfold Gend
  rw [Function.update_of_ne (show main_v3_1 ≠ main_v3_3 by decide), Function.update_of_ne (show main_v3_1 ≠ main_v3_2 by decide), Function.update_self]
theorem Gend_B (c : Dev nD) : Gend m c main_v3_2 = GB m c 64 := by
  unfold Gend
  rw [Function.update_of_ne (show main_v3_2 ≠ main_v3_3 by decide), Function.update_self]
theorem Gend_C (c : Dev nD) : Gend m c main_v3_3 = GC m c 64 := by
  unfold Gend
  rw [Function.update_self]

theorem enter (c : Dev nD) : Pipeline.ΦDRG osem0 spec0 H0 R0 (V m) (V m) c ⊢ (dats m 0 c).Φ 0 := by
  rw [Pipeline.ΦDRG_eq, scopedRest0_eq, ownSems00_eq, hbmPts0_eq, routed0_eq]
  show _ ⊢ inv m c 0
  unfold inv panelK panelV
  rw [show outs m c 0 = outFirst c (V m c main_v3_1) (V m c main_v3_2) (V m c main_v3_3) from rfl]
  unfold outFirst
  iintro ⟨⟨⟨%fk, HK⟩, ⟨%fv, HV⟩, HI, HU⟩, Hg, ⟨Hq14, Hq15, Hq16, Hq17, Hq18, Hq19⟩, ⟨HA, HB, HC⟩, ⟨HoA, HoB, HoC⟩⟩
  isplitl [Hg]; · iexact Hg
  isplitl [HA]; · iexact HA
  isplitl [HB]; · iexact HB
  isplitl [HC]; · iexact HC
  isplitl [HK]
  · iexists fk; isplitr; · ipureintro; exact fun _ h => absurd h (by decide)
    iexact HK
  isplitl [HV]
  · iexists fv; isplitr; · ipureintro; exact fun _ h => absurd h (by decide)
    iexact HV
  isplitl [HI]; · iexact HI
  isplitl [Hq14]; · iexact Hq14
  isplitl [Hq15]; · iexact Hq15
  isplitl [Hq16]; · iexact Hq16
  isplitl [HoA]; · iexact HoA
  isplitl [HoB]; · iexact HoB
  isplitl [HoC]; · iexact HoC
  isplitl [HU]; · iexact HU
  isplitl [Hq17]; · iexact Hq17
  isplitl [Hq18]; · iexact Hq18
  iexact Hq19

theorem leave (c : Dev nD) : (dats m 0 c).Φ (Fin.last cfg0.N) ⊢ Pipeline.ΦDRG osem0 spec0 H0 R0 (V m) (Gend m) c := by
  rw [Pipeline.ΦDRG_eq, scopedRest0_eq, ownSems00_eq, hbmPts0_eq, routed0_eq, Gend_A, Gend_B, Gend_C]
  have hN : cfg0.N = 64 := N_0
  rw [show (dats m 0 c).Φ (Fin.last cfg0.N) = inv m c cfg0.N from rfl, hN]
  unfold inv panelK panelV
  rw [show outs m c 64 = outLast c (GA m c 64) (GB m c 64) (GC m c 64) from outs_succ_last m c ⟨63, by rw [N_0]; decide⟩ (fun h => absurd (N_0 ▸ h : 63 + 1 < 64) (by decide))]
  unfold outLast
  iintro ⟨Hg, HA, HB, HC, ⟨%fk, -, HK⟩, ⟨%fv, -, HV⟩, HI, Hq14, Hq15, Hq16, HoA, HoB, HoC, ⟨%u0, HS0⟩, ⟨%u1, HS1⟩, ⟨%u2, HS2⟩, Hq17, Hq18, Hq19⟩
  isplitl [HK HV HI HS0 HS1 HS2]
  · isplitl [HK]; · iexists fk; iexact HK
    isplitl [HV]; · iexists fv; iexact HV
    isplitl [HI]; · iexact HI
    iapply (slots_join c u0 u1 u2)
    isplitl [HS0]; · iexact HS0
    isplitl [HS1]; · iexact HS1
    iexact HS2
  isplitl [Hg]; · iexact Hg
  isplitl [Hq14 Hq15 Hq16 Hq17 Hq18 Hq19]
  · isplitl [Hq14]; · iexact Hq14
    isplitl [Hq15]; · iexact Hq15
    isplitl [Hq16]; · iexact Hq16
    isplitl [Hq17]; · iexact Hq17
    isplitl [Hq18]; · iexact Hq18
    iexact Hq19
  isplitl [HA HB HC]
  · isplitl [HA]; · iexact HA
    isplitl [HB]; · iexact HB
    iexact HC
  isplitl [HoA]; · iexact HoA
  isplitl [HoB]; · iexact HoB
  iexact HoC

set_option backward.isDefEq.respectTransparency.types false in
/-- The program's run: the pipeline's arrays, the arrays the body writes, and every counter at zero. -/
theorem run_main : θ_run defs (onTc (τ := τ) (main (F := F))) (s₀ m ρ)
    (fun r => Pipeline.FramePostRG cfgs (dats m) 0 R0 (V m) (Gend m) r ∧ r.2.sem = fun _ => 0) :=
  Pipeline.θ_run_frame_dmaRG_shared (Q' := _) cfgs (dats m) (0 : Fin 1) launch₀0 osem0 defs₀ Variants.none ownSemFacts0 H0 R0 H0_sub R0_sub m ρ main
    (hbody := fun c => (body_obligation m c).loose) (hq := fun _ _ _ => rfl)
    (howed := fun _ _ => rfl) (V := V m) (hmain := hmainD m Variants.none) (hA := A_eq m) (G := Gend m)
    (hin := enter m) (hout := leave m)

/-- The arguments end as they began. -/
theorem args_kept {r : PUnit × MemSt nD τ sig (Elt F)} (h : Pipeline.FramePostRG cfgs (dats m) 0 R0 (V m) (Gend m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h.toR c).1 0).trans (((dats m 0 c).arrAt_in 0 rfl _).trans ((A_eq m c 0).trans (V_main_arg0 m c))),
   ((h.toR c).1 3).trans (((dats m 0 c).arrAt_in 3 rfl _).trans ((A_eq m c 3).trans (V_main_arg1 m c))),
   ((h.toR c).1 4).trans (((dats m 0 c).arrAt_in 4 rfl _).trans ((A_eq m c 4).trans (V_main_arg2 m c))),
   ((h.toR c).1 5).trans (((dats m 0 c).arrAt_in 5 rfl _).trans ((A_eq m c 5).trans (V_main_arg3 m c))),
   ((h.toR c).2 main_arg4 (Finset.mem_sdiff.mpr ⟨Pipeline.mem_restRefs_of main_arg4 (by decide) (by decide), by decide⟩)).trans (V_main_arg4 m c),
   ((h.toR c).2 main_arg5 (Finset.mem_sdiff.mpr ⟨Pipeline.mem_restRefs_of main_arg5 (by decide) (by decide), by decide⟩)).trans (V_main_arg5 m c),
   ((h.toR c).2 main_arg6 (Finset.mem_sdiff.mpr ⟨Pipeline.mem_restRefs_of main_arg6 (by decide) (by decide), by decide⟩)).trans (V_main_arg6 m c)⟩

/-- The frame: arguments kept, counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨args_kept m h.1, h.2⟩) (run_main m ρ)

end Cert.KernelIdeal.Attn

end
-- ==== Proof.AttnIdeal.Weights.lean ====
/-
  The three weights the kernel rounds to bf16 while it works: each step writes one strip of 64 rows, and after
  64 steps the whole array holds the weight rounded.
-/
module

public import proofs.«01_k».proof.Proof.AttnIdeal.Frame
public import Idealize.ShloMosaic.Lib.StableHlo.Run

@[expose] public section

noncomputable section

namespace Cert.KernelIdeal.Attn

open Cert.KernelIdeal Cert.KernelIdeal.Gen
open Idealize.ShloMosaic Idealize.ShloMosaic.TcCoe Idealize.ShloMosaic.StableHlo
open Idealize.SL Idealize.SL.Sem

variable {F : FTy → Type} [FloatOps F] (m : (ℓ : Loc nD τ sig) → Buf (Elt F) ℓ)

/-- A weight rounded to bf16. -/
abbrev rounded (c : Dev nD) (H : Memref sig .tc .hbm S4096x4096 .f32) (f : HbBuf (F := F) c H) : Vec F S4096x4096 .bf16 :=
  truncf .bf16 (View.read (Elt F) H.view f : FVec F S4096x4096 .f32) bitsLt_bf16_f32

/-- A strip's rows after it is put. -/
theorem put_read (c : Dev nD) (H : Memref sig .tc .hbm S4096x4096 .f32) (M : Memref sig .tc .hbm S4096x4096 .bf16) (o : Fin 2 → ℕ)
    (h : ∀ a, o a + S64x4096.size a ≤ S4096x4096.size a) (f : HbBuf (F := F) c H) (g : HbBuf (F := F) c M) (n : ℕ) (ho : o = ![64 * n, 0])
    (y : S4096x4096.Idx) :
    View.read (Elt F) M.view (put c H M o h f g) y
      = if (y 0).val / 64 = n then rounded c H f y else View.read (Elt F) M.view g y := by
  subst ho
  have e : put c H M ![64 * n, 0] h f g = M.view.writes (Elt F) g [⟨Rect.unit (s := S4096x4096) ![64 * n, 0] S64x4096.size h, strip c H ![64 * n, 0] h f⟩] := rfl
  by_cases hy : (y 0).val / 64 = n
  · rw [if_pos hy]
    have hm : y ∈ (Rect.unit (s := S4096x4096) ![64 * n, 0] S64x4096.size h).set := by
      rw [Rect.mem_set_unit]
      intro a; fin_cases a
      · exact ⟨by show 64 * n ≤ (y 0).val; omega, by show (y 0).val < 64 * n + 64; omega⟩
      · exact ⟨Nat.zero_le _, by simpa using (y 1).isLt⟩
    obtain ⟨x, rfl⟩ := LoadRect.exists_idx_of_mem (Rect.unit (s := S4096x4096) ![64 * n, 0] S64x4096.size h).toLoadRect hm
    exact congrFun (View.read_write_univ (v := M.view.slice (Rect.unit (s := S4096x4096) ![64 * n, 0] S64x4096.size h)) g (strip c H ![64 * n, 0] h f)) x
  · rw [if_neg hy]
    have hm : y ∉ (Rect.unit (s := S4096x4096) ![64 * n, 0] S64x4096.size h).set := by
      rw [Rect.mem_set_unit]
      intro hall
      have h0 : 64 * n ≤ (y 0).val ∧ (y 0).val < 64 * n + 64 := hall 0
      omega
    refine congrArg (_root_.cast (congrArg (Elt F) M.view.elt_eq)) (View.write_of_not_mem _ _ _ fun hm' => hm ?_)
    have hm'' : M.view.emb y ∈ (M.view.slice (Rect.unit (s := S4096x4096) ![64 * n, 0] S64x4096.size h)).set := hm'
    rw [View.set_slice, Finset.mem_map'] at hm''
    exact hm''

theorem off1_eq : ∀ t : Fin grid0.N, k0_off1 (grid0.coords t) = ![64 * t.val, 0] := by decide +kernel

/-- After `n` steps the first `64 n` rows are rounded. -/
theorem GA_rows (c : Dev nD) : ∀ n : ℕ, n ≤ 64 → ∀ y : S4096x4096.Idx, (y 0).val < 64 * n →
    View.read (Elt F) oA.view (GA m c n) y = rounded c hA (V m c main_v0) y
  | 0, _, y, hy => absurd hy (by omega)
  | n + 1, hn, y, hy => by
    have hN : grid0.N = 64 := N_0
    rw [GA_succ m c ⟨n, by omega⟩, put_read c hA oA _ _ _ _ n (off1_eq ⟨n, by omega⟩)]
    split
    · rfl
    · exact GA_rows c n (by omega) y (by omega)

theorem GB_rows (c : Dev nD) : ∀ n : ℕ, n ≤ 64 → ∀ y : S4096x4096.Idx, (y 0).val < 64 * n →
    View.read (Elt F) oB.view (GB m c n) y = rounded c hB (V m c main_v1) y
  | 0, _, y, hy => absurd hy (by omega)
  | n + 1, hn, y, hy => by
    have hN : grid0.N = 64 := N_0
    rw [GB_succ m c ⟨n, by omega⟩, put_read c hB oB _ _ _ _ n (off1_eq ⟨n, by omega⟩)]
    split
    · rfl
    · exact GB_rows c n (by omega) y (by omega)

theorem GC_rows (c : Dev nD) : ∀ n : ℕ, n ≤ 64 → ∀ y : S4096x4096.Idx, (y 0).val < 64 * n →
    View.read (Elt F) oC.view (GC m c n) y = rounded c hC (V m c main_v2) y
  | 0, _, y, hy => absurd hy (by omega)
  | n + 1, hn, y, hy => by
    have hN : grid0.N = 64 := N_0
    rw [GC_succ m c ⟨n, by omega⟩, put_read c hC oC _ _ _ _ n (off1_eq ⟨n, by omega⟩)]
    split
    · rfl
    · exact GC_rows c n (by omega) y (by omega)

/-- The weights as the region finds them: the arguments without their leading axis. -/
theorem V_v0 (c : Dev nD) : V m c main_v0 = shapeCast _ (m ((c.tc : Thread nD τ).loc main_arg4)) shapeCasts_S1x4096x4096_S4096x4096 := by
  unfold V hostOps0
  after_results_simp <;> rfl
theorem V_v1 (c : Dev nD) : V m c main_v1 = shapeCast _ (m ((c.tc : Thread nD τ).loc main_arg5)) shapeCasts_S1x4096x4096_S4096x4096 := by
  unfold V hostOps0
  after_results_simp <;> rfl
theorem V_v2 (c : Dev nD) : V m c main_v2 = shapeCast _ (m ((c.tc : Thread nD τ).loc main_arg6)) shapeCasts_S1x4096x4096_S4096x4096 := by
  unfold V hostOps0
  after_results_simp <;> rfl

theorem endA (c : Dev nD) : Gend m c main_v3_1 = truncf .bf16 (shapeCast _ (m ((c.tc : Thread nD τ).loc main_arg4)) shapeCasts_S1x4096x4096_S4096x4096) bitsLt_bf16_f32 := by
  rw [Gend_A, ← V_v0]
  funext y
  exact GA_rows m c 64 le_rfl y (y 0).isLt
theorem endB (c : Dev nD) : Gend m c main_v3_2 = truncf .bf16 (shapeCast _ (m ((c.tc : Thread nD τ).loc main_arg5)) shapeCasts_S1x4096x4096_S4096x4096) bitsLt_bf16_f32 := by
  rw [Gend_B, ← V_v1]
  funext y
  exact GB_rows m c 64 le_rfl y (y 0).isLt
theorem endC (c : Dev nD) : Gend m c main_v3_3 = truncf .bf16 (shapeCast _ (m ((c.tc : Thread nD τ).loc main_arg6)) shapeCasts_S1x4096x4096_S4096x4096) bitsLt_bf16_f32 := by
  rw [Gend_C, ← V_v2]
  funext y
  exact GC_rows m c 64 le_rfl y (y 0).isLt

end Cert.KernelIdeal.Attn

end
-- ==== Proof.AttnIdeal.Head.lean ====
/-
  One head's gated output as a formula. The four heads of a step are written out one after another in the
  kernel, each the same operations; here they are one function, read at an index over the extended reals.
-/
module

public import proofs.«01_k».proof.Proof.AttnIdeal.Block
public import Idealize.ShloMosaic.Lib.ValueLayout
public import Idealize.ShloMosaic.Lib.ValueIdx
public import Idealize.ShloMosaic.Lib.MatmulPlain
public import Idealize.ShloMosaic.Lib.IdealHost

@[expose] public section

noncomputable section

namespace Cert.KernelIdeal.Attn

open Cert.KernelIdeal Cert.KernelIdeal.Gen
open Idealize.ShloMosaic Idealize.ShloMosaic.ValueIdx
open scoped BigOperators

section Common
variable {F : FTy → Type} [FloatOps F]

/-- A chunk's scores, keys down, queries across. -/
def sc (K : Vec F S1152x128 .bf16) (Q : Vec F S1024x128 .bf16) : FVec F S1152x1024 .f32 :=
  matmul dot_S1152x128_S1024x128_S1152x1024_1_1_0_0_n_n none K Q (constant S1152x1024 .f32 0x00000000#32)

/-- A chunk's scores folded by maximum to 576 rows. -/
def f576 (S : FVec F S1152x1024 .f32) : FVec F S576x1024 .f32 :=
  maximumf (extractStridedSlice S576x1024 ![0, 0] S slices_S1152x1024_o0_0_S576x1024) (extractStridedSlice S576x1024 ![576, 0] S slices_S1152x1024_o576_0_S576x1024)
/-- … to 288 rows … -/
def f288 (S : FVec F S576x1024 .f32) : FVec F S288x1024 .f32 :=
  maximumf (extractStridedSlice S288x1024 ![0, 0] S slices_S576x1024_o0_0_S288x1024) (extractStridedSlice S288x1024 ![288, 0] S slices_S576x1024_o288_0_S288x1024)
/-- … to 144 rows … -/
def f144 (S : FVec F S288x1024 .f32) : FVec F S144x1024 .f32 :=
  maximumf (extractStridedSlice S144x1024 ![0, 0] S slices_S288x1024_o0_0_S144x1024) (extractStridedSlice S144x1024 ![144, 0] S slices_S288x1024_o144_0_S144x1024)
/-- … and to 72 rows. -/
def f72 (S : FVec F S144x1024 .f32) : FVec F S72x1024 .f32 :=
  maximumf (extractStridedSlice S72x1024 ![0, 0] S slices_S144x1024_o0_0_S72x1024) (extractStridedSlice S72x1024 ![72, 0] S slices_S144x1024_o72_0_S72x1024)

/-- Every query's greatest score over the two chunks. -/
def top (S0 S1 : FVec F S1152x1024 .f32) : FVec F S1x1024 .f32 :=
  shapeCast S1x1024 (multiReduction .maximumf [0] S1024 (maximumf (f72 (f144 (f288 (f576 S0)))) (f72 (f144 (f288 (f576 S1))))) 0xFF800000#32
    reduces_S72x1024_S1024 (.inl rfl) rfl) shapeCasts_S1024_S1x1024

/-- A chunk's weighted sums: the values' rows and, below them, the rows of ones. -/
def part (V : Vec F S144x1152 .bf16) (S : FVec F S1152x1024 .f32) (m : FVec F S1x1024 .f32) : FVec F S144x1024 .f32 :=
  matmul dot_S144x1152_S1152x1024_S144x1024_1_0_0_1_n_n none V
    (truncf .bf16 (exp2 (subf S (broadcastTo S1152x1024 m broadcasts_S1x1024_S1152x1024))) bitsLt_bf16_f32 : FVec F S1152x1024 .bf16)
    (constant S144x1024 .f32 0x00000000#32)

/-- The quotient by row 128, transposed and gated. -/
def gated (A : FVec F S144x1024 .f32) (G : Vec F S1024x128 .bf16) : FVec F S1024x128 .bf16 :=
  truncf .bf16 (mulf (transpose S1024x128 [1, 0]
      (divf (extractStridedSlice S128x1024 ![0, 0] A slices_S144x1024_o0_0_S128x1024)
        (broadcastTo S128x1024 (extractStridedSlice S1x1024 ![128, 0] A slices_S144x1024_o128_0_S1x1024) broadcasts_S1x1024_S128x1024))
      transposes_S128x1024_p1_0_S1024x128) (extf .f32 G bitsLt_bf16_f32)) bitsLt_bf16_f32

/-- A head. -/
def headF (Q : Vec F S1024x128 .bf16) (K0 K1 : Vec F S1152x128 .bf16) (V0 V1 : Vec F S144x1152 .bf16) (G : Vec F S1024x128 .bf16) :
    FVec F S1024x128 .bf16 :=
  gated (addf (part V0 (sc K0 Q) (top (sc K0 Q) (sc K1 Q))) (part V1 (sc K1 Q) (top (sc K0 Q) (sc K1 Q)))) G

theorem head0_eq (Q : Vec F S1024x128 .bf16) (K0 K1 : Vec F S1152x128 .bf16) (V0 V1 : Vec F S144x1152 .bf16) (G : Vec F S1024x128 .bf16) :
    head0 Q K0 K1 V0 V1 G = headF Q K0 K1 V0 V1 G := rfl
theorem head1_eq (Q : Vec F S1024x128 .bf16) (K0 K1 : Vec F S1152x128 .bf16) (V0 V1 : Vec F S144x1152 .bf16) (G : Vec F S1024x128 .bf16) :
    head1 Q K0 K1 V0 V1 G = headF Q K0 K1 V0 V1 G := rfl
theorem head2_eq (Q : Vec F S1024x128 .bf16) (K0 K1 : Vec F S1152x128 .bf16) (V0 V1 : Vec F S144x1152 .bf16) (G : Vec F S1024x128 .bf16) :
    head2 Q K0 K1 V0 V1 G = headF Q K0 K1 V0 V1 G := rfl
theorem head3_eq (Q : Vec F S1024x128 .bf16) (K0 K1 : Vec F S1152x128 .bf16) (V0 V1 : Vec F S144x1152 .bf16) (G : Vec F S1024x128 .bf16) :
    head3 Q K0 K1 V0 V1 G = headF Q K0 K1 V0 V1 G := rfl

end Common

/-- A score is the inner product of a key and a query. -/
theorem sc_apply (K : Vec Ideal S1152x128 .bf16) (Q : Vec Ideal S1024x128 .bf16) (k : Fin 1152) (r : Fin 1024) :
    sc K Q (ix2 k r) = ∑ e : Fin 128, (K (ix2 k e) : EReal) * Q (ix2 r e) := by
  refine (Ideal.matmul_transposedRhs_apply none K Q (constant S1152x1024 .f32 0x00000000#32) k r).trans ?_
  rw [constant_apply, Ideal.ofBits_zero_f32, zero_add]

/-- A fold of the two halves of the rows by maximum is bounded exactly when every row is. -/
theorem fold_le {n N : ℕ} (hN : N = n + n) (S : (⟨2, ![N, 1024]⟩ : Shape).Idx → EReal)
    (h0 : (⟨2, ![N, 1024]⟩ : Shape).Slices ![0, 0] ⟨2, ![n, 1024]⟩) (h1 : (⟨2, ![N, 1024]⟩ : Shape).Slices ![n, 0] ⟨2, ![n, 1024]⟩)
    (r : Fin 1024) (z : EReal) :
    (∀ k : Fin n, max (extractStridedSlice ⟨2, ![n, 1024]⟩ ![0, 0] S h0 (ix2 k r)) (extractStridedSlice ⟨2, ![n, 1024]⟩ ![n, 0] S h1 (ix2 k r)) ≤ z)
      ↔ ∀ k : Fin N, S (ix2 k r) ≤ z := by
  subst hN
  constructor
  · intro h k
    by_cases hk : k.val < n
    · have := (max_le_iff.1 (h ⟨k.val, hk⟩)).1
      rwa [slice2_axis0_apply 0 S h0 _ _ k (by simp)] at this
    · have := (max_le_iff.1 (h ⟨k.val - n, by omega⟩)).2
      rwa [slice2_axis0_apply n S h1 _ _ k (by show k.val = n + (k.val - n); omega)] at this
  · intro h k
    rw [slice2_axis0_apply 0 S h0 k r ⟨k.val, by omega⟩ (by simp), slice2_axis0_apply n S h1 k r ⟨n + k.val, by omega⟩ rfl]
    exact max_le (h _) (h _)

/-- A left fold by maximum is bounded exactly when its start and every term are. -/
theorem foldl_max_le {ι : Type} (f : ι → EReal) (z : EReal) :
    ∀ (l : List ι) (b : EReal), l.foldl (fun r i => max r (f i)) b ≤ z ↔ b ≤ z ∧ ∀ i ∈ l, f i ≤ z
  | [], b => by simp
  | a :: l, b => by rw [List.foldl_cons, foldl_max_le f z l, max_le_iff]; simp [and_assoc]

/-- The f32 word of minus infinity. -/
theorem ofBits_neg_inf : Ideal.ofBits .f32 0xFF800000#32 = (⊥ : EReal) := by
  simp [Ideal.ofBits, Ideal.ieee]

/-- The greatest score is bounded exactly when every score of the two chunks is. -/
theorem top_le (S0 S1 : FVec Ideal S1152x1024 .f32) (r : Fin 1024) (z : EReal) :
    (top S0 S1 (ix2 (0 : Fin 1) r) : EReal) ≤ z ↔ (∀ k : Fin 1152, (S0 (ix2 k r) : EReal) ≤ z) ∧ ∀ k : Fin 1152, (S1 (ix2 k r) : EReal) ≤ z := by
  have hch : ∀ S : FVec Ideal S1152x1024 .f32, (∀ k : Fin 72, (f72 (f144 (f288 (f576 S))) (ix2 k r) : EReal) ≤ z) ↔ ∀ k : Fin 1152, (S (ix2 k r) : EReal) ≤ z := fun S =>
    (fold_le (n := 72) (N := 144) rfl _ _ _ r z).trans <| (fold_le (n := 144) (N := 288) rfl _ _ _ r z).trans <|
      (fold_le (n := 288) (N := 576) rfl _ _ _ r z).trans <| fold_le (n := 576) (N := 1152) rfl S _ _ r z
  rw [← hch S0, ← hch S1, ← forall_and]
  rw [(show (top S0 S1 (ix2 (0 : Fin 1) r) : EReal) = _ from (shapeCast_a_1a_apply _ _ _ _).trans
    (reduceFold_eq_foldl reduces_S72x1024_S1024 FloatOps.maximumf (FloatOps.ofBits (F := Ideal) .f32 0xFF800000#32)
      (maximumf (f72 (f144 (f288 (f576 S0)))) (f72 (f144 (f288 (f576 S1))))) (ix1 r)))]
  refine (foldl_max_le _ z _ _).trans ?_
  constructor
  · rintro ⟨-, h⟩ k
    refine max_le_iff.1 (h (ix2 k r) ?_)
    rw [List.mem_filter]
    refine ⟨List.mem_map.2 ⟨S72x1024.rowMajor (ix2 k r), List.mem_finRange _, Equiv.symm_apply_apply _ _⟩, ?_⟩
    refine decide_eq_true (funext fun b => Fin.ext ?_)
    have hb : b = 0 := Subsingleton.elim _ _
    subst hb
    exact Shape.Reduces.drop_val _ _ _
  · intro h
    refine ⟨(ofBits_neg_inf ▸ bot_le : Ideal.ofBits .f32 0xFF800000#32 ≤ z), fun i hi => ?_⟩
    rw [List.mem_filter] at hi
    have hd : (i 1).val = r.val := by
      have := congrArg (fun j : S1024.Idx => (j 0).val) (of_decide_eq_true hi.2)
      exact ((Shape.Reduces.drop_val reduces_S72x1024_S1024 i 0).symm.trans this)
    have hi2 : i = ix2 (i 0) r := by
      rw [eq_ix2 i]; congr 1; exact Fin.ext hd
    rw [hi2]
    exact max_le_iff.2 (h (i 0))

/-- A chunk's weighted sum at an index. -/
theorem part_apply (V : Vec Ideal S144x1152 .bf16) (S : FVec Ideal S1152x1024 .f32) (m : FVec Ideal S1x1024 .f32) (d : Fin 144) (r : Fin 1024) :
    part V S m (ix2 d r) = ∑ k : Fin 1152, (V (ix2 d k) : EReal) * Ideal.exp2 (S (ix2 k r) - m (ix2 (0 : Fin 1) r)) := by
  refine (Ideal.matmul_plain_apply none V _ (constant S144x1024 .f32 0x00000000#32) d r).trans ?_
  rw [constant_apply, Ideal.ofBits_zero_f32, zero_add]
  refine Finset.sum_congr rfl fun k _ => congrArg (V (ix2 d k) * ·) ?_
  show Ideal.exp2 (S (ix2 k r) - broadcastTo S1152x1024 m broadcasts_S1x1024_S1152x1024 (ix2 k r)) = _
  rw [broadcastTo_1b_ab_apply]

/-- The gated quotient at an index. -/
theorem gated_apply (A : FVec Ideal S144x1024 .f32) (G : Vec Ideal S1024x128 .bf16) (r : Fin 1024) (d : Fin 128) :
    gated A G (ix2 r d) = Ideal.div (A (ix2 (⟨d.val, by omega⟩ : Fin 144) r)) (A (ix2 (⟨128, by omega⟩ : Fin 144) r)) * (G (ix2 r d) : EReal) := by
  unfold gated
  rw [truncf_apply, mulf_apply, extf_apply, transpose_ix2_apply, divf_apply, broadcastTo_1b_ab_apply,
    slice2_axis0_apply 0 A _ d r ⟨d.val, by omega⟩ (by simp), slice2_axis0_apply 128 A _ (0 : Fin 1) r ⟨128, by omega⟩ (by simp)]

/-- A head at an index. -/
theorem headF_apply (Q : Vec Ideal S1024x128 .bf16) (K0 K1 : Vec Ideal S1152x128 .bf16) (V0 V1 : Vec Ideal S144x1152 .bf16) (G : Vec Ideal S1024x128 .bf16)
    (r : Fin 1024) (d : Fin 128) :
    ∃ M : EReal, (∀ z, M ≤ z ↔ (∀ k : Fin 1152, (sc K0 Q (ix2 k r) : EReal) ≤ z) ∧ ∀ k : Fin 1152, (sc K1 Q (ix2 k r) : EReal) ≤ z) ∧
      headF Q K0 K1 V0 V1 G (ix2 r d) =
        Ideal.div
          ((∑ k : Fin 1152, (V0 (ix2 (⟨d.val, by omega⟩ : Fin 144) k) : EReal) * Ideal.exp2 (sc K0 Q (ix2 k r) - M))
            + ∑ k : Fin 1152, (V1 (ix2 (⟨d.val, by omega⟩ : Fin 144) k) : EReal) * Ideal.exp2 (sc K1 Q (ix2 k r) - M))
          ((∑ k : Fin 1152, (V0 (ix2 (⟨128, by omega⟩ : Fin 144) k) : EReal) * Ideal.exp2 (sc K0 Q (ix2 k r) - M))
            + ∑ k : Fin 1152, (V1 (ix2 (⟨128, by omega⟩ : Fin 144) k) : EReal) * Ideal.exp2 (sc K1 Q (ix2 k r) - M))
          * (G (ix2 r d) : EReal) := by
  refine ⟨top (sc K0 Q) (sc K1 Q) (ix2 (0 : Fin 1) r), top_le _ _ r, ?_⟩
  unfold headF
  rw [gated_apply, addf_apply, addf_apply, part_apply, part_apply, part_apply, part_apply]

end Cert.KernelIdeal.Attn

end
-- ==== Proof.AttnIdeal.Tiles.lean ====
/-
  What a grid step computes, at an index: the two panels row by row, and the output block as the softmax quotient of
  the panels' 2304 keys.
-/
module

public import proofs.«01_k».proof.Proof.AttnIdeal.Head
public import Idealize.ShloMosaic.Lib.Pipeline.ValueKit.Tiles

@[expose] public section

noncomputable section

namespace Cert.KernelIdeal.Attn

open Cert.KernelIdeal Cert.KernelIdeal.Gen
open Idealize.ShloMosaic Idealize.ShloMosaic.ValueIdx
open scoped BigOperators

/-! ## The panels -/

theorem pay2_apply (X : Vec Ideal S2048x128 .bf16) (x : S2048x128.Idx) : k0_pay2 X x = X x := shapeCast_apply X _ x x rfl
theorem pay3_apply (X : Vec Ideal S256x128 .bf16) (x : S256x128.Idx) : k0_pay3 X x = X x := shapeCast_apply X _ x x rfl
theorem pay4_apply (X : Vec Ideal S2048x128 .bf16) (d : Fin 128) (k : Fin 2048) : k0_pay4 X (ix2 d k) = X (ix2 k d) :=
  (shapeCast_apply _ shapeCasts_S128x2048_S128x2048 (ix2 d k) (ix2 d k) rfl).trans (transpose_ix2_apply _ transposes_S2048x128_p1_0_S128x2048 d k)
theorem pay5_apply (X : Vec Ideal S256x128 .bf16) (d : Fin 128) (k : Fin 256) : k0_pay5 X (ix2 d k) = X (ix2 k d) :=
  (shapeCast_apply _ shapeCasts_S128x256_S128x256 (ix2 d k) (ix2 d k) rfl).trans (transpose_ix2_apply _ transposes_S256x128_p1_0_S128x256 d k)

theorem pay6_apply (x : S16x2304.Idx) : k0_pay6 (F := Ideal) x = (1 : EReal) :=
  (shapeCast_apply (broadcast S16x2304 (Scalar.ofBits (F := Ideal) .bf16 0x3F80#16)) shapeCasts_S16x2304_S16x2304 x x rfl).trans Ideal.ofBits_one_bf16

/-- The keys panel: the latent keys, then the context keys. -/
theorem KB_apply (x4 : Vec Ideal S2048x128 .bf16) (x6 : Vec Ideal S256x128 .bf16) (k : Fin 2304) (e : Fin 128) :
    KB x4 x6 (ix2 k e) = if h : k.val < 2048 then x4 (ix2 (⟨k.val, h⟩ : Fin 2048) e) else x6 (ix2 (⟨k.val - 2048, by omega⟩ : Fin 256) e) := by
  refine View.canon_eq_of_allAt _ _ _ (KL_cover x4 x6 _) ?_
  unfold KL
  refine View.allAt_cons_unit _ _ _ _ _ (fun x hx => ?_) (View.allAt_cons_unit _ _ _ _ _ (fun x hx => ?_) (View.allAt_nil _ _))
  · have h0 : k.val = 2048 + (x 0).val := hx 0
    have h1 : e.val = 0 + (x 1).val := hx 1
    rw [dif_neg (by omega)]
    refine (pay3_apply _ x).trans (View.ld_unit_apply_of _ _ _ _ _ _ fun a => ?_)
    fin_cases a
    · show k.val - 2048 = 0 + (x 0).val; omega
    · show e.val = 0 + (x 1).val; omega
  · have h0 : k.val = 0 + (x 0).val := hx 0
    have h1 : e.val = 0 + (x 1).val := hx 1
    have hb : (x 0).val < 2048 := (x 0).isLt
    rw [dif_pos (by omega)]
    refine (pay2_apply _ x).trans (View.ld_unit_apply_of _ _ _ _ _ _ fun a => ?_)
    fin_cases a
    · show k.val = 0 + (x 0).val; omega
    · show e.val = 0 + (x 1).val; omega

/-- The values panel's first 128 rows: the latent values transposed, then the context values. -/
theorem VB_apply (x5 : Vec Ideal S2048x128 .bf16) (x7 : Vec Ideal S256x128 .bf16) (d : Fin 128) (k : Fin 2304) :
    VB x5 x7 (ix2 (⟨d.val, by omega⟩ : Fin 144) k)
      = if h : k.val < 2048 then x5 (ix2 (⟨k.val, h⟩ : Fin 2048) d) else x7 (ix2 (⟨k.val - 2048, by omega⟩ : Fin 256) d) := by
  refine View.canon_eq_of_allAt _ _ _ (VL_cover x5 x7 _) ?_
  unfold VL
  refine View.allAt_cons_unit _ _ _ _ _ (fun x hx => ?_) (View.allAt_cons_unit _ _ _ _ _ (fun x hx => ?_)
    (View.allAt_cons_unit _ _ _ _ _ (fun x hx => ?_) (View.allAt_nil _ _)))
  · have h0 : d.val = 128 + (x 0).val := hx 0
    omega
  · have h0 : d.val = 0 + (x 0).val := hx 0
    have h1 : k.val = 2048 + (x 1).val := hx 1
    rw [dif_neg (by omega)]
    refine (congrArg _ (eq_ix2 x)).trans ((pay5_apply _ (x 0) (x 1)).trans ?_)
    refine View.ld_unit_apply_of _ _ _ _ _ _ fun a => ?_
    fin_cases a
    · show k.val - 2048 = 0 + (x 1).val; omega
    · show d.val = 0 + (x 0).val; omega
  · have h0 : d.val = 0 + (x 0).val := hx 0
    have h1 : k.val = 0 + (x 1).val := hx 1
    have hb : (x 1).val < 2048 := (x 1).isLt
    rw [dif_pos (by omega)]
    refine (congrArg _ (eq_ix2 x)).trans ((pay4_apply _ (x 0) (x 1)).trans ?_)
    refine View.ld_unit_apply_of _ _ _ _ _ _ fun a => ?_
    fin_cases a
    · show k.val = 0 + (x 1).val; omega
    · show d.val = 0 + (x 0).val; omega

/-- The values panel's row 128: ones. -/
theorem VB_one (x5 : Vec Ideal S2048x128 .bf16) (x7 : Vec Ideal S256x128 .bf16) (k : Fin 2304) :
    VB x5 x7 (ix2 (⟨128, by omega⟩ : Fin 144) k) = (1 : EReal) := by
  refine View.canon_eq_of_allAt _ _ _ (VL_cover x5 x7 _) ?_
  unfold VL
  refine View.allAt_cons_unit _ _ _ _ _ (fun x hx => ?_) (View.allAt_cons_unit _ _ _ _ _ (fun x hx => ?_)
    (View.allAt_cons_unit _ _ _ _ _ (fun x hx => ?_) (View.allAt_nil _ _)))
  · exact pay6_apply x
  · have h0 : 128 = 0 + (x 0).val := hx 0
    have hb : (x 0).val < 128 := (x 0).isLt
    omega
  · have h0 : 128 = 0 + (x 0).val := hx 0
    have hb : (x 0).val < 128 := (x 0).isLt
    omega

/-! ## The output block -/

/-- Column `d` of head `j` of the group. -/
abbrev col (j : Fin 4) (d : Fin 128) : Fin 512 := ⟨128 * j.val + d.val, by omega⟩

/-- A head's columns of a block. -/
abbrev cols (x : Vec Ideal S1024x512 .bf16) (j : Fin 4) : Vec Ideal S1024x128 .bf16 := fun y => x (ix2 (y 0) (col j (y 1)))

abbrev keys0 (K : Vec Ideal S2304x128 .bf16) : Vec Ideal S1152x128 .bf16 := fun y => K (ix2 (Fin.castAdd 1152 (y 0)) (y 1))
abbrev keys1 (K : Vec Ideal S2304x128 .bf16) : Vec Ideal S1152x128 .bf16 := fun y => K (ix2 (Fin.natAdd 1152 (y 0)) (y 1))
abbrev vals0 (V : Vec Ideal S144x2304 .bf16) : Vec Ideal S144x1152 .bf16 := fun y => V (ix2 (y 0) (Fin.castAdd 1152 (y 1)))
abbrev vals1 (V : Vec Ideal S144x2304 .bf16) : Vec Ideal S144x1152 .bf16 := fun y => V (ix2 (y 0) (Fin.natAdd 1152 (y 1)))

theorem ld_cols (x : Vec Ideal S1024x512 .bf16) (j : Fin 4) (o : ℕ) (ho : o = 128 * j.val) (h : ∀ a, (![0, o] : Fin 2 → ℕ) a + S1024x128.size a ≤ S1024x512.size a) :
    View.ld x (Rect.unit (s := S1024x512) ![0, o] S1024x128.size h) = cols x j := by
  funext y
  refine View.ld_unit_apply_of _ _ _ _ _ _ fun a => ?_
  fin_cases a
  · show (y 0).val = 0 + (y 0).val; omega
  · show 128 * j.val + (y 1).val = o + (y 1).val; omega

theorem ld_keys0 (K : Vec Ideal S2304x128 .bf16) :
    View.ld K (Rect.unit (s := S2304x128) ![0, 0] S1152x128.size inb_S2304x128_S1152x128_0_0) = keys0 K := by
  funext y
  refine View.ld_unit_apply_of _ _ _ _ _ _ fun a => ?_
  fin_cases a
  · show (y 0).val = 0 + (y 0).val; omega
  · show (y 1).val = 0 + (y 1).val; omega

theorem ld_keys1 (K : Vec Ideal S2304x128 .bf16) :
    View.ld K (Rect.unit (s := S2304x128) ![1152, 0] S1152x128.size inb_S2304x128_S1152x128_1152_0) = keys1 K := by
  funext y
  refine View.ld_unit_apply_of _ _ _ _ _ _ fun a => ?_
  fin_cases a
  · show 1152 + (y 0).val = 1152 + (y 0).val; omega
  · show (y 1).val = 0 + (y 1).val; omega

theorem ld_vals0 (V : Vec Ideal S144x2304 .bf16) :
    View.ld V (Rect.unit (s := S144x2304) ![0, 0] S144x1152.size inb_S144x2304_S144x1152_0_0) = vals0 V := by
  funext y
  refine View.ld_unit_apply_of _ _ _ _ _ _ fun a => ?_
  fin_cases a
  · show (y 0).val = 0 + (y 0).val; omega
  · show (y 1).val = 0 + (y 1).val; omega

theorem ld_vals1 (V : Vec Ideal S144x2304 .bf16) :
    View.ld V (Rect.unit (s := S144x2304) ![0, 1152] S144x1152.size inb_S144x2304_S144x1152_0_1152) = vals1 V := by
  funext y
  refine View.ld_unit_apply_of _ _ _ _ _ _ fun a => ?_
  fin_cases a
  · show (y 0).val = 0 + (y 0).val; omega
  · show 1152 + (y 1).val = 1152 + (y 1).val; omega

/-- The piece stored at a head's columns has the head's value there, and no other piece reaches them. -/
theorem piece_at (x3 : Vec Ideal S1024x512 .bf16) (K : Vec Ideal S2304x128 .bf16) (V : Vec Ideal S144x2304 .bf16) (x8 : Vec Ideal S1024x512 .bf16)
    (r : Fin 1024) (j i : Fin 4) (d : Fin 128) (o : ℕ) (ho : o = 128 * i.val) (h : ∀ a, (![0, o] : Fin 2 → ℕ) a + S1024x128.size a ≤ S1024x512.size a) :
    View.TileAt (Val := Elt Ideal) (S := S1024x512) (e := .bf16) (ix2 r (col j d)) ![0, o] S1024x128.size
      (headF (View.ld x3 (Rect.unit (s := S1024x512) ![0, o] S1024x128.size h)) (View.ld K (Rect.unit (s := S2304x128) ![0, 0] S1152x128.size inb_S2304x128_S1152x128_0_0)) (View.ld K (Rect.unit (s := S2304x128) ![1152, 0] S1152x128.size inb_S2304x128_S1152x128_1152_0)) (View.ld V (Rect.unit (s := S144x2304) ![0, 0] S144x1152.size inb_S144x2304_S144x1152_0_0)) (View.ld V (Rect.unit (s := S144x2304) ![0, 1152] S144x1152.size inb_S144x2304_S144x1152_0_1152)) (View.ld x8 (Rect.unit (s := S1024x512) ![0, o] S1024x128.size h)))
      (headF (cols x3 j) (keys0 K) (keys1 K) (vals0 V) (vals1 V) (cols x8 j) (ix2 r d)) := by
  intro x hx
  have h0 : r.val = 0 + (x 0).val := hx 0
  have h1 : 128 * j.val + d.val = o + (x 1).val := hx 1
  have hb : (x 1).val < 128 := (x 1).isLt
  obtain rfl : i = j := Fin.ext (by omega)
  rw [ld_cols x3 i o ho, ld_cols x8 i o ho, ld_keys0, ld_keys1, ld_vals0, ld_vals1]
  refine congrArg _ ?_
  funext a; apply Fin.ext
  fin_cases a
  · show (x 0).val = r.val; omega
  · show (x 1).val = d.val; omega

theorem outB_at (x3 : Vec Ideal S1024x512 .bf16) (K : Vec Ideal S2304x128 .bf16) (V : Vec Ideal S144x2304 .bf16) (x8 : Vec Ideal S1024x512 .bf16)
    (r : Fin 1024) (j : Fin 4) (d : Fin 128) :
    outB x3 K V x8 (ix2 r (col j d)) = headF (cols x3 j) (keys0 K) (keys1 K) (vals0 V) (vals1 V) (cols x8 j) (ix2 r d) := by
  refine View.canon_eq_of_allAt _ _ _ (OL_cover x3 K V x8 _) ?_
  unfold OL
  rw [head0_eq, head1_eq, head2_eq, head3_eq]
  exact View.allAt_cons_unit _ _ _ _ _ (piece_at x3 K V x8 r j 3 d 384 rfl _) (View.allAt_cons_unit _ _ _ _ _ (piece_at x3 K V x8 r j 2 d 256 rfl _)
    (View.allAt_cons_unit _ _ _ _ _ (piece_at x3 K V x8 r j 1 d 128 rfl _) (View.allAt_cons_unit _ _ _ _ _ (piece_at x3 K V x8 r j 0 d 0 rfl _) (View.allAt_nil _ _))))

/-- Key `k`'s score for query row `r` of head `j`. -/
def bscore (x3 : Vec Ideal S1024x512 .bf16) (K : Vec Ideal S2304x128 .bf16) (r : Fin 1024) (j : Fin 4) (k : Fin 2304) : EReal :=
  ∑ e : Fin 128, (K (ix2 k e) : EReal) * x3 (ix2 r (col j e))

theorem sum_chunks (f : Fin 2304 → EReal) : ∑ k, f k = (∑ k : Fin 1152, f (Fin.castAdd 1152 k)) + ∑ k : Fin 1152, f (Fin.natAdd 1152 k) :=
  Fin.sum_univ_add (a := 1152) (b := 1152) f

theorem forall_chunks (p : Fin 2304 → Prop) : ((∀ k : Fin 1152, p (Fin.castAdd 1152 k)) ∧ ∀ k : Fin 1152, p (Fin.natAdd 1152 k)) ↔ ∀ k, p k :=
  (Fin.forall_fin_add (m := 1152) (n := 1152) (P := p)).symm

/-- The output block at an index: the quotient of the weighted sums over all keys, gated. -/
theorem outB_apply (x3 : Vec Ideal S1024x512 .bf16) (K : Vec Ideal S2304x128 .bf16) (V : Vec Ideal S144x2304 .bf16) (x8 : Vec Ideal S1024x512 .bf16)
    (r : Fin 1024) (j : Fin 4) (d : Fin 128) :
    ∃ M : EReal, (∀ z, M ≤ z ↔ ∀ k, bscore x3 K r j k ≤ z) ∧
      outB x3 K V x8 (ix2 r (col j d)) =
        Ideal.div (∑ k, (V (ix2 (⟨d.val, by omega⟩ : Fin 144) k) : EReal) * Ideal.exp2 (bscore x3 K r j k - M))
          (∑ k, (V (ix2 (⟨128, by omega⟩ : Fin 144) k) : EReal) * Ideal.exp2 (bscore x3 K r j k - M)) * (x8 (ix2 r (col j d)) : EReal) := by
  obtain ⟨M, hM, he⟩ := headF_apply (cols x3 j) (keys0 K) (keys1 K) (vals0 V) (vals1 V) (cols x8 j) r d
  have s0 : ∀ k : Fin 1152, (sc (keys0 K) (cols x3 j) (ix2 k r) : EReal) = bscore x3 K r j (Fin.castAdd 1152 k) := fun k => sc_apply _ _ k r
  have s1 : ∀ k : Fin 1152, (sc (keys1 K) (cols x3 j) (ix2 k r) : EReal) = bscore x3 K r j (Fin.natAdd 1152 k) := fun k => sc_apply _ _ k r
  refine ⟨M, fun z => (hM z).trans ?_, (outB_at x3 K V x8 r j d).trans (he.trans ?_)⟩
  · simp only [s0, s1]
    exact forall_chunks fun k => bscore x3 K r j k ≤ z
  · simp only [s0, s1]
    rw [sum_chunks, sum_chunks]
    rfl

end Cert.KernelIdeal.Attn

end
-- ==== Proof.AttnIdeal.Windows.lean ====
/-
  The blocks a grid step reads, at an index of the argument arrays. Step t works on batch t / 16, key group
  t / 2 mod 8 and query half t mod 2.
-/
module

public import proofs.«01_k».proof.Proof.AttnIdeal.Frame
public import Idealize.ShloMosaic.Lib.Pipeline.ValueKit.Geometry
public import Idealize.ShloMosaic.Lib.ValueIdx

@[expose] public section

set_option maxRecDepth 16384

noncomputable section

namespace Cert.KernelIdeal.Attn

open Cert.KernelIdeal Cert.KernelIdeal.Gen
open Idealize.ShloMosaic Idealize.ShloMosaic.TcCoe Idealize.ShloMosaic.ValueIdx
open Idealize.ShloMosaic.Pipeline (Dat Cfg Window)

variable {F : FTy → Type} [FloatOps F] (m : (ℓ : Loc nD τ sig) → Buf (Elt F) ℓ)

theorem ix0' : ∀ t : Fin cfg0.N, win0_0.index t = ![t.val / 16 * 2 + t.val % 2, t.val / 2 % 8] :=
  (by decide +kernel : ∀ t : Fin grid0.N, _)
theorem ix1' : ∀ t : Fin cfg0.N, win0_1.index t = ![t.val / 16, t.val / 2 % 8] :=
  (by decide +kernel : ∀ t : Fin grid0.N, _)
theorem ix2' : ∀ t : Fin cfg0.N, win0_2.index t = ![t.val / 16, t.val / 2 % 8] :=
  (by decide +kernel : ∀ t : Fin grid0.N, _)
theorem ix3' : ∀ t : Fin cfg0.N, win0_3.index t = ![32 + t.val / 16, t.val / 2 % 8] :=
  (by decide +kernel : ∀ t : Fin grid0.N, _)
theorem ix4' : ∀ t : Fin cfg0.N, win0_4.index t = ![32 + t.val / 16, t.val / 2 % 8] :=
  (by decide +kernel : ∀ t : Fin grid0.N, _)
theorem ix5' : ∀ t : Fin cfg0.N, win0_5.index t = ![t.val / 16 * 2 + t.val % 2, t.val / 2 % 8] :=
  (by decide +kernel : ∀ t : Fin grid0.N, _)
theorem ix6' : ∀ t : Fin cfg0.N, win0_6.index t = ![t.val / 16 * 2 + t.val % 2, t.val / 2 % 8] :=
  (by decide +kernel : ∀ t : Fin grid0.N, _)

/-- The queries of a step. -/
theorem q_apply (c : Dev nD) (t : Fin cfg0.N) (r : Fin 1024) (x : Fin 512) (R : Fin 8192) (C : Fin 4096)
    (hR : R.val = (t.val / 16 * 2 + t.val % 2) * 1024 + r.val) (hC : C.val = t.val / 2 % 8 * 512 + x.val) :
    iblk m c 0 t (ix2 r x) = m ((c : Thread nD τ).loc main_arg0) (ix2 R C) := by
  refine (show _ = V m c main_arg0 (ix2 R C) from ?_).trans (congrFun (V_main_arg0 m c) _)
  blk_simp [iblk]
  refine congrArg _ ?_
  funext a; apply Fin.ext
  fin_cases a
  · blk_simp [ix0']; exact hR.symm
  · blk_simp [ix0']; exact hC.symm

/-- The gates of a step. -/
theorem g_apply (c : Dev nD) (t : Fin cfg0.N) (r : Fin 1024) (x : Fin 512) (R : Fin 8192) (C : Fin 20480)
    (hR : R.val = (t.val / 16 * 2 + t.val % 2) * 1024 + r.val) (hC : C.val = t.val / 2 % 8 * 512 + x.val) :
    iblk m c 5 t (ix2 r x) = m ((c : Thread nD τ).loc main_arg3) (ix2 R C) := by
  refine (show _ = V m c main_arg3 (ix2 R C) from ?_).trans (congrFun (V_main_arg3 m c) _)
  blk_simp [iblk]
  refine congrArg _ ?_
  funext a; apply Fin.ext
  fin_cases a
  · blk_simp [ix5']; exact hR.symm
  · blk_simp [ix5']; exact hC.symm

/-- The context keys of a step. -/
theorem kc_apply (c : Dev nD) (t : Fin cfg0.N) (r : Fin 256) (x : Fin 128) (R : Fin 9216) (C : Fin 1024)
    (hR : R.val = (32 + t.val / 16) * 256 + r.val) (hC : C.val = t.val / 2 % 8 * 128 + x.val) :
    iblk m c 3 t (ix2 r x) = m ((c : Thread nD τ).loc main_arg1) (ix2 R C) := by
  refine (show _ = V m c main_arg1 (ix2 R C) from ?_).trans (congrFun (V_main_arg1 m c) _)
  blk_simp [iblk]
  refine congrArg _ ?_
  funext a; apply Fin.ext
  fin_cases a
  · blk_simp [ix3']; exact hR.symm
  · blk_simp [ix3']; exact hC.symm

/-- The context values of a step. -/
theorem vc_apply (c : Dev nD) (t : Fin cfg0.N) (r : Fin 256) (x : Fin 128) (R : Fin 9216) (C : Fin 1024)
    (hR : R.val = (32 + t.val / 16) * 256 + r.val) (hC : C.val = t.val / 2 % 8 * 128 + x.val) :
    iblk m c 4 t (ix2 r x) = m ((c : Thread nD τ).loc main_arg2) (ix2 R C) := by
  refine (show _ = V m c main_arg2 (ix2 R C) from ?_).trans (congrFun (V_main_arg2 m c) _)
  blk_simp [iblk]
  refine congrArg _ ?_
  funext a; apply Fin.ext
  fin_cases a
  · blk_simp [ix4']; exact hR.symm
  · blk_simp [ix4']; exact hC.symm

/-- The latent keys of a step. -/
theorem kl_apply (c : Dev nD) (t : Fin cfg0.N) (r : Fin 2048) (x : Fin 128) (R : Fin 9216) (C : Fin 1024)
    (hR : R.val = t.val / 16 * 2048 + r.val) (hC : C.val = t.val / 2 % 8 * 128 + x.val) :
    X0_1 m c t (ix2 r x) = m ((c : Thread nD τ).loc main_arg1) (ix2 R C) := by
  refine (show _ = V m c main_arg1 (ix2 R C) from ?_).trans (congrFun (V_main_arg1 m c) _)
  unfold X0_1 Pipeline.Window.fill
  rw [dif_pos (moved0_1 t _)]
  blk_simp [iblk]
  refine congrArg _ ?_
  funext a; apply Fin.ext
  fin_cases a
  · blk_simp [ix1']; exact hR.symm
  · blk_simp [ix1']; exact hC.symm

/-- The latent values of a step. -/
theorem vl_apply (c : Dev nD) (t : Fin cfg0.N) (r : Fin 2048) (x : Fin 128) (R : Fin 9216) (C : Fin 1024)
    (hR : R.val = t.val / 16 * 2048 + r.val) (hC : C.val = t.val / 2 % 8 * 128 + x.val) :
    X0_2 m c t (ix2 r x) = m ((c : Thread nD τ).loc main_arg2) (ix2 R C) := by
  refine (show _ = V m c main_arg2 (ix2 R C) from ?_).trans (congrFun (V_main_arg2 m c) _)
  unfold X0_2 Pipeline.Window.fill
  rw [dif_pos (moved0_2 t _)]
  blk_simp [iblk]
  refine congrArg _ ?_
  funext a; apply Fin.ext
  fin_cases a
  · blk_simp [ix2']; exact hR.symm
  · blk_simp [ix2']; exact hC.symm

end Cert.KernelIdeal.Attn

end
-- ==== Proof.AttnIdeal.Softmax.lean ====
/-
  Two ways of writing one softmax-weighted mean over the extended reals: base two, dividing once at the end
  (the kernel), and base e with every weight divided first (the reference). The scores are finite; the values
  need not be.
-/
module

public import Idealize.ShloMosaic.PureOps.Ideal
public import Mathlib.Data.EReal.Operations
public import Mathlib.Data.EReal.Inv

@[expose] public section

noncomputable section

namespace Cert.KernelIdeal.Attn

open Idealize.ShloMosaic
open scoped BigOperators

/-- A nonnegative real factor comes out of a finite sum, whatever extended reals are summed. -/
theorem sum_mul_coe {ι : Type} (u : Finset ι) (f : ι → EReal) {c : ℝ} (hc : 0 ≤ c) :
    (∑ k ∈ u, f k) * (c : EReal) = ∑ k ∈ u, f k * (c : EReal) := by
  classical
  induction u using Finset.induction_on with
  | empty => simp
  | insert a u ha ih =>
    rw [Finset.sum_insert ha, Finset.sum_insert ha, ← ih,
      EReal.right_distrib_of_nonneg_of_ne_top (EReal.coe_nonneg.2 hc) (EReal.coe_ne_top c)]

/-- A finite sum of reals, as an extended real. -/
theorem coe_sum {ι : Type} (u : Finset ι) (f : ι → ℝ) : ∑ k ∈ u, (f k : EReal) = ((∑ k ∈ u, f k : ℝ) : EReal) := by
  classical
  induction u using Finset.induction_on with
  | empty => simp
  | insert a u ha ih => rw [Finset.sum_insert ha, Finset.sum_insert ha, ih, EReal.coe_add]

/-- The least upper bound of finitely many reals is one of them. -/
theorem lub_real {ι : Type} [Fintype ι] [Nonempty ι] (t : ι → ℝ) (M : EReal) (hM : ∀ z, M ≤ z ↔ ∀ k, (t k : EReal) ≤ z) :
    ∃ k, M = (t k : EReal) ∧ ∀ j, t j ≤ t k := by
  obtain ⟨k, -, hk⟩ := Finset.exists_max_image Finset.univ t Finset.univ_nonempty
  refine ⟨k, le_antisymm ((hM _).2 fun j => EReal.coe_le_coe_iff.2 (hk j (Finset.mem_univ j))) ((hM M).1 le_rfl k), fun j => hk j (Finset.mem_univ j)⟩

/-- The two softmax-weighted means agree. -/
theorem softmax_eq {ι : Type} [Fintype ι] [Nonempty ι] (s v : ι → EReal) (hs : ∀ k, s k ≠ ⊤ ∧ s k ≠ ⊥) (M M' : EReal)
    (hM : ∀ z, M ≤ z ↔ ∀ k, s k ≤ z) (hM' : ∀ z, M' ≤ z ↔ ∀ k, s k * ((Real.log 2 : ℝ) : EReal) ≤ z) :
    Ideal.div (∑ k, v k * Ideal.exp2 (s k - M)) (∑ k, Ideal.exp2 (s k - M))
      = ∑ k, v k * Ideal.div (Ideal.exp (s k * ((Real.log 2 : ℝ) : EReal) - M'))
          (∑ j, Ideal.exp (s j * ((Real.log 2 : ℝ) : EReal) - M')) := by
  obtain ⟨t, rfl⟩ : ∃ t : ι → ℝ, s = fun k => (t k : EReal) :=
    ⟨fun k => (s k).toReal, funext fun k => (EReal.coe_toReal (hs k).1 (hs k).2).symm⟩
  have hl : 0 < Real.log 2 := Real.log_pos (by norm_num)
  obtain ⟨a, rfl, ha⟩ := lub_real t M hM
  obtain ⟨b, rfl, hb⟩ := lub_real (fun k => t k * Real.log 2) M' (by simpa only [EReal.coe_mul] using hM')
  have hab : t a * Real.log 2 = t b * Real.log 2 :=
    le_antisymm (hb a) (mul_le_mul_of_nonneg_right (ha b) hl.le)
  set p : ι → ℝ := fun k => Real.rpow 2 (t k - t a) with hp
  have e1 : ∀ k, Ideal.exp2 ((t k : EReal) - (t a : EReal)) = (p k : EReal) := fun k => by
    rw [← EReal.coe_sub, Ideal.exp2_coe]
  have e2 : ∀ k, Ideal.exp ((t k : EReal) * ((Real.log 2 : ℝ) : EReal) - ((t b * Real.log 2 : ℝ) : EReal)) = (p k : EReal) := fun k => by
    rw [← EReal.coe_mul, ← EReal.coe_sub, Ideal.exp_coe, ← hab, ← sub_mul]
    congr 1
    show _ = (2 : ℝ) ^ (t k - t a)
    rw [Real.rpow_def_of_pos (by norm_num), mul_comm]
  simp only [e1, e2]
  have hpos : 0 < ∑ k, p k := Finset.sum_pos (fun k _ => Real.rpow_pos_of_pos (by norm_num) _) Finset.univ_nonempty
  have hne : ((∑ k, p k : ℝ) : EReal) ≠ 0 := by exact_mod_cast hpos.ne'
  rw [coe_sum]
  unfold Ideal.div
  simp only [if_neg hne]
  rw [← EReal.coe_inv, sum_mul_coe _ _ (inv_nonneg.2 hpos.le)]
  exact Finset.sum_congr rfl fun k _ => mul_assoc _ _ _

end Cert.KernelIdeal.Attn

end
-- ==== Proof.AttnRef.Value.lean ====
/-
  The reference's attention at an index of its result: a softmax over one batch's 2304 keys, the 256 context
  keys first. Every array of the reference is named here and read at an index, one after another.
-/
module

public import proofs.«01_k».proof.Proof.Gen.ReferenceIdeal.Run
public import Idealize.ShloMosaic.Lib.ValueLayout
public import Idealize.ShloMosaic.Lib.ValueIdx
public import Idealize.ShloMosaic.Lib.IdealHost
public import Idealize.ShloMosaic.Lib.Pipeline.Value

@[expose] public section

noncomputable section

namespace Cert.ReferenceIdeal.Attn

open Cert.ReferenceIdeal Cert.ReferenceIdeal.Gen
open Idealize.ShloMosaic Idealize.ShloMosaic.TcCoe Idealize.ShloMosaic.ValueIdx
open scoped BigOperators

/-! ## The arrays -/

/-- Keys or values by batch: the context rows, then the latent rows. -/
def kv (X : Vec Ideal S9216x1024 .bf16) : FVec Ideal S4x2304x8x128 .f32 :=
  concatenate S4x2304x8x128 1 [⟨S4x256x8x128, (shapeCast _ (extf .f32 (extractStridedSlice S1024x1024 ![8192, 0] X slices_S9216x1024_S1024x1024_8192_0) bitsLt_bf16_f32) shapeCasts_S1024x1024_S4x256x8x128)⟩, ⟨S4x2048x8x128, (shapeCast _ (extf .f32 (extractStridedSlice S8192x1024 ![0, 0] X slices_S9216x1024_S8192x1024_0_0) bitsLt_bf16_f32) shapeCasts_S8192x1024_S4x2048x8x128)⟩] concatenates_S4x256x8x128_S4x2048x8x128_S4x2304x8x128_d1

/-- Queries by batch, position, group and head. -/
def q5 (X : Vec Ideal S8192x4096 .bf16) : FVec Ideal S4x2048x8x4x128 .f32 :=
  shapeCast _ (extf .f32 X bitsLt_bf16_f32) shapeCasts_S8192x4096_S4x2048x8x4x128

/-- Scores as the product leaves them. -/
def dots (K : FVec Ideal S4x2304x8x128 .f32) (Q : FVec Ideal S4x2048x8x4x128 .f32) : FVec Ideal S4x8x2304x2048x4 .f32 :=
  Host.dotGeneral dot_S4x2304x8x128_S4x2048x8x4x128_S4x8x2304x2048x4_3_4_1_13_02_02 none K Q

/-- Scores times the logarithm of two, keys last. -/
def scores (D : FVec Ideal S4x8x2304x2048x4 .f32) : FVec Ideal S4x8x4x2048x2304 .f32 :=
  mulf (transpose S4x8x4x2048x2304 [0, 1, 4, 3, 2] D transposes_S4x8x2304x2048x4_S4x8x4x2048x2304_0_1_4_3_2) (broadcastInDim S4x8x4x2048x2304 ![] bcast_S_S4x8x4x2048x2304 (Host.log (constant S_ .f32 0x40000000#32)))

/-- Each query's greatest score. -/
def tops (S : FVec Ideal S4x8x4x2048x2304 .f32) : FVec Ideal S4x8x4x2048 .f32 :=
  maximumf (broadcastInDim S4x8x4x2048 ![] bcast_S_S4x8x4x2048 (constant S_ .f32 0xFF800000#32)) (Host.reduce FloatOps.maximumf S (constant S_ .f32 0xFF800000#32) reducesTo_S4x8x4x2048x2304_S4x8x4x2048_d4 h_S_)

/-- One number per query, repeated along the keys. -/
def along (x : FVec Ideal S4x8x4x2048 .f32) : FVec Ideal S4x8x4x2048x2304 .f32 :=
  broadcastInDim S4x8x4x2048x2304 ![0, 1, 2, 3, 4] bcast_S4x8x4x2048x1_S4x8x4x2048x2304_0_1_2_3_4 (broadcastInDim S4x8x4x2048x1 ![0, 1, 2, 3] bcast_S4x8x4x2048_S4x8x4x2048x1_0_1_2_3 x)

/-- The exponentials. -/
def exps (S : FVec Ideal S4x8x4x2048x2304 .f32) : FVec Ideal S4x8x4x2048x2304 .f32 := Host.exp (subf S (along (tops S)))

/-- The weights. -/
def weights (E : FVec Ideal S4x8x4x2048x2304 .f32) : FVec Ideal S4x8x4x2048x2304 .f32 :=
  Host.divf E (along (Host.reduceAdd E (constant S_ .f32 0x00000000#32) reducesTo_S4x8x4x2048x2304_S4x8x4x2048_d4 h_S_))

/-- The weighted values, as the product leaves them. -/
def mixed (V : FVec Ideal S4x2304x8x128 .f32) (W : FVec Ideal S4x8x4x2048x2304 .f32) : FVec Ideal S4x8x128x4x2048 .f32 :=
  Host.dotGeneral dot_S4x2304x8x128_S4x8x4x2048x2304_S4x8x128x4x2048_1_4_3_23_02_01 none V W

/-- The gated result. -/
def gated (O : FVec Ideal S4x8x128x4x2048 .f32) (G : Vec Ideal S8192x20480 .bf16) : FVec Ideal S8192x4096 .bf16 :=
  truncf .bf16 (mulf (shapeCast _ (transpose S4x2048x8x4x128 [0, 4, 1, 3, 2] O transposes_S4x8x128x4x2048_S4x2048x8x4x128_0_4_1_3_2) shapeCasts_S4x2048x8x4x128_S8192x4096) (extf .f32 (extractStridedSlice S8192x4096 ![0, 0] G slices_S8192x20480_S8192x4096_0_0) bitsLt_bf16_f32)) bitsLt_bf16_f32

/-- The whole attention. -/
def attn (q : Vec Ideal S8192x4096 .bf16) (k v : Vec Ideal S9216x1024 .bf16) (g : Vec Ideal S8192x20480 .bf16) : FVec Ideal S8192x4096 .bf16 :=
  gated (mixed (kv v) (weights (exps (scores (dots (kv k) (q5 q)))))) g

theorem res_eq (m : (ℓ : Loc nD τ sig) → Buf (Elt Ideal) ℓ) (c : Dev nD) :
    Value.res_out0 m c = attn (m ((c.tc : Thread nD τ).loc main_arg0)) (m ((c.tc : Thread nD τ).loc main_arg1))
      (m ((c.tc : Thread nD τ).loc main_arg2)) (m ((c.tc : Thread nD τ).loc main_arg3)) := rfl

/-! ## … at an index -/

/-- The row of keys and values that key `k` of batch `b` lies in. -/
abbrev krow (b : Fin 4) (k : Fin 2304) : Fin 9216 :=
  ⟨if k.val < 256 then 8192 + b.val * 256 + k.val else b.val * 2048 + (k.val - 256), by split <;> omega⟩

/-- The column of keys and values of group `g`. -/
abbrev kcol (g : Fin 8) (e : Fin 128) : Fin 1024 := ⟨g.val * 128 + e.val, by omega⟩

/-- The row of a query. -/
abbrev qrow (b : Fin 4) (n : Fin 2048) : Fin 8192 := ⟨b.val * 2048 + n.val, by omega⟩

/-- The column of a query's head. -/
abbrev qcol (g : Fin 8) (j : Fin 4) (e : Fin 128) : Fin 4096 := ⟨g.val * 512 + j.val * 128 + e.val, by omega⟩

theorem kv_apply (X : Vec Ideal S9216x1024 .bf16) (b : Fin 4) (k : Fin 2304) (g : Fin 8) (e : Fin 128) :
    kv X (ix4 b k g e) = X (ix2 (krow b k) (kcol g e)) := by
  unfold kv
  by_cases hk : k.val < 256
  · refine (concatenate_pair_apply_left (t := S4x2304x8x128) (s₁ := S4x256x8x128) (s₂ := S4x2048x8x128) (1 : Fin 4) _ _ _ (ix4 b k g e) rfl (ix4 b (⟨k.val, hk⟩ : Fin 256) g e) ?_).trans ?_
    · intro a
      match a with | ⟨0, _⟩ => rfl | ⟨1, _⟩ => rfl | ⟨2, _⟩ => rfl | ⟨3, _⟩ => rfl
    · refine (shapeCast_apply _ shapeCasts_S1024x1024_S4x256x8x128 (ix4 b (⟨k.val, hk⟩ : Fin 256) g e)
        (ix2 (⟨b.val * 256 + k.val, by omega⟩ : Fin 1024) (kcol g e)) ?_).trans ?_
      · refine (Shape.rowMajor_val_two _).trans (Eq.symm ((Shape.rowMajor_val_four _).trans ?_))
        show ((b.val * 256 + k.val) * 8 + g.val) * 128 + e.val = (b.val * 256 + k.val) * 1024 + (g.val * 128 + e.val)
        omega
      · refine extractStridedSlice_apply ![8192, 0] X slices_S9216x1024_S1024x1024_8192_0 _ _ fun a => ?_
        match a with
        | ⟨0, _⟩ => show (if k.val < 256 then 8192 + b.val * 256 + k.val else b.val * 2048 + (k.val - 256)) = 8192 + (b.val * 256 + k.val); rw [if_pos hk]; omega
        | ⟨1, _⟩ => show g.val * 128 + e.val = 0 + (g.val * 128 + e.val); omega
  · refine (concatenate_pair_apply_right (t := S4x2304x8x128) (s₁ := S4x256x8x128) (s₂ := S4x2048x8x128) (1 : Fin 4) _ _ _ (ix4 b k g e) rfl rfl (ix4 b (⟨k.val - 256, by omega⟩ : Fin 2048) g e) ?_ ?_).trans ?_
    · intro a ha
      match a with | ⟨0, _⟩ => rfl | ⟨1, _⟩ => exact absurd rfl ha | ⟨2, _⟩ => rfl | ⟨3, _⟩ => rfl
    · show k.val - 256 + 256 = k.val; omega
    · refine (shapeCast_apply _ shapeCasts_S8192x1024_S4x2048x8x128 (ix4 b (⟨k.val - 256, by omega⟩ : Fin 2048) g e)
        (ix2 (⟨b.val * 2048 + (k.val - 256), by omega⟩ : Fin 8192) (kcol g e)) ?_).trans ?_
      · refine (Shape.rowMajor_val_two _).trans (Eq.symm ((Shape.rowMajor_val_four _).trans ?_))
        show ((b.val * 2048 + (k.val - 256)) * 8 + g.val) * 128 + e.val = (b.val * 2048 + (k.val - 256)) * 1024 + (g.val * 128 + e.val)
        omega
      · refine extractStridedSlice_apply ![0, 0] X slices_S9216x1024_S8192x1024_0_0 _ _ fun a => ?_
        match a with
        | ⟨0, _⟩ => show (if k.val < 256 then 8192 + b.val * 256 + k.val else b.val * 2048 + (k.val - 256)) = 0 + (b.val * 2048 + (k.val - 256)); rw [if_neg hk]; omega
        | ⟨1, _⟩ => show g.val * 128 + e.val = 0 + (g.val * 128 + e.val); omega

theorem q5_apply (X : Vec Ideal S8192x4096 .bf16) (b : Fin 4) (n : Fin 2048) (g : Fin 8) (j : Fin 4) (e : Fin 128) :
    q5 X (ix5 b n g j e) = X (ix2 (qrow b n) (qcol g j e)) := by
  refine (shapeCast_apply _ shapeCasts_S8192x4096_S4x2048x8x4x128 (ix5 b n g j e) (ix2 (qrow b n) (qcol g j e)) ?_).trans rfl
  refine (Shape.rowMajor_val_two _).trans (Eq.symm ((Shape.rowMajor_val_five _).trans ?_))
  show (((b.val * 2048 + n.val) * 8 + g.val) * 4 + j.val) * 128 + e.val = (b.val * 2048 + n.val) * 4096 + (g.val * 512 + j.val * 128 + e.val)
  omega

/-- The dimension numbers of the scores' product … -/
abbrev D1 := dot_S4x2304x8x128_S4x2048x8x4x128_S4x8x2304x2048x4_3_4_1_13_02_02
/-- … and of the weighted values'. -/
abbrev D2 := dot_S4x2304x8x128_S4x8x4x2048x2304_S4x8x128x4x2048_1_4_3_23_02_01

theorem dots_apply (K : FVec Ideal S4x2304x8x128 .f32) (Q : FVec Ideal S4x2048x8x4x128 .f32) (b : Fin 4) (g : Fin 8) (k : Fin 2304) (n : Fin 2048) (j : Fin 4) :
    dots K Q (ix5 b g k n j) = ∑ e : Fin 128, (K (ix4 b k g e) : EReal) * Q (ix5 b n g j e) := by
  unfold dots
  simp only [Host.dotGeneral]
  rw [Ideal.dotGeneral_apply, ← Equiv.sum_comp (contrEquiv1 D1 128 rfl rfl).symm]
  refine Finset.sum_congr rfl fun e _ => ?_
  have hk := contrEquiv1_symm_val D1 128 rfl rfl e
  have el : DotDims.lhsIdx D1 (ix5 b g k n j) ((contrEquiv1 D1 128 rfl rfl).symm e) = ix4 b k g e := by
    funext a; apply Fin.ext
    match a with | ⟨0, _⟩ => rfl | ⟨1, _⟩ => rfl | ⟨2, _⟩ => rfl | ⟨3, _⟩ => exact hk
  have er : DotDims.rhsIdx D1 (ix5 b g k n j) ((contrEquiv1 D1 128 rfl rfl).symm e) = ix5 b n g j e := by
    funext a; apply Fin.ext
    match a with | ⟨0, _⟩ => rfl | ⟨1, _⟩ => rfl | ⟨2, _⟩ => rfl | ⟨3, _⟩ => rfl | ⟨4, _⟩ => exact hk
  rw [el, er]

theorem mixed_apply (V : FVec Ideal S4x2304x8x128 .f32) (W : FVec Ideal S4x8x4x2048x2304 .f32) (b : Fin 4) (g : Fin 8) (d : Fin 128) (j : Fin 4) (n : Fin 2048) :
    mixed V W (ix5 b g d j n) = ∑ k : Fin 2304, (V (ix4 b k g d) : EReal) * W (ix5 b g j n k) := by
  unfold mixed
  simp only [Host.dotGeneral]
  rw [Ideal.dotGeneral_apply, ← Equiv.sum_comp (contrEquiv1 D2 2304 rfl rfl).symm]
  refine Finset.sum_congr rfl fun k _ => ?_
  have hk := contrEquiv1_symm_val D2 2304 rfl rfl k
  have el : DotDims.lhsIdx D2 (ix5 b g d j n) ((contrEquiv1 D2 2304 rfl rfl).symm k) = ix4 b k g d := by
    funext a; apply Fin.ext
    match a with | ⟨0, _⟩ => rfl | ⟨1, _⟩ => exact hk | ⟨2, _⟩ => rfl | ⟨3, _⟩ => rfl
  have er : DotDims.rhsIdx D2 (ix5 b g d j n) ((contrEquiv1 D2 2304 rfl rfl).symm k) = ix5 b g j n k := by
    funext a; apply Fin.ext
    match a with | ⟨0, _⟩ => rfl | ⟨1, _⟩ => rfl | ⟨2, _⟩ => rfl | ⟨3, _⟩ => rfl | ⟨4, _⟩ => exact hk
  rw [el, er]

/-- The f32 word of two. -/
theorem ofBits_two : Ideal.ofBits .f32 0x40000000#32 = ((2 : ℝ) : EReal) := by
  simp [Ideal.ofBits, Ideal.ieee, -EReal.coe_mul]; norm_num

theorem log_two : Ideal.log ((2 : ℝ) : EReal) = ((Real.log 2 : ℝ) : EReal) := by
  show (if (2 : ℝ) ≤ 0 then (⊥ : EReal) else ((Real.log 2 : ℝ) : EReal)) = _
  rw [if_neg (by norm_num)]

theorem scores_apply (D : FVec Ideal S4x8x2304x2048x4 .f32) (b : Fin 4) (g : Fin 8) (j : Fin 4) (n : Fin 2048) (k : Fin 2304) :
    scores D (ix5 b g j n k) = (D (ix5 b g k n j) : EReal) * ((Real.log 2 : ℝ) : EReal) := by
  unfold scores
  rw [mulf_apply, transpose_apply [0, 1, 4, 3, 2] D _ (ix5 b g j n k) (ix5 b g k n j) (fun a => ?_), broadcastInDim_scalar_apply]
  · refine congrArg (D (ix5 b g k n j) * ·) ?_
    show Ideal.log (Ideal.ofBits .f32 0x40000000#32) = _
    rw [ofBits_two, log_two]
  · match a with | ⟨0, _⟩ => rfl | ⟨1, _⟩ => rfl | ⟨2, _⟩ => rfl | ⟨3, _⟩ => rfl | ⟨4, _⟩ => rfl

theorem reduces4 : S4x8x4x2048x2304.Reduces [4] S4x8x4x2048 := by decide

theorem lift4 (b : Fin 4) (g : Fin 8) (j : Fin 4) (n : Fin 2048) (k : Fin 2304) : reduces4.lift (ix4 b g j n) k = ix5 b g j n k := by
  funext a; apply Fin.ext
  match a with | ⟨0, _⟩ => rfl | ⟨1, _⟩ => rfl | ⟨2, _⟩ => rfl | ⟨3, _⟩ => rfl | ⟨4, _⟩ => rfl

/-- The f32 word of minus infinity. -/
theorem ofBits_neg_inf : Ideal.ofBits .f32 0xFF800000#32 = (⊥ : EReal) := by
  simp [Ideal.ofBits, Ideal.ieee]

/-- The greatest score is bounded exactly when every score is. -/
theorem tops_le (S : FVec Ideal S4x8x4x2048x2304 .f32) (b : Fin 4) (g : Fin 8) (j : Fin 4) (n : Fin 2048) (z : EReal) :
    (tops S (ix4 b g j n) : EReal) ≤ z ↔ ∀ k : Fin 2304, (S (ix5 b g j n k) : EReal) ≤ z := by
  have h := Host.reduce_eq_fold_single (max : EReal → EReal → EReal) S (constant (F := Ideal) S_ .f32 0xFF800000#32)
    reducesTo_S4x8x4x2048x2304_S4x8x4x2048_d4 reduces4 h_S_ (ix4 b g j n)
  unfold tops
  rw [maximumf_apply, broadcastInDim_scalar_apply, max_le_iff]
  have h0 : (constant (F := Ideal) S_ .f32 0xFF800000#32 ix0 : EReal) ≤ z := by
    rw [constant_apply, ofBits_neg_inf]; exact bot_le
  have h1 : (constant (F := Ideal) S_ .f32 0xFF800000#32 (Shape.Idx.first h_S_) : EReal) ≤ z := by
    rw [constant_apply, ofBits_neg_inf]; exact bot_le
  constructor
  · rintro ⟨-, h2⟩ k
    have h3 := (Finset.fold_max_le z).1 (h.symm.trans_le h2)
    have h4 := h3.2 k (Finset.mem_univ _)
    exact (congrArg S (lift4 b g j n k)).symm.trans_le h4
  · intro hs
    refine ⟨h0, h.trans_le ((Finset.fold_max_le z).2 ⟨h1, fun k _ => ?_⟩)⟩
    exact (congrArg S (lift4 b g j n k)).trans_le (hs k)

theorem along_apply (x : FVec Ideal S4x8x4x2048 .f32) (b : Fin 4) (g : Fin 8) (j : Fin 4) (n : Fin 2048) (k : Fin 2304) :
    along x (ix5 b g j n k) = x (ix4 b g j n) := by
  unfold along
  refine (broadcastInDim_apply ![0, 1, 2, 3, 4] bcast_S4x8x4x2048x1_S4x8x4x2048x2304_0_1_2_3_4 _ (ix5 b g j n k) (ix5 b g j n (0 : Fin 1)) fun a => ?_).trans
    (broadcastInDim_apply ![0, 1, 2, 3] bcast_S4x8x4x2048_S4x8x4x2048x1_0_1_2_3 x _ (ix4 b g j n) fun a => ?_)
  · match a with | ⟨0, _⟩ => rfl | ⟨1, _⟩ => rfl | ⟨2, _⟩ => rfl | ⟨3, _⟩ => rfl | ⟨4, _⟩ => rfl
  · match a with | ⟨0, _⟩ => rfl | ⟨1, _⟩ => rfl | ⟨2, _⟩ => rfl | ⟨3, _⟩ => rfl

theorem exps_apply (S : FVec Ideal S4x8x4x2048x2304 .f32) (b : Fin 4) (g : Fin 8) (j : Fin 4) (n : Fin 2048) (k : Fin 2304) :
    exps S (ix5 b g j n k) = Ideal.exp (S (ix5 b g j n k) - tops S (ix4 b g j n)) := by
  show Ideal.exp (S (ix5 b g j n k) - along (tops S) (ix5 b g j n k)) = _
  rw [along_apply]

theorem weights_apply (E : FVec Ideal S4x8x4x2048x2304 .f32) (b : Fin 4) (g : Fin 8) (j : Fin 4) (n : Fin 2048) (k : Fin 2304) :
    weights E (ix5 b g j n k) = Ideal.div (E (ix5 b g j n k)) (∑ i : Fin 2304, (E (ix5 b g j n i) : EReal)) := by
  unfold weights
  rw [hostDivf_apply, along_apply, hostReduceAdd_apply, Ideal.hostReduceAdd_single _ reduces4, constant_apply, Ideal.ofBits_zero_f32, zero_add]
  refine congrArg _ (Finset.sum_congr rfl fun i _ => ?_)
  exact congrArg E (lift4 b g j n i)

theorem gated_apply (O : FVec Ideal S4x8x128x4x2048 .f32) (G : Vec Ideal S8192x20480 .bf16) (b : Fin 4) (n : Fin 2048) (g : Fin 8) (j : Fin 4) (d : Fin 128) :
    gated O G (ix2 (qrow b n) (qcol g j d)) = (O (ix5 b g d j n) : EReal) * G (ix2 (qrow b n) (⟨(qcol g j d).val, by omega⟩ : Fin 20480)) := by
  unfold gated
  rw [truncf_apply, mulf_apply, extf_apply]
  refine congrArg₂ (· * ·) ?_ ?_
  · refine (shapeCast_apply _ shapeCasts_S4x2048x8x4x128_S8192x4096 (ix2 (qrow b n) (qcol g j d)) (ix5 b n g j d) ?_).trans
      (transpose_apply [0, 4, 1, 3, 2] O _ (ix5 b n g j d) (ix5 b g d j n) fun a => ?_)
    · refine (Shape.rowMajor_val_five _).trans (Eq.symm ((Shape.rowMajor_val_two _).trans ?_))
      show (b.val * 2048 + n.val) * 4096 + (g.val * 512 + j.val * 128 + d.val) = (((b.val * 2048 + n.val) * 8 + g.val) * 4 + j.val) * 128 + d.val
      omega
    · match a with | ⟨0, _⟩ => rfl | ⟨1, _⟩ => rfl | ⟨2, _⟩ => rfl | ⟨3, _⟩ => rfl | ⟨4, _⟩ => rfl
  · refine extractStridedSlice_apply ![0, 0] G slices_S8192x20480_S8192x4096_0_0 _ _ fun a => ?_
    match a with
    | ⟨0, _⟩ => show b.val * 2048 + n.val = 0 + (b.val * 2048 + n.val); omega
    | ⟨1, _⟩ => show g.val * 512 + j.val * 128 + d.val = 0 + (g.val * 512 + j.val * 128 + d.val); omega

/-- A score, before the logarithm: the inner product of a key and a query. -/
def score (q : Vec Ideal S8192x4096 .bf16) (k : Vec Ideal S9216x1024 .bf16) (b : Fin 4) (n : Fin 2048) (g : Fin 8) (j : Fin 4) (i : Fin 2304) : EReal :=
  ∑ e : Fin 128, (k (ix2 (krow b i) (kcol g e)) : EReal) * q (ix2 (qrow b n) (qcol g j e))

theorem scores_eq (q : Vec Ideal S8192x4096 .bf16) (k : Vec Ideal S9216x1024 .bf16) (b : Fin 4) (n : Fin 2048) (g : Fin 8) (j : Fin 4) (i : Fin 2304) :
    (scores (dots (kv k) (q5 q)) (ix5 b g j n i) : EReal) = score q k b n g j i * ((Real.log 2 : ℝ) : EReal) := by
  rw [scores_apply, dots_apply]
  refine congrArg (· * ((Real.log 2 : ℝ) : EReal)) (Finset.sum_congr rfl fun e _ => ?_)
  rw [kv_apply, q5_apply]

/-- The reference's result at an index. -/
theorem attn_apply (q : Vec Ideal S8192x4096 .bf16) (k v : Vec Ideal S9216x1024 .bf16) (G : Vec Ideal S8192x20480 .bf16)
    (b : Fin 4) (n : Fin 2048) (g : Fin 8) (j : Fin 4) (d : Fin 128) :
    ∃ M : EReal, (∀ z, M ≤ z ↔ ∀ i, score q k b n g j i * ((Real.log 2 : ℝ) : EReal) ≤ z) ∧
      attn q k v G (ix2 (qrow b n) (qcol g j d)) =
        (∑ i : Fin 2304, (v (ix2 (krow b i) (kcol g d)) : EReal) * Ideal.div (Ideal.exp (score q k b n g j i * ((Real.log 2 : ℝ) : EReal) - M))
          (∑ l : Fin 2304, Ideal.exp (score q k b n g j l * ((Real.log 2 : ℝ) : EReal) - M)))
        * G (ix2 (qrow b n) (⟨(qcol g j d).val, by omega⟩ : Fin 20480)) := by
  refine ⟨tops (scores (dots (kv k) (q5 q))) (ix4 b g j n), fun z => ?_, ?_⟩
  · rw [tops_le]
    exact forall_congr' fun i => by rw [scores_eq]
  · unfold attn
    rw [gated_apply, mixed_apply]
    refine congrArg (· * G (ix2 (qrow b n) (⟨(qcol g j d).val, by omega⟩ : Fin 20480))) (Finset.sum_congr rfl fun i _ => ?_)
    rw [kv_apply, weights_apply]
    simp only [exps_apply, scores_eq]

end Cert.ReferenceIdeal.Attn

end
-- ==== Proof.AttnMatch.lean ====
/-
  The kernel's attention is the reference's. A grid step's block is read at an index, its keys are put into the
  reference's order, and the two softmax quotients are the same number because the scores are real.
-/
module

public import proofs.«01_k».proof.Proof.AttnIdeal.Tiles
public import proofs.«01_k».proof.Proof.AttnIdeal.Windows
public import proofs.«01_k».proof.Proof.AttnIdeal.Softmax
public import proofs.«01_k».proof.Proof.AttnRef.Value

@[expose] public section

set_option maxRecDepth 16384

noncomputable section

namespace Cert.KernelIdeal.Attn

open Cert.KernelIdeal Cert.KernelIdeal.Gen
open Idealize.ShloMosaic Idealize.ShloMosaic.TcCoe Idealize.ShloMosaic.ValueIdx
open Idealize.ShloMosaic.Pipeline (Dat Cfg Window)
open Cert.ReferenceIdeal.Attn (attn attn_apply score krow kcol qrow qcol)
open scoped BigOperators

/-- The kernel's order of the keys (latent, context) against the reference's (context, latent). -/
def order : Fin 2304 ≃ Fin 2304 where
  toFun k := ⟨if k.val < 2048 then k.val + 256 else k.val - 2048, by split <;> omega⟩
  invFun i := ⟨if i.val < 256 then i.val + 2048 else i.val - 256, by split <;> omega⟩
  left_inv k := by
    apply Fin.ext
    show (if (if k.val < 2048 then k.val + 256 else k.val - 2048) < 256 then (if k.val < 2048 then k.val + 256 else k.val - 2048) + 2048
      else (if k.val < 2048 then k.val + 256 else k.val - 2048) - 256) = k.val
    split <;> split at * <;> omega
  right_inv i := by
    apply Fin.ext
    show (if (if i.val < 256 then i.val + 2048 else i.val - 256) < 2048 then (if i.val < 256 then i.val + 2048 else i.val - 256) + 256
      else (if i.val < 256 then i.val + 2048 else i.val - 256) - 2048) = i.val
    split <;> split at * <;> omega

theorem order_val (k : Fin 2304) : (order k).val = if k.val < 2048 then k.val + 256 else k.val - 2048 := rfl

theorem lt64 (t : Fin cfg0.N) : t.val < 64 := Nat.lt_of_lt_of_eq t.isLt N_0

/-- A step's batch, key group and query positions. -/
abbrev bat (t : Fin cfg0.N) : Fin 4 := ⟨t.val / 16, by have := lt64 t; omega⟩
abbrev grp (t : Fin cfg0.N) : Fin 8 := ⟨t.val / 2 % 8, by omega⟩
abbrev pos (t : Fin cfg0.N) (r : Fin 1024) : Fin 2048 := ⟨t.val % 2 * 1024 + r.val, by omega⟩

variable (m : (ℓ : Loc nD τ sig) → Buf (Elt Ideal) ℓ) (c : Dev nD)

theorem krow_order (b : Fin 4) (k : Fin 2304) :
    (krow b (order k)).val = if k.val < 2048 then b.val * 2048 + k.val else 8192 + b.val * 256 + (k.val - 2048) := by
  show (if (order k).val < 256 then 8192 + b.val * 256 + (order k).val else b.val * 2048 + ((order k).val - 256)) = _
  rw [order_val]
  split <;> split at * <;> omega

theorem keys_eq (t : Fin cfg0.N) (k : Fin 2304) (e : Fin 128) :
    KB (X0_1 m c t) (iblk m c 3 t) (ix2 k e) = m ((c : Thread nD τ).loc main_arg1) (ix2 (krow (bat t) (order k)) (kcol (grp t) e)) := by
  rw [KB_apply]
  have hr := krow_order (bat t) k
  split
  · rename_i h
    rw [if_pos h] at hr
    exact kl_apply m c t _ e _ _ hr rfl
  · rename_i h
    rw [if_neg h] at hr
    refine kc_apply m c t _ e _ _ (hr.trans ?_) rfl
    show 8192 + t.val / 16 * 256 + (k.val - 2048) = (32 + t.val / 16) * 256 + (k.val - 2048)
    omega

theorem vals_eq (t : Fin cfg0.N) (k : Fin 2304) (d : Fin 128) :
    VB (X0_2 m c t) (iblk m c 4 t) (ix2 (⟨d.val, by omega⟩ : Fin 144) k) = m ((c : Thread nD τ).loc main_arg2) (ix2 (krow (bat t) (order k)) (kcol (grp t) d)) := by
  rw [VB_apply]
  have hr := krow_order (bat t) k
  split
  · rename_i h
    rw [if_pos h] at hr
    exact vl_apply m c t _ d _ _ hr rfl
  · rename_i h
    rw [if_neg h] at hr
    refine vc_apply m c t _ d _ _ (hr.trans ?_) rfl
    show 8192 + t.val / 16 * 256 + (k.val - 2048) = (32 + t.val / 16) * 256 + (k.val - 2048)
    omega

theorem row_eq (t : Fin cfg0.N) (r : Fin 1024) : (qrow (bat t) (pos t r)).val = (t.val / 16 * 2 + t.val % 2) * 1024 + r.val := by
  show t.val / 16 * 2048 + (t.val % 2 * 1024 + r.val) = _
  omega

theorem col_eq (t : Fin cfg0.N) (j : Fin 4) (d : Fin 128) : (qcol (grp t) j d).val = t.val / 2 % 8 * 512 + (col j d).val := by
  show t.val / 2 % 8 * 512 + j.val * 128 + d.val = t.val / 2 % 8 * 512 + (128 * j.val + d.val)
  omega

theorem score_eq (t : Fin cfg0.N) (r : Fin 1024) (j : Fin 4) (k : Fin 2304) :
    bscore (iblk m c 0 t) (KB (X0_1 m c t) (iblk m c 3 t)) r j k
      = score (m ((c : Thread nD τ).loc main_arg0)) (m ((c : Thread nD τ).loc main_arg1)) (bat t) (pos t r) (grp t) j (order k) := by
  unfold score
  refine Finset.sum_congr rfl fun e _ => congrArg₂ (· * ·) (keys_eq m c t k e) ?_
  exact q_apply m c t r (col j e) _ _ (row_eq t r) (col_eq t j e)

/-- Inner products of real queries and keys are real. -/
theorem score_real (q : Vec Ideal S8192x4096 .bf16) (k : Vec Ideal S9216x1024 .bf16)
    (hq : ∀ i, q i ≠ (⊤ : EReal) ∧ q i ≠ (⊥ : EReal)) (hk : ∀ i, k i ≠ (⊤ : EReal) ∧ k i ≠ (⊥ : EReal))
    (b : Fin 4) (n : Fin 2048) (g : Fin 8) (j : Fin 4) (i : Fin 2304) : score q k b n g j i ≠ ⊤ ∧ score q k b n g j i ≠ ⊥ := by
  have h : score q k b n g j i
      = ((∑ e : Fin 128, (k (ix2 (krow b i) (kcol g e)) : EReal).toReal * (q (ix2 (qrow b n) (qcol g j e)) : EReal).toReal : ℝ) : EReal) := by
    rw [← coe_sum]
    refine Finset.sum_congr rfl fun e _ => ?_
    rw [EReal.coe_mul, EReal.coe_toReal (hk _).1 (hk _).2, EReal.coe_toReal (hq _).1 (hq _).2]
  rw [h]
  exact ⟨EReal.coe_ne_top _, EReal.coe_ne_bot _⟩

section Real
variable (hq : ∀ i, m ((c : Thread nD τ).loc main_arg0) i ≠ (⊤ : EReal) ∧ m ((c : Thread nD τ).loc main_arg0) i ≠ (⊥ : EReal))
  (hk : ∀ i, m ((c : Thread nD τ).loc main_arg1) i ≠ (⊤ : EReal) ∧ m ((c : Thread nD τ).loc main_arg1) i ≠ (⊥ : EReal))
include hq hk

/-- A step's block is the reference's block. -/
theorem out_eq (t : Fin cfg0.N) (r : Fin 1024) (j : Fin 4) (d : Fin 128) :
    outAt m c t (ix2 r (col j d)) = attn (m ((c : Thread nD τ).loc main_arg0)) (m ((c : Thread nD τ).loc main_arg1)) (m ((c : Thread nD τ).loc main_arg2))
      (m ((c : Thread nD τ).loc main_arg3)) (ix2 (qrow (bat t) (pos t r)) (qcol (grp t) j d)) := by
  obtain ⟨M, hM, he⟩ := outB_apply (iblk m c 0 t) (KB (X0_1 m c t) (iblk m c 3 t)) (VB (X0_2 m c t) (iblk m c 4 t)) (iblk m c 5 t) r j d
  obtain ⟨M', hM', he'⟩ := attn_apply (m ((c : Thread nD τ).loc main_arg0)) (m ((c : Thread nD τ).loc main_arg1)) (m ((c : Thread nD τ).loc main_arg2))
      (m ((c : Thread nD τ).loc main_arg3)) (bat t) (pos t r) (grp t) j d
  refine (show outAt m c t (ix2 r (col j d)) = _ from he).trans (Eq.trans ?_ he'.symm)
  simp only [score_eq, vals_eq, VB_one, one_mul] at hM ⊢
  refine congrArg₂ (· * ·) ?_ (g_apply m c t r (col j d) _ _ (row_eq t r) (col_eq t j d))
  rw [← softmax_eq (fun i => score (m ((c : Thread nD τ).loc main_arg0)) (m ((c : Thread nD τ).loc main_arg1)) (bat t) (pos t r) (grp t) j i)
    (fun i => m ((c : Thread nD τ).loc main_arg2) (ix2 (krow (bat t) i) (kcol (grp t) d)))
    (score_real _ _ hq hk (bat t) (pos t r) (grp t) j) M M'
    (fun z => (hM z).trans (order.forall_congr fun k => Iff.rfl)) hM']
  refine congrArg₂ Ideal.div ?_ ?_
  · exact Equiv.sum_comp order fun i => HMul.hMul (α := EReal) (β := EReal) (γ := EReal) (m ((c : Thread nD τ).loc main_arg2) (ix2 (krow (bat t) i) (kcol (grp t) d)))
      (Ideal.exp2 (score (m ((c : Thread nD τ).loc main_arg0)) (m ((c : Thread nD τ).loc main_arg1)) (bat t) (pos t r) (grp t) j i - M))
  · exact Equiv.sum_comp order fun i => Ideal.exp2 (score (m ((c : Thread nD τ).loc main_arg0)) (m ((c : Thread nD τ).loc main_arg1)) (bat t) (pos t r) (grp t) j i - M)

/-- The kernel's result array is the reference's. -/
theorem arr_eq : (dats m 0 c).arrAt 6 cfg0.N = attn (m ((c : Thread nD τ).loc main_arg0)) (m ((c : Thread nD τ).loc main_arg1))
    (m ((c : Thread nD τ).loc main_arg2)) (m ((c : Thread nD τ).loc main_arg3)) := by
  refine (dats m 0 c).arrAt_eq_of_covers 6 _ (by decide +kernel) fun t hf y => ?_
  blk_simp
  rw [after0_6]
  have hy1 : (y 1).val < 512 := (y 1).isLt
  have hy : y = ix2 (n0 := 1024) (n1 := 512) (y 0) (col ⟨(y 1).val / 128, by omega⟩ ⟨(y 1).val % 128, by omega⟩) := by
    funext a; apply Fin.ext
    fin_cases a
    · rfl
    · show (y 1).val = 128 * ((y 1).val / 128) + (y 1).val % 128; omega
  refine (congrArg (outAt m c t) hy).trans ((out_eq m c hq hk t (y 0) _ _).trans (congrArg _ ?_))
  funext a; apply Fin.ext
  fin_cases a
  · blk_simp [ix6']
    exact row_eq t (y 0)
  · blk_simp [ix6']
    refine (col_eq t _ _).trans ?_
    show t.val / 2 % 8 * 512 + (128 * ((y 1).val / 128) + (y 1).val % 128) = t.val / 2 % 8 * 512 + (y 1).val
    omega

end Real

end Cert.KernelIdeal.Attn

end
-- ==== Proof.AttnFinite.lean ====
/-
  The precondition read: every query and every key is a real number.
-/
module

public import proofs.«01_k».proof.Defs
public import Idealize.ShloMosaic.Lib.ReduceAll
public import Idealize.ShloMosaic.Lib.IdealHost

@[expose] public section

noncomputable section

namespace Cert.Pre_finite_scores

open Idealize.ShloMosaic Idealize.ShloMosaic.ValueIdx

theorem facts : Facts where
  bitsLt_bf16_f32 := by decide
  bcast_S_S8192x4096 := by decide
  reducesTo_S8192x4096_S_d0_1 := by decide
  h_S_ := by decide
  bcast_S_S9216x1024 := by decide
  reducesTo_S9216x1024_S_d0_1 := by decide

/-- The f32 word of infinity. -/
theorem ofBits_inf : Ideal.ofBits .f32 0x7F800000#32 = (⊤ : EReal) := by
  simp [Ideal.ofBits, Ideal.ieee]

/-- A magnitude below infinity is a real number's. -/
theorem real_of_lt (x : EReal) (h : Ideal.cmp .olt (max x (-x)) ⊤ = 1#1) : x ≠ ⊤ ∧ x ≠ ⊥ := by
  have hlt : max x (-x) < ⊤ := by
    by_contra hn
    rw [show Ideal.cmp .olt (max x (-x)) ⊤ = 0#1 by simp [Ideal.cmp, hn]] at h
    exact absurd h (by decide)
  refine ⟨fun e => ?_, fun e => ?_⟩ <;> subst e <;> simp at hlt

instance : Subsingleton S_.Idx := ⟨fun a b => funext fun i => i.elim0⟩

/-- A conjunction over a whole array that is 1 makes every entry real. -/
theorem all_real {S : Shape} {axes : List (Fin S.rank)} (X : FVec Ideal S .bf16) (hb : FTy.bits .bf16 < FTy.bits .f32)
    (hB : S_.BroadcastsInDim S (![] : Fin 0 → Fin S.rank)) (hR : S.ReducesTo axes S_) (hu : 0 < S_.numel) (j : S_.Idx)
    (h : Host.reduce IntOp.andi (cmpf .olt (Host.absf (extf .f32 X hb)) (broadcastInDim S ![] hB (constant S_ .f32 0x7F800000#32)))
      (constantI S_ 1 1#1) hR hu j = 1#1) (i : S.Idx) : X i ≠ (⊤ : EReal) ∧ X i ≠ (⊥ : EReal) := by
  have h1 := Host.reduce_andi_all _ _ hR hu j h i
  refine real_of_lt (X i) ?_
  rw [cmpf_apply, broadcastInDim_scalar_apply, constant_apply, ofBits_inf] at h1
  exact h1

/-- Under the precondition the queries and the keys are real. -/
theorem real_args [hF : Facts] (q : FVec Ideal S8192x4096 .bf16) (k v : FVec Ideal S9216x1024 .bf16) (g : FVec Ideal S8192x20480 .bf16)
    (a b c : FVec Ideal S1x4096x4096 .f32) (h : fn q k v g a b c = fun _ => 1#1) :
    (∀ i, q i ≠ (⊤ : EReal) ∧ q i ≠ (⊥ : EReal)) ∧ ∀ i, k i ≠ (⊤ : EReal) ∧ k i ≠ (⊥ : EReal) := by
  obtain ⟨h1, h2⟩ := IntOp.andi_eq_one.1 (congrFun h ix0)
  exact ⟨all_real q _ _ _ _ ix0 h1, all_real k _ _ _ _ ix0 h2⟩

end Cert.Pre_finite_scores

end
-- ==== Proof.ProjValue.lean ====
/-
  The projection of the two branches: each grid step's 512 × 512 block is two inner products of length 4096, each
  times its gate, and the blocks together are the reference's array.
-/
module

public import proofs.«01_k».proof.Proof.Gen.Kernel2Ideal.Value
public import proofs.«01_k».proof.Proof.Gen.Kernel2Ideal.Skeleton
public import proofs.«01_k».proof.Proof.Gen.Reference2Ideal.Run
public import Idealize.ShloMosaic.Lib.Pipeline.ValueKit.Geometry
public import Idealize.ShloMosaic.Lib.ValueIdx
public import Idealize.ShloMosaic.Lib.ValueLayout
public import Idealize.ShloMosaic.Lib.MatmulPlain
public import Idealize.ShloMosaic.Lib.StackMember
public import Idealize.ShloMosaic.Lib.IdealHost

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.ValueIdx
open Idealize.ShloMosaic.Pipeline (Dat Cfg Window)
open scoped BigOperators

/-! ## The merged entry -/

/-- A row of the branch against a column of its weights, for both branches, each times its gate. -/
def entry (yh ya : Vec Ideal S8192x4096 .bf16) (wh wa : Vec Ideal S4096x4096 .bf16) (g : Vec Ideal S8192x20480 .bf16) (r : Fin 8192) (x : Fin 4096) : EReal :=
  g (ix2 r (⟨12288 + x.val, by omega⟩ : Fin 20480)) * (∑ k : Fin 4096, (yh (ix2 r k) : EReal) * wh (ix2 k x))
    + g (ix2 r (⟨16384 + x.val, by omega⟩ : Fin 20480)) * (∑ k : Fin 4096, (ya (ix2 r k) : EReal) * wa (ix2 k x))

/-! ## A grid step -/

/-- The block that a step stores, at an index. -/
theorem pay_apply (x0 : Vec Ideal S512x4096 .bf16) (x2 : Vec Ideal S4096x512 .bf16) (x1 : Vec Ideal S512x4096 .bf16) (x3 : Vec Ideal S4096x512 .bf16)
    (x4 x5 : Vec Ideal S512x512 .bf16) (r x : Fin 512) :
    k0_pay1 x0 x2 x1 x3 x4 x5 (ix2 r x)
      = (x4 (ix2 r x) * (∑ k : Fin 4096, (x0 (ix2 r k) : EReal) * x2 (ix2 k x)) + x5 (ix2 r x) * (∑ k : Fin 4096, (x1 (ix2 r k) : EReal) * x3 (ix2 k x)) : EReal) := by
  refine congrArg₂ (fun a b : EReal => (x4 (ix2 r x) : EReal) * a + (x5 (ix2 r x) : EReal) * b)
    ((Ideal.matmul_plain_apply none x0 x2 (constant S512x512 .f32 0x00000000#32) r x).trans ?_)
    ((Ideal.matmul_plain_apply none x1 x3 (constant S512x512 .f32 0x00000000#32) r x).trans ?_) <;>
  rw [constant_apply, Ideal.ofBits_zero_f32, zero_add]

theorem out_apply (x0 x1 : Vec Ideal S512x4096 .bf16) (x2 x3 : Vec Ideal S4096x512 .bf16) (x4 x5 : Vec Ideal S512x512 .bf16) :
    out0_6 x0 x1 x2 x3 x4 x5 = k0_pay1 x0 x2 x1 x3 x4 x5 := by
  have hz : (![0, 0] : Fin 2 → Nat) = fun _ => 0 := by funext a; fin_cases a <;> rfl
  refine (View.canon_unit_zero hz _ _).trans ?_
  rw [View.ld_unit_zero hz, View.ld_unit_zero hz, View.ld_unit_zero hz, View.ld_unit_zero hz, View.ld_unit_zero hz, View.ld_unit_zero hz]

variable (m : (ℓ : Loc nD τ sig) → Buf (Elt Ideal) ℓ)

theorem lt128 (t : Fin cfg0.N) : t.val < 128 := Nat.lt_of_lt_of_eq t.isLt N_0

theorem at0 : ∀ t : Fin cfg0.N, win0_0.index t = ![t.val / 8, 0] := (by decide +kernel : ∀ t : Fin grid0.N, _)
theorem at1 : ∀ t : Fin cfg0.N, win0_1.index t = ![t.val / 8, 0] := (by decide +kernel : ∀ t : Fin grid0.N, _)
theorem at2 : ∀ t : Fin cfg0.N, win0_2.index t = ![0, t.val % 8] := (by decide +kernel : ∀ t : Fin grid0.N, _)
theorem at3 : ∀ t : Fin cfg0.N, win0_3.index t = ![0, t.val % 8] := (by decide +kernel : ∀ t : Fin grid0.N, _)
theorem at4 : ∀ t : Fin cfg0.N, win0_4.index t = ![t.val / 8, 24 + t.val % 8] := (by decide +kernel : ∀ t : Fin grid0.N, _)
theorem at5 : ∀ t : Fin cfg0.N, win0_5.index t = ![t.val / 8, 32 + t.val % 8] := (by decide +kernel : ∀ t : Fin grid0.N, _)
theorem at6 : ∀ t : Fin cfg0.N, win0_6.index t = ![t.val / 8, t.val % 8] := (by decide +kernel : ∀ t : Fin grid0.N, _)

/-- The row and the column of the result that a step's block has at an index. -/
abbrev row (t : Fin cfg0.N) (r : Fin 512) : Fin 8192 := ⟨t.val / 8 * 512 + r.val, by have := lt128 t; omega⟩
abbrev colm (t : Fin cfg0.N) (x : Fin 512) : Fin 4096 := ⟨t.val % 8 * 512 + x.val, by omega⟩

theorem b0 (c : Dev nD) (t : Fin cfg0.N) (r : Fin 512) (k : Fin 4096) :
    iblk m c 0 t (ix2 r k) = m ((c : Thread nD τ).loc main_arg0) (ix2 (row t r) k) := by
  refine (show _ = V m c main_arg0 (ix2 (row t r) k) from ?_).trans (congrFun (V_main_arg0 m c) _)
  blk_simp [iblk]
  refine congrArg _ ?_
  funext a; apply Fin.ext
  fin_cases a
  · blk_simp [at0]
  · blk_simp [at0]

theorem b1 (c : Dev nD) (t : Fin cfg0.N) (r : Fin 512) (k : Fin 4096) :
    iblk m c 1 t (ix2 r k) = m ((c : Thread nD τ).loc main_arg1) (ix2 (row t r) k) := by
  refine (show _ = V m c main_arg1 (ix2 (row t r) k) from ?_).trans (congrFun (V_main_arg1 m c) _)
  blk_simp [iblk]
  refine congrArg _ ?_
  funext a; apply Fin.ext
  fin_cases a
  · blk_simp [at1]
  · blk_simp [at1]

theorem b2 (c : Dev nD) (t : Fin cfg0.N) (k : Fin 4096) (x : Fin 512) :
    iblk m c 2 t (ix2 k x) = m ((c : Thread nD τ).loc main_arg2) (ix2 k (colm t x)) := by
  refine (show _ = V m c main_arg2 (ix2 k (colm t x)) from ?_).trans (congrFun (V_main_arg2 m c) _)
  blk_simp [iblk]
  refine congrArg _ ?_
  funext a; apply Fin.ext
  fin_cases a
  · blk_simp [at2]
  · blk_simp [at2]

theorem b3 (c : Dev nD) (t : Fin cfg0.N) (k : Fin 4096) (x : Fin 512) :
    iblk m c 3 t (ix2 k x) = m ((c : Thread nD τ).loc main_arg3) (ix2 k (colm t x)) := by
  refine (show _ = V m c main_arg3 (ix2 k (colm t x)) from ?_).trans (congrFun (V_main_arg3 m c) _)
  blk_simp [iblk]
  refine congrArg _ ?_
  funext a; apply Fin.ext
  fin_cases a
  · blk_simp [at3]
  · blk_simp [at3]

theorem b4 (c : Dev nD) (t : Fin cfg0.N) (r x : Fin 512) :
    iblk m c 4 t (ix2 r x) = m ((c : Thread nD τ).loc main_arg4) (ix2 (row t r) (⟨12288 + (colm t x).val, by omega⟩ : Fin 20480)) := by
  refine (show _ = V m c main_arg4 (ix2 (row t r) (⟨12288 + (colm t x).val, by omega⟩ : Fin 20480)) from ?_).trans (congrFun (V_main_arg4 m c) _)
  blk_simp [iblk]
  refine congrArg _ ?_
  funext a; apply Fin.ext
  fin_cases a
  · blk_simp [at4]
  · blk_simp [at4]
    show (24 + t.val % 8) * 512 + x.val = 12288 + (t.val % 8 * 512 + x.val); omega

theorem b5 (c : Dev nD) (t : Fin cfg0.N) (r x : Fin 512) :
    iblk m c 5 t (ix2 r x) = m ((c : Thread nD τ).loc main_arg4) (ix2 (row t r) (⟨16384 + (colm t x).val, by omega⟩ : Fin 20480)) := by
  refine (show _ = V m c main_arg4 (ix2 (row t r) (⟨16384 + (colm t x).val, by omega⟩ : Fin 20480)) from ?_).trans (congrFun (V_main_arg4 m c) _)
  blk_simp [iblk]
  refine congrArg _ ?_
  funext a; apply Fin.ext
  fin_cases a
  · blk_simp [at5]
  · blk_simp [at5]
    show (32 + t.val % 8) * 512 + x.val = 16384 + (t.val % 8 * 512 + x.val); omega

/-- The kernel's array, as one function of the arguments. -/
def whole (c : Dev nD) : Vec Ideal S8192x4096 .bf16 := fun i =>
  entry (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

/-- What a step writes back is its block of that array. -/
theorem block_eq (c : Dev nD) (t : Fin cfg0.N) (r x : Fin 512) :
    out0_6 (iblk m c 0 t) (iblk m c 1 t) (iblk m c 2 t) (iblk m c 3 t) (iblk m c 4 t) (iblk m c 5 t) (ix2 r x)
      = whole m c (ix2 (row t r) (colm t x)) := by
  rw [out_apply]
  refine (pay_apply _ _ _ _ _ _ r x).trans ?_
  simp only [b0, b1, b2, b3, b4, b5]
  rfl

/-- The result array after the run. -/
theorem arr_eq (c : Dev nD) : (dats m 0 c).arrAt 6 cfg0.N = whole m c := by
  refine (dats m 0 c).arrAt_eq_of_covers 6 _ (by decide +kernel) fun t hf y => ?_
  blk_simp
  rw [after0_6]
  refine (congrArg _ (eq_ix2 (n0 := 512) (n1 := 512) y)).trans ((block_eq m c t (y 0) (y 1)).trans (congrArg _ ?_))
  funext a; apply Fin.ext
  fin_cases a
  · blk_simp [at6]; rfl
  · blk_simp [at6]; rfl

end Cert.Kernel2Ideal.Proj

namespace Cert.Reference2Ideal.Proj

open Cert.Reference2Ideal Cert.Reference2Ideal.Gen
open Idealize.ShloMosaic Idealize.ShloMosaic.TcCoe Idealize.ShloMosaic.ValueIdx
open scoped BigOperators

/-- The reference's array at an index. -/
theorem merged_apply (yh ya : FVec Ideal S8192x4096 .bf16) (wh wa : FVec Ideal S4096x4096 .bf16) (g : FVec Ideal S8192x20480 .bf16) (r : Fin 8192) (x : Fin 4096) :
    truncf .bf16 (addf (mulf (extf .f32 (extractStridedSlice S8192x4096 ![0, 12288] g slices_S8192x20480_S8192x4096_0_12288) bitsLt_bf16_f32)
        (Host.dotGeneral dot_S8192x4096_S4096x4096_S8192x4096_1_0_0_1_n_n none (extf .f32 yh bitsLt_bf16_f32) (extf .f32 wh bitsLt_bf16_f32)))
      (mulf (extf .f32 (extractStridedSlice S8192x4096 ![0, 16384] g slices_S8192x20480_S8192x4096_0_16384) bitsLt_bf16_f32)
        (Host.dotGeneral dot_S8192x4096_S4096x4096_S8192x4096_1_0_0_1_n_n none (extf .f32 ya bitsLt_bf16_f32) (extf .f32 wa bitsLt_bf16_f32)))) bitsLt_bf16_f32 (ix2 r x)
      = Cert.Kernel2Ideal.Proj.entry yh ya wh wa g r x := by
  refine congrArg₂ (fun a b : EReal => a + b) (congrArg₂ (fun a b : EReal => a * b) ?_ ?_) (congrArg₂ (fun a b : EReal => a * b) ?_ ?_)
  · refine extractStridedSlice_apply ![0, 12288] g slices_S8192x20480_S8192x4096_0_12288 _ _ fun a => ?_
    match a with
    | ⟨0, _⟩ => show r.val = 0 + r.val; omega
    | ⟨1, _⟩ => rfl
  · exact StackMember.dotGeneral_plain_apply none _ _ r x
  · refine extractStridedSlice_apply ![0, 16384] g slices_S8192x20480_S8192x4096_0_16384 _ _ fun a => ?_
    match a with
    | ⟨0, _⟩ => show r.val = 0 + r.val; omega
    | ⟨1, _⟩ => rfl
  · exact StackMember.dotGeneral_plain_apply none _ _ r x

end Cert.Reference2Ideal.Proj

end
-- ==== Proof.GateIdeal.Block.lean ====
/-
  The gate projection's memory between two grid steps: two copies of weight rows on their way into the two
  staging slots, and the names of the buffers they move between.
-/
module

public import proofs.«01_k».proof.Proof.Gen.Kernel3Ideal.Frame
public import proofs.«01_k».proof.Proof.Gen.Kernel3Ideal.Skeleton
public import Idealize.ShloMosaic.Lib.Ring
public import Idealize.ShloMosaic.Lib.Tactic
public import Idealize.ShloMosaic.Lib.WholeRead
public import Idealize.ShloMosaic.Lib.Pipeline.FrameBody

@[expose] public section

noncomputable section

namespace Cert.Kernel3Ideal.Gate

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

abbrev hW : Memref sig .tc .hbm S4096x38912 .f32 := Memref.whole main_arg1
abbrev wS : Memref sig .tc .vmem S2x4096x1024 .bf16 := Memref.whole cc0_scratch0
abbrev sS : Memref sig .tc .vmem S2x256x1024 .f32 := Memref.whole cc0_scratch1
abbrev aS : Memref sig .tc .vmem S1024x1024 .f32 := Memref.whole cc0_scratch2

/-- The 256 rows and 1024 columns of the weight at an offset. -/
abbrev rowsO (o : Fin 2 → ℕ) (h : ∀ a, o a + S256x1024.size a ≤ S4096x38912.size a) : Memref sig .tc .hbm S256x1024 .f32 :=
  hW.slice (Rect.unit (s := S4096x38912) o S256x1024.size h) (fun _ => rfl)

/-- One of the two staging slots. -/
abbrev slotO (o : Fin 3 → ℕ) (h : ∀ a, o a + S1x256x1024.size a ≤ S2x256x1024.size a) : Memref sig .tc .vmem S256x1024 .f32 :=
  (sS.slice (Rect.unit (s := S2x256x1024) o S1x256x1024.size h) (fun _ => rfl)).squeeze S256x1024 squeezes_S1x256x1024_S256x1024

/-- A copy on its way into a slot: it gives back the slot, written, and the rows it reads. -/
abbrev flightO (c : Dev nD) (d : Fin 6) (T : Memref sig .tc .vmem S256x1024 .f32) (o : Fin 2 → ℕ)
    (h : ∀ a, o a + S256x1024.size a ≤ S4096x38912.size a) (g : HbBuf (F := F) c hW) (u : HbBuf (F := F) c T) : sProp 𝕄 :=
  Transfers.Flight (countersEmb (U := Pipeline.UD sig nD τ)) (c : Thread nD τ) (SemLoc.dma d) () 32768
    iprop((T.view.loc (c : Thread nD τ) ↦[T.view.set]{fullShare} u) ∗ (hW.view.loc (c : Thread nD τ) ↦[(rowsO o h).view.set]{fullShare} g))

/-- The rest of the weight beside the two copies in flight. -/
abbrev restO (c : Dev nD) (o o' : Fin 2 → ℕ) (h : ∀ a, o a + S256x1024.size a ≤ S4096x38912.size a)
    (h' : ∀ a, o' a + S256x1024.size a ≤ S4096x38912.size a) (g : HbBuf (F := F) c hW) : sProp 𝕄 :=
  hW.view.loc (c : Thread nD τ) ↦[(Finset.univ \ (rowsO o h).view.set) \ (rowsO o' h').view.set]{fullShare} g

end Cert.Kernel3Ideal.Gate

end
-- ==== Proof.GateIdeal.Tile.lean ====
/-
  The gate projection's contents, block by block: the epilogue of the last product, the product of a block of rows with
  a tile of the weight, and the tile as its rows land in the scratch.
-/
module

public import proofs.«01_k».proof.Proof.GateIdeal.Block
public import Idealize.ShloMosaic.Lib.Pipeline.ValueKit.Tiles
public import Idealize.ShloMosaic.Lib.Pipeline.Value
public import Idealize.ShloMosaic.Lib.WritesUnit
public import Idealize.ShloMosaic.Lib.Writes
public import Idealize.ShloMosaic.Lib.ValueIdx

@[expose] public section

noncomputable section

namespace Cert.Kernel3Ideal.Gate

open Cert.Kernel3Ideal Cert.Kernel3Ideal.Gen
open Idealize.ShloMosaic Idealize.ShloMosaic.TcCoe Idealize.ShloMosaic.ValueIdx

variable {F : FTy → Type} [FloatOps F]

/-! ## The epilogue -/

/-- One element of the output. -/
def gate1 (v : BitVec 32) (x : F .f32) : Elt F .bf16 := k0_pay1 v (fun _ => x) (ix2 (0 : Fin 256) (0 : Fin 256))

theorem pay1_apply (v : BitVec 32) (X : Vec F S256x256 .f32) (y : S256x256.Idx) : k0_pay1 v X y = gate1 v (X y) := by
  unfold gate1 k0_pay1
  unfold Scalar.select
  split <;> rfl

/-- The output block of an accumulator. -/
def gateB (v : BitVec 32) (A : Vec F S1024x1024 .f32) : Vec F S1024x1024 .bf16 := fun y => gate1 v (A y)

/-- Its sixteen pieces, row by row. -/
def outL (v : BitVec 32) (A : Vec F S1024x1024 .f32) : List (View.Piece (Elt F) S1024x1024 .bf16) :=
  [⟨(Rect.unit (s := S1024x1024) ![768, 768] S256x256.size inb_S1024x1024_S256x256_768_768), k0_pay1 v (View.ld A (Rect.unit (s := S1024x1024) ![768, 768] S256x256.size inb_S1024x1024_S256x256_768_768))⟩,
   ⟨(Rect.unit (s := S1024x1024) ![768, 512] S256x256.size inb_S1024x1024_S256x256_768_512), k0_pay1 v (View.ld A (Rect.unit (s := S1024x1024) ![768, 512] S256x256.size inb_S1024x1024_S256x256_768_512))⟩,
   ⟨(Rect.unit (s := S1024x1024) ![768, 256] S256x256.size inb_S1024x1024_S256x256_768_256), k0_pay1 v (View.ld A (Rect.unit (s := S1024x1024) ![768, 256] S256x256.size inb_S1024x1024_S256x256_768_256))⟩,
   ⟨(Rect.unit (s := S1024x1024) ![768, 0] S256x256.size inb_S1024x1024_S256x256_768_0), k0_pay1 v (View.ld A (Rect.unit (s := S1024x1024) ![768, 0] S256x256.size inb_S1024x1024_S256x256_768_0))⟩,
   ⟨(Rect.unit (s := S1024x1024) ![512, 768] S256x256.size inb_S1024x1024_S256x256_512_768), k0_pay1 v (View.ld A (Rect.unit (s := S1024x1024) ![512, 768] S256x256.size inb_S1024x1024_S256x256_512_768))⟩,
   ⟨(Rect.unit (s := S1024x1024) ![512, 512] S256x256.size inb_S1024x1024_S256x256_512_512), k0_pay1 v (View.ld A (Rect.unit (s := S1024x1024) ![512, 512] S256x256.size inb_S1024x1024_S256x256_512_512))⟩,
   ⟨(Rect.unit (s := S1024x1024) ![512, 256] S256x256.size inb_S1024x1024_S256x256_512_256), k0_pay1 v (View.ld A (Rect.unit (s := S1024x1024) ![512, 256] S256x256.size inb_S1024x1024_S256x256_512_256))⟩,
   ⟨(Rect.unit (s := S1024x1024) ![512, 0] S256x256.size inb_S1024x1024_S256x256_512_0), k0_pay1 v (View.ld A (Rect.unit (s := S1024x1024) ![512, 0] S256x256.size inb_S1024x1024_S256x256_512_0))⟩,
   ⟨(Rect.unit (s := S1024x1024) ![256, 768] S256x256.size inb_S1024x1024_S256x256_256_768), k0_pay1 v (View.ld A (Rect.unit (s := S1024x1024) ![256, 768] S256x256.size inb_S1024x1024_S256x256_256_768))⟩,
   ⟨(Rect.unit (s := S1024x1024) ![256, 512] S256x256.size inb_S1024x1024_S256x256_256_512), k0_pay1 v (View.ld A (Rect.unit (s := S1024x1024) ![256, 512] S256x256.size inb_S1024x1024_S256x256_256_512))⟩,
   ⟨(Rect.unit (s := S1024x1024) ![256, 256] S256x256.size inb_S1024x1024_S256x256_256_256), k0_pay1 v (View.ld A (Rect.unit (s := S1024x1024) ![256, 256] S256x256.size inb_S1024x1024_S256x256_256_256))⟩,
   ⟨(Rect.unit (s := S1024x1024) ![256, 0] S256x256.size inb_S1024x1024_S256x256_256_0), k0_pay1 v (View.ld A (Rect.unit (s := S1024x1024) ![256, 0] S256x256.size inb_S1024x1024_S256x256_256_0))⟩,
   ⟨(Rect.unit (s := S1024x1024) ![0, 768] S256x256.size inb_S1024x1024_S256x256_0_768), k0_pay1 v (View.ld A (Rect.unit (s := S1024x1024) ![0, 768] S256x256.size inb_S1024x1024_S256x256_0_768))⟩,
   ⟨(Rect.unit (s := S1024x1024) ![0, 512] S256x256.size inb_S1024x1024_S256x256_0_512), k0_pay1 v (View.ld A (Rect.unit (s := S1024x1024) ![0, 512] S256x256.size inb_S1024x1024_S256x256_0_512))⟩,
   ⟨(Rect.unit (s := S1024x1024) ![0, 256] S256x256.size inb_S1024x1024_S256x256_0_256), k0_pay1 v (View.ld A (Rect.unit (s := S1024x1024) ![0, 256] S256x256.size inb_S1024x1024_S256x256_0_256))⟩,
   ⟨(Rect.unit (s := S1024x1024) ![0, 0] S256x256.size inb_S1024x1024_S256x256_0_0), k0_pay1 v (View.ld A (Rect.unit (s := S1024x1024) ![0, 0] S256x256.size inb_S1024x1024_S256x256_0_0))⟩]

theorem outL_cover (v : BitVec 32) (A : Vec F S1024x1024 .f32) : ∀ y, ∃ p ∈ outL v A, y ∈ p.1.set :=
  View.cover_of_tiledL (outL v A) ![256, 256] (by sl_kernel_rfl)

theorem outL_pieces (v : BitVec 32) (A : Vec F S1024x1024 .f32) :
    ∀ p ∈ outL v A, ∀ x : p.1.shape.Idx, p.2 x = gateB v A (p.1.emb x) := by
  unfold outL
  simp only [List.forall_mem_cons]
  refine ⟨fun x => pay1_apply v _ x, fun x => pay1_apply v _ x, fun x => pay1_apply v _ x, fun x => pay1_apply v _ x, fun x => pay1_apply v _ x, fun x => pay1_apply v _ x, fun x => pay1_apply v _ x, fun x => pay1_apply v _ x, fun x => pay1_apply v _ x, fun x => pay1_apply v _ x, fun x => pay1_apply v _ x, fun x => pay1_apply v _ x, fun x => pay1_apply v _ x, fun x => pay1_apply v _ x, fun x => pay1_apply v _ x, fun x => pay1_apply v _ x, fun p hp => absurd hp List.not_mem_nil⟩

theorem outL_read (M : Memref sig .tc .vmem S1024x1024 .bf16) (f : M.view.ty.Contents (Elt F)) (v : BitVec 32) (A : Vec F S1024x1024 .f32) :
    M.view.read (Elt F) (M.view.writes (Elt F) f (outL v A)) = gateB v A :=
  funext fun y => View.read_writes_apply_of_pieces (v := M.view) (f := f) (gateB v A) (outL v A) (outL_pieces v A) y (outL_cover v A y)

/-- Its sixteen pieces, column by column. -/
def outM (v : BitVec 32) (A : Vec F S1024x1024 .f32) : List (View.Piece (Elt F) S1024x1024 .bf16) :=
  [⟨(Rect.unit (s := S1024x1024) ![768, 768] S256x256.size inb_S1024x1024_S256x256_768_768), k0_pay1 v (View.ld A (Rect.unit (s := S1024x1024) ![768, 768] S256x256.size inb_S1024x1024_S256x256_768_768))⟩,
   ⟨(Rect.unit (s := S1024x1024) ![512, 768] S256x256.size inb_S1024x1024_S256x256_512_768), k0_pay1 v (View.ld A (Rect.unit (s := S1024x1024) ![512, 768] S256x256.size inb_S1024x1024_S256x256_512_768))⟩,
   ⟨(Rect.unit (s := S1024x1024) ![256, 768] S256x256.size inb_S1024x1024_S256x256_256_768), k0_pay1 v (View.ld A (Rect.unit (s := S1024x1024) ![256, 768] S256x256.size inb_S1024x1024_S256x256_256_768))⟩,
   ⟨(Rect.unit (s := S1024x1024) ![0, 768] S256x256.size inb_S1024x1024_S256x256_0_768), k0_pay1 v (View.ld A (Rect.unit (s := S1024x1024) ![0, 768] S256x256.size inb_S1024x1024_S256x256_0_768))⟩,
   ⟨(Rect.unit (s := S1024x1024) ![768, 512] S256x256.size inb_S1024x1024_S256x256_768_512), k0_pay1 v (View.ld A (Rect.unit (s := S1024x1024) ![768, 512] S256x256.size inb_S1024x1024_S256x256_768_512))⟩,
   ⟨(Rect.unit (s := S1024x1024) ![512, 512] S256x256.size inb_S1024x1024_S256x256_512_512), k0_pay1 v (View.ld A (Rect.unit (s := S1024x1024) ![512, 512] S256x256.size inb_S1024x1024_S256x256_512_512))⟩,
   ⟨(Rect.unit (s := S1024x1024) ![256, 512] S256x256.size inb_S1024x1024_S256x256_256_512), k0_pay1 v (View.ld A (Rect.unit (s := S1024x1024) ![256, 512] S256x256.size inb_S1024x1024_S256x256_256_512))⟩,
   ⟨(Rect.unit (s := S1024x1024) ![0, 512] S256x256.size inb_S1024x1024_S256x256_0_512), k0_pay1 v (View.ld A (Rect.unit (s := S1024x1024) ![0, 512] S256x256.size inb_S1024x1024_S256x256_0_512))⟩,
   ⟨(Rect.unit (s := S1024x1024) ![768, 256] S256x256.size inb_S1024x1024_S256x256_768_256), k0_pay1 v (View.ld A (Rect.unit (s := S1024x1024) ![768, 256] S256x256.size inb_S1024x1024_S256x256_768_256))⟩,
   ⟨(Rect.unit (s := S1024x1024) ![512, 256] S256x256.size inb_S1024x1024_S256x256_512_256), k0_pay1 v (View.ld A (Rect.unit (s := S1024x1024) ![512, 256] S256x256.size inb_S1024x1024_S256x256_512_256))⟩,
   ⟨(Rect.unit (s := S1024x1024) ![256, 256] S256x256.size inb_S1024x1024_S256x256_256_256), k0_pay1 v (View.ld A (Rect.unit (s := S1024x1024) ![256, 256] S256x256.size inb_S1024x1024_S256x256_256_256))⟩,
   ⟨(Rect.unit (s := S1024x1024) ![0, 256] S256x256.size inb_S1024x1024_S256x256_0_256), k0_pay1 v (View.ld A (Rect.unit (s := S1024x1024) ![0, 256] S256x256.size inb_S1024x1024_S256x256_0_256))⟩,
   ⟨(Rect.unit (s := S1024x1024) ![768, 0] S256x256.size inb_S1024x1024_S256x256_768_0), k0_pay1 v (View.ld A (Rect.unit (s := S1024x1024) ![768, 0] S256x256.size inb_S1024x1024_S256x256_768_0))⟩,
   ⟨(Rect.unit (s := S1024x1024) ![512, 0] S256x256.size inb_S1024x1024_S256x256_512_0), k0_pay1 v (View.ld A (Rect.unit (s := S1024x1024) ![512, 0] S256x256.size inb_S1024x1024_S256x256_512_0))⟩,
   ⟨(Rect.unit (s := S1024x1024) ![256, 0] S256x256.size inb_S1024x1024_S256x256_256_0), k0_pay1 v (View.ld A (Rect.unit (s := S1024x1024) ![256, 0] S256x256.size inb_S1024x1024_S256x256_256_0))⟩,
   ⟨(Rect.unit (s := S1024x1024) ![0, 0] S256x256.size inb_S1024x1024_S256x256_0_0), k0_pay1 v (View.ld A (Rect.unit (s := S1024x1024) ![0, 0] S256x256.size inb_S1024x1024_S256x256_0_0))⟩]

theorem outM_cover (v : BitVec 32) (A : Vec F S1024x1024 .f32) : ∀ y, ∃ p ∈ outM v A, y ∈ p.1.set :=
  View.cover_of_tiledL (outM v A) ![256, 256] (by sl_kernel_rfl)

theorem outM_pieces (v : BitVec 32) (A : Vec F S1024x1024 .f32) :
    ∀ p ∈ outM v A, ∀ x : p.1.shape.Idx, p.2 x = gateB v A (p.1.emb x) := by
  unfold outM
  simp only [List.forall_mem_cons]
  refine ⟨fun x => pay1_apply v _ x, fun x => pay1_apply v _ x, fun x => pay1_apply v _ x, fun x => pay1_apply v _ x, fun x => pay1_apply v _ x, fun x => pay1_apply v _ x, fun x => pay1_apply v _ x, fun x => pay1_apply v _ x, fun x => pay1_apply v _ x, fun x => pay1_apply v _ x, fun x => pay1_apply v _ x, fun x => pay1_apply v _ x, fun x => pay1_apply v _ x, fun x => pay1_apply v _ x, fun x => pay1_apply v _ x, fun x => pay1_apply v _ x, fun p hp => absurd hp List.not_mem_nil⟩

theorem outM_read (M : Memref sig .tc .vmem S1024x1024 .bf16) (f : M.view.ty.Contents (Elt F)) (v : BitVec 32) (A : Vec F S1024x1024 .f32) :
    M.view.read (Elt F) (M.view.writes (Elt F) f (outM v A)) = gateB v A :=
  funext fun y => View.read_writes_apply_of_pieces (v := M.view) (f := f) (gateB v A) (outM v A) (outM_pieces v A) y (outM_cover v A y)

/-! ## The product -/

/-- The accumulator's four row blocks. -/
def accL (h : Vec F S1024x4096 .bf16) (w : Vec F S1x4096x1024 .bf16) : List (View.Piece (Elt F) S1024x1024 .f32) :=
  [⟨(Rect.unit (s := S1024x1024) ![768, 0] S256x1024.size inb_S1024x1024_S256x1024_768_0), k0_pay2 (View.ld h (Rect.unit (s := S1024x4096) ![768, 0] S256x4096.size inb_S1024x4096_S256x4096_768_0)) w⟩,
   ⟨(Rect.unit (s := S1024x1024) ![512, 0] S256x1024.size inb_S1024x1024_S256x1024_512_0), k0_pay2 (View.ld h (Rect.unit (s := S1024x4096) ![512, 0] S256x4096.size inb_S1024x4096_S256x4096_512_0)) w⟩,
   ⟨(Rect.unit (s := S1024x1024) ![256, 0] S256x1024.size inb_S1024x1024_S256x1024_256_0), k0_pay2 (View.ld h (Rect.unit (s := S1024x4096) ![256, 0] S256x4096.size inb_S1024x4096_S256x4096_256_0)) w⟩,
   ⟨(Rect.unit (s := S1024x1024) ![0, 0] S256x1024.size inb_S1024x1024_S256x1024_0_0), k0_pay2 (View.ld h (Rect.unit (s := S1024x4096) ![0, 0] S256x4096.size inb_S1024x4096_S256x4096_0_0)) w⟩]

/-- The accumulator after a step. -/
def accB (h : Vec F S1024x4096 .bf16) (w : Vec F S1x4096x1024 .bf16) : Vec F S1024x1024 .f32 := View.canon (accL h w)

theorem accL_cover (h : Vec F S1024x4096 .bf16) (w : Vec F S1x4096x1024 .bf16) : ∀ y, ∃ p ∈ accL h w, y ∈ p.1.set :=
  View.cover_of_tiledL (accL h w) ![256, 1024] (by sl_kernel_rfl)

theorem acc_read (f : aS.view.ty.Contents (Elt F)) (h : Vec F S1024x4096 .bf16) (w : Vec F S1x4096x1024 .bf16) :
    aS.view.read (Elt F) (aS.view.writes (Elt F) f (accL h w)) = accB h w :=
  View.read_writes_eq_canon _ _ _ (accL_cover h w)

/-! ## The weight's tiles -/

/-- The weight, rounded, at a row and at a column of a tile. -/
def wAt (fW : hW.view.ty.Contents (Elt F)) (n : ℕ) (r : Fin 4096) (q : Fin 1024) : F .f32 :=
  hW.view.read (Elt F) fW (ix2 r (⟨(18432 + 1024 * n + q.val) % 38912, Nat.mod_lt _ (by decide)⟩ : Fin 38912))

/-- One element of the weight as it lands. -/
def rnd (x : F .f32) : Elt F .bf16 := truncf .bf16 (fun _ : S256x1024.Idx => x) bitsLt_bf16_f32 (ix2 (0 : Fin 256) (0 : Fin 1024))

theorem pay67_apply (X : Vec F S1x256x1024 .f32) (y : S1x256x1024.Idx) : k0_pay67 X y = rnd (X y) := by
  have e : truncf .bf16 (shapeCast S256x1024 X shapeCasts_S1x256x1024_S256x1024 : FVec F S256x1024 .f32) bitsLt_bf16_f32
      = fun z => rnd (shapeCast S256x1024 X shapeCasts_S1x256x1024_S256x1024 z) := rfl
  unfold k0_pay67
  rw [e]
  show rnd (shapeCast S1x256x1024 (shapeCast S256x1024 X shapeCasts_S1x256x1024_S256x1024) shapeCasts_S256x1024_S1x256x1024 y) = rnd (X y)
  rw [shapeCast_shapeCast]

/-- A tile of the weight. -/
def wTile (fW : hW.view.ty.Contents (Elt F)) (n : ℕ) : Vec F S1x4096x1024 .bf16 := fun y => rnd (wAt fW n (y 1) (y 2))

/-- A slot of the scratch holds the first `lo` rows of a tile. -/
def Tile (fW : hW.view.ty.Contents (Elt F)) (fw : wS.view.ty.Contents (Elt F)) (s n lo : ℕ) : Prop :=
  ∀ y : S2x4096x1024.Idx, (y 0).val = s → (y 1).val < lo → wS.view.read (Elt F) fw y = rnd (wAt fW n (y 1) (y 2))

/-- A load of a full slot is its tile. -/
theorem tile_load {fW : hW.view.ty.Contents (Elt F)} {fw : wS.view.ty.Contents (Elt F)} {s n : ℕ} (h : Tile fW fw s n 4096)
    (o : Fin 3 → ℕ) (ho : o = ![s, 0, 0]) (hb : ∀ a, o a + S1x4096x1024.size a ≤ S2x4096x1024.size a) :
    (View.ld (wS.view.read (Elt F) fw) (Rect.unit (s := S2x4096x1024) o S1x4096x1024.size hb) : Vec F S1x4096x1024 .bf16) = wTile fW n := by
  subst ho
  funext y
  have h1 : (y 1).val < 4096 := (y 1).isLt
  have h0 : (y 0).val < 1 := (y 0).isLt
  refine (h ((Rect.unit (s := S2x4096x1024) ![s, 0, 0] S1x4096x1024.size hb).idx y) ?_ ?_).trans ?_
  · show s + 1 * (y 0).val = s; omega
  · show 0 + 1 * (y 1).val < 4096; omega
  · refine congrArg rnd (congrArg₂ (wAt fW n) (Fin.ext ?_) (Fin.ext ?_))
    · show 0 + 1 * (y 1).val = (y 1).val; omega
    · show 0 + 1 * (y 2).val = (y 2).val; omega

/-! ## The staging slots -/

/-- What a view reads once it is written as a whole. -/
theorem read_whole_piece {sh : Shape} {e : EltTy} (v : View sig .tc .vmem sh e) (f : v.ty.Contents (Elt F)) (p : Vec F sh e) :
    v.read (Elt F) (v.writes (Elt F) f [⟨Rect.whole sh, p⟩]) = p :=
  funext fun y => View.read_writes_cons_unit_of_mem v f (fun _ => by simp) p [] y y rfl fun a => (Nat.zero_add _).symm

/-- A load of a staging slot, at an index. -/
theorem slot_at (o : Fin 3 → ℕ) (h : ∀ a, o a + S1x256x1024.size a ≤ S2x256x1024.size a) (u : sS.view.ty.Contents (Elt F)) (x : S1x256x1024.Idx) :
    sS.view.readAt (Elt F) (Rect.unit (s := S2x256x1024) o S1x256x1024.size h).toLoadRect u x = View.read (Elt F) (slotO o h).view u (ix2 (x 1) (x 2)) := by
  refine (shapeCast_apply (sS.view.readAt (Elt F) (Rect.unit (s := S2x256x1024) o S1x256x1024.size h).toLoadRect u : Vec F S1x256x1024 .f32)
    shapeCasts_S1x256x1024_S256x1024 (ix2 (x 1) (x 2)) x ?_).symm
  have h0 : (x 0).val < 1 := (x 0).isLt
  rw [Shape.rowMajor_val_three, Shape.rowMajor_val_two]
  show ((x 0).val * 256 + (x 1).val) * 1024 + (x 2).val = (x 1).val * 1024 + (x 2).val
  omega

/-- What a slot reads after rows were copied into it. -/
theorem slot_new (o : Fin 3 → ℕ) (h : ∀ a, o a + S1x256x1024.size a ≤ S2x256x1024.size a) (u : sS.view.ty.Contents (Elt F)) (p : Vec F S256x1024 .f32) (x : S1x256x1024.Idx) :
    sS.view.readAt (Elt F) (Rect.unit (s := S2x256x1024) o S1x256x1024.size h).toLoadRect (View.write (Elt F) (slotO o h).view u p Finset.univ) x = p (ix2 (x 1) (x 2)) :=
  (slot_at o h _ x).trans (congrFun (View.read_write_univ (v := (slotO o h).view) u p) _)

/-- A copy into the other slot is not seen. -/
theorem slot_other (o o' : Fin 3 → ℕ) (h : ∀ a, o a + S1x256x1024.size a ≤ S2x256x1024.size a)
    (h' : ∀ a, o' a + S1x256x1024.size a ≤ S2x256x1024.size a) (hne : o 0 ≠ o' 0) (u : sS.view.ty.Contents (Elt F)) (p : Vec F S256x1024 .f32) :
    (sS.view.readAt (Elt F) (Rect.unit (s := S2x256x1024) o S1x256x1024.size h).toLoadRect
      (View.write (Elt F) (slotO o' h').view u p Finset.univ) : Vec F S1x256x1024 .f32)
      = sS.view.readAt (Elt F) (Rect.unit (s := S2x256x1024) o S1x256x1024.size h).toLoadRect u := by
  refine View.read_congr (v := sS.view.slice (Rect.unit (s := S2x256x1024) o S1x256x1024.size h)) fun i hi => View.write_of_not_mem _ _ _ fun hm => ?_
  have hm' : i ∈ (sS.view.slice (Rect.unit (s := S2x256x1024) o' S1x256x1024.size h')).set := by
    rw [← View.set_reshape (s' := S256x1024) (h := squeezes_S1x256x1024_S256x1024.numel_eq)]
    exact hm
  rw [View.set_slice, Finset.mem_map] at hi hm'
  obtain ⟨x, hx, rfl⟩ := hi
  obtain ⟨x', hx', he⟩ := hm'
  obtain rfl := sS.view.emb.injective he
  rw [Rect.mem_set_unit] at hx hx'
  have a := hx 0; have b := hx' 0
  have e : S1x256x1024.size 0 = 1 := rfl
  rw [e] at a b
  omega

/-- The rows of the weight at an offset, at an index. -/
theorem rows_at (fW : hW.view.ty.Contents (Elt F)) (n r0 : ℕ) (o : Fin 2 → ℕ) (h : ∀ a, o a + S256x1024.size a ≤ S4096x38912.size a)
    (ho : o = ![r0, 18432 + 1024 * n]) (x1 : Fin 256) (x2 : Fin 1024) (r : Fin 4096) (q : Fin 1024) (hr : r.val = r0 + x1.val) (hq : q.val = x2.val) :
    View.read (Elt F) (rowsO o h).view fW (ix2 x1 x2) = wAt fW n r q := by
  subst ho
  have hb : 18432 + 1024 * n + 1024 ≤ 38912 := h 1
  refine View.ld_unit_apply_of (hW.view.read (Elt F) fW) ![r0, 18432 + 1024 * n] S256x1024.size h (ix2 x1 x2) _ fun a => ?_
  fin_cases a
  · exact hr
  · show (18432 + 1024 * n + q.val) % 38912 = 18432 + 1024 * n + x2.val
    rw [hq, Nat.mod_eq_of_lt (by omega)]

/-- What a chunk puts into the scratch, when it was read from the rows at an offset. -/
theorem chunk (fW : hW.view.ty.Contents (Elt F)) (n r0 : ℕ) (o : Fin 2 → ℕ) (h : ∀ a, o a + S256x1024.size a ≤ S4096x38912.size a)
    (ho : o = ![r0, 18432 + 1024 * n]) (X : Vec F S1x256x1024 .f32)
    (hX : ∀ x : S1x256x1024.Idx, X x = View.read (Elt F) (rowsO o h).view fW (ix2 (x 1) (x 2)))
    (x : S1x256x1024.Idx) (r : Fin 4096) (k : Fin 1024) (hr : r.val = r0 + (x 1).val) (hk : k.val = (x 2).val) :
    k0_pay67 X x = rnd (wAt fW n r k) :=
  (pay67_apply X x).trans (congrArg rnd ((hX x).trans (rows_at fW n r0 o h ho (x 1) (x 2) r k hr hk)))

/-- One more chunk of the tile in the first slot. -/
theorem tile_push {fW : hW.view.ty.Contents (Elt F)} {fw : wS.view.ty.Contents (Elt F)} (n r0 r1 : ℕ) (e : r1 = r0 + 256)
    (h : ∀ a, (![0, r0, 0] : Fin 3 → ℕ) a + S1x256x1024.size a ≤ S2x4096x1024.size a) (p : Vec F S1x256x1024 .bf16) (L : List (View.Piece (Elt F) S2x4096x1024 .bf16))
    (hp : ∀ (x : S1x256x1024.Idx) (r : Fin 4096) (k : Fin 1024), r.val = r0 + (x 1).val → k.val = (x 2).val → p x = rnd (wAt fW n r k))
    (ht : Tile fW (wS.view.writes (Elt F) fw L) 0 n r0) :
    Tile fW (wS.view.writes (Elt F) fw (⟨Rect.unit (s := S2x4096x1024) ![0, r0, 0] S1x256x1024.size h, p⟩ :: L)) 0 n r1 := by
  intro y h0 h1
  by_cases c0 : r0 ≤ (y 1).val
  · refine (View.read_writes_cons_unit_of_mem wS.view _ h p L y (ix3 (0 : Fin 1) (⟨(y 1).val - r0, by omega⟩ : Fin 256) (y 2)) rfl fun a => ?_).trans
      (hp _ _ _ ?_ rfl)
    · fin_cases a
      · exact h0
      · show (y 1).val = r0 + ((y 1).val - r0); omega
      · show (y 2).val = 0 + (y 2).val; omega
    · show (y 1).val = r0 + ((y 1).val - r0); omega
  · refine (View.read_writes_cons_unit_of_not_mem wS.view _ h p L y rfl 1 (Or.inl (by show (y 1).val < r0; omega))).trans ?_
    exact ht y h0 (by omega)

/-- A chunk that landed: its rows join the tile. -/
theorem tile_land {fW : hW.view.ty.Contents (Elt F)} {fw : wS.view.ty.Contents (Elt F)} (s n r0 r1 : ℕ)
    (o2 o4 : Fin 3 → ℕ) (h2 : ∀ a, o2 a + S1x256x1024.size a ≤ S2x4096x1024.size a) (h4 : ∀ a, o4 a + S1x256x1024.size a ≤ S2x4096x1024.size a)
    (e2 : o2 = ![s, r0, 0]) (e4 : o4 = ![s, r1, 0]) (h01 : r1 = r0 + 256)
    (p q : Vec F S1x256x1024 .bf16)
    (hp : ∀ (x : S1x256x1024.Idx) (r : Fin 4096) (k : Fin 1024), r.val = r0 + (x 1).val → k.val = (x 2).val → p x = rnd (wAt fW n r k))
    (hq : ∀ (x : S1x256x1024.Idx) (r : Fin 4096) (k : Fin 1024), r.val = r1 + (x 1).val → k.val = (x 2).val → q x = rnd (wAt fW n r k))
    (ht : Tile fW fw s n r0) :
    Tile fW (wS.view.writes (Elt F) fw [⟨Rect.unit (s := S2x4096x1024) o4 S1x256x1024.size h4, q⟩, ⟨Rect.unit (s := S2x4096x1024) o2 S1x256x1024.size h2, p⟩]) s n (r0 + 512) := by
  subst e2 e4
  intro y h0 h1
  by_cases c1 : r1 ≤ (y 1).val
  · refine (View.read_writes_cons_unit_of_mem wS.view _ h4 q _ y (ix3 (0 : Fin 1) (⟨(y 1).val - r1, by omega⟩ : Fin 256) (y 2)) rfl fun a => ?_).trans
      (hq _ _ _ ?_ rfl)
    · fin_cases a
      · exact h0
      · show (y 1).val = r1 + ((y 1).val - r1); omega
      · show (y 2).val = 0 + (y 2).val; omega
    · show (y 1).val = r1 + ((y 1).val - r1); omega
  · refine (View.read_writes_cons_unit_of_not_mem wS.view _ h4 q _ y rfl 1 (Or.inl (by show (y 1).val < r1; omega))).trans ?_
    by_cases c0 : r0 ≤ (y 1).val
    · refine (View.read_writes_cons_unit_of_mem wS.view _ h2 p _ y (ix3 (0 : Fin 1) (⟨(y 1).val - r0, by omega⟩ : Fin 256) (y 2)) rfl fun a => ?_).trans
        (hp _ _ _ ?_ rfl)
      · fin_cases a
        · exact h0
        · show (y 1).val = r0 + ((y 1).val - r0); omega
        · show (y 2).val = 0 + (y 2).val; omega
      · show (y 1).val = r0 + ((y 1).val - r0); omega
    · refine (View.read_writes_cons_unit_of_not_mem wS.view _ h2 p _ y rfl 1 (Or.inl (by show (y 1).val < r0; omega))).trans ?_
      exact ht y h0 (by omega)

/-- A chunk that lands in one slot leaves the other. -/
theorem tile_keep {fW : hW.view.ty.Contents (Elt F)} {fw : wS.view.ty.Contents (Elt F)} (s s' n lo r0 r1 : ℕ)
    (o2 o4 : Fin 3 → ℕ) (h2 : ∀ a, o2 a + S1x256x1024.size a ≤ S2x4096x1024.size a) (h4 : ∀ a, o4 a + S1x256x1024.size a ≤ S2x4096x1024.size a)
    (e2 : o2 = ![s', r0, 0]) (e4 : o4 = ![s', r1, 0]) (hs : s ≠ s') (p q : Vec F S1x256x1024 .bf16) (ht : Tile fW fw s n lo) :
    Tile fW (wS.view.writes (Elt F) fw [⟨Rect.unit (s := S2x4096x1024) o4 S1x256x1024.size h4, q⟩, ⟨Rect.unit (s := S2x4096x1024) o2 S1x256x1024.size h2, p⟩]) s n lo := by
  subst e2 e4
  intro y h0 h1
  have e : S1x256x1024.size 0 = 1 := rfl
  refine (View.read_writes_cons_unit_of_not_mem wS.view _ h4 q _ y rfl 0 (by show (y 0).val < s' ∨ s' + 1 ≤ (y 0).val; omega)).trans ?_
  refine (View.read_writes_cons_unit_of_not_mem wS.view _ h2 p _ y rfl 0 (by show (y 0).val < s' ∨ s' + 1 ≤ (y 0).val; omega)).trans ?_
  exact ht y h0 h1

end Cert.Kernel3Ideal.Gate

end
-- ==== Proof.GateIdeal.Run.lean ====
/-
  One grid step of the gate projection, run from what it holds to what it leaves.
-/
module

public import proofs.«01_k».proof.Proof.GateIdeal.Tile
@[expose] public section

noncomputable section

namespace Cert.Kernel3Ideal.Gate

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The column block whose product the step finishes. -/
def nPrev (i : grid0.Coords) : BitVec 32 :=
  let arg0 : BitVec 32 := BitVec.ofNat 32 (i 0).val
  let c1_i32_10 : BitVec 32 := 1#32
  let v27 : BitVec 32 := Scalar.subi arg0 c1_i32_10
  let c0_i32_11 : BitVec 32 := 0#32
  let v28 : BitVec 32 := Scalar.maxsi v27 c0_i32_11
  let c8_i32_12 : BitVec 32 := 8#32
  let v29 : BitVec 32 := Scalar.divsi v28 c8_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c0_i32_15 : BitVec 32 := 0#32
  let v35 : BitVec 1 := Scalar.cmpi .sgt c8_i32_12 c0_i32_15
  let v36 : BitVec 32 := Scalar.extui v35
  let c0_i32_16 : BitVec 32 := 0#32
  let v37 : BitVec 1 := Scalar.cmpi .slt c8_i32_12 c0_i32_16
  let v38 : BitVec 32 := Scalar.extui v37
  let v39 : BitVec 32 := Scalar.subi v36 v38
  let v40 : BitVec 1 := Scalar.cmpi .ne v34 v39
  let v41 : BitVec 32 := Scalar.remsi v28 c8_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  v45

/-- The staging slots. -/
abbrev slot0 : Memref sig .tc .vmem S256x1024 .f32 := slotO ![0, 0, 0] inb_S2x256x1024_S1x256x1024_0_0_0
abbrev slot1 : Memref sig .tc .vmem S256x1024 .f32 := slotO ![1, 0, 0] inb_S2x256x1024_S1x256x1024_1_0_0

/-- The two chunks a step lands. -/
def landL (i : grid0.Coords) (h2 : k0_cond2 i = 1#1) (h3 : k0_cond3 i = 1#1) (u0 u1 : sS.view.ty.Contents (Elt F)) : List (View.Piece (Elt F) S2x4096x1024 .bf16) :=
  [⟨Rect.unit (s := S2x4096x1024) (k0_off4 i) S1x256x1024.size (k0_off4_inb i h3), k0_pay68 (sS.view.readAt (Elt F) (Rect.unit (s := S2x256x1024) ![1, 0, 0] S1x256x1024.size inb_S2x256x1024_S1x256x1024_1_0_0).toLoadRect u1)⟩,
   ⟨Rect.unit (s := S2x4096x1024) (k0_off2 i) S1x256x1024.size (k0_off2_inb i h2), k0_pay67 (sS.view.readAt (Elt F) (Rect.unit (s := S2x256x1024) ![0, 0, 0] S1x256x1024.size inb_S2x256x1024_S1x256x1024_0_0_0).toLoadRect u0)⟩]

/-- The slot of the scratch the step reads. -/
abbrev rect7 (i : grid0.Coords) (h6 : k0_cond6 i = 1#1) : Rect S2x4096x1024 := Rect.unit (s := S2x4096x1024) (k0_off7 i) S1x4096x1024.size (k0_off7_inb i h6)

set_option maxHeartbeats 1000000 in
/-- The first step: the first tile is brought in, and two chunks of the next are started. -/
theorem run_first (c : Dev nD) (i : grid0.Coords)
    (arg1 : Memref sig .tc .vmem S1024x4096 .bf16) (harg1 : arg1.IsWhole)
    (arg3 : Memref sig .tc .vmem S1024x1024 .bf16) (harg3 : arg3.IsWhole)
    (h1 : k0_cond1 i = 1#1) (h2 : ¬ (k0_cond2 i = 1#1)) (h3 : ¬ (k0_cond3 i = 1#1)) (h4 : k0_cond4 i = 1#1) (h5 : k0_cond5 i = 1#1) (h6 : k0_cond6 i = 1#1) (h7 : ¬ (k0_cond7 i = 1#1))
    (hd : Disjoint (rowsO (k0_off6 i) (k0_off6_inb i h5)).view.set (rowsO (k0_off5 i) (k0_off5_inb i h4)).view.set)
    (x1 : Vec F S1024x4096 .bf16) (fW : HbBuf (F := F) c hW)
    (fw : HbBuf (F := F) c wS) (fs : HbBuf (F := F) c sS) (fa : HbBuf (F := F) c aS)
    (W : Waits sig Unit) :
    iprop(owns (c : Thread nD τ) arg1 fullShare x1
          ∗ (∃ d, owns (c : Thread nD τ) arg3 fullShare d)
          ∗ hbPt c hW fW ∗ hbPt c wS fw ∗ hbPt c sS fs ∗ hbPt c aS fa ∗ semVal ((c : Thread nD τ), SemLoc.dma 4) 0 ∗ semVal ((c : Thread nD τ), SemLoc.dma 5) 0
          ∗ owes (c : Thread nD τ) 0 W)
      ⊢ wp frame (wpE (defs₀ (F := F)) Variants.none c none) Set.univ
          (cc0_inproj_g i arg1 harg1 hW (Memref.isWhole_whole _) arg3 harg3 wS (Memref.isWhole_whole _) sS (Memref.isWhole_whole _) aS (Memref.isWhole_whole _) cc0_scratch3)
          (fun _ => iprop(owns (c : Thread nD τ) arg1 fullShare x1
            ∗ owns (c : Thread nD τ) arg3 fullShare (gateB (nPrev i) (k0_pay4 (F := F)))
            ∗ (∃ fw', ⌜Tile fW fw' 0 0 4096⌝ ∗ hbPt c wS fw'
              ∗ (∃ fa', ⌜aS.view.read (Elt F) fa' = accB x1 (View.ld (wS.view.read (Elt F) fw') (rect7 i h6))⌝ ∗ hbPt c aS fa'))
            ∗ restO c (k0_off5 i) (k0_off6 i) (k0_off5_inb i h4) (k0_off6_inb i h5) fW
            ∗ (∃ u, ⌜View.read (Elt F) slot0.view u = View.read (Elt F) (rowsO (k0_off5 i) (k0_off5_inb i h4)).view fW⌝ ∗ flightO c 4 slot0 (k0_off5 i) (k0_off5_inb i h4) fW u)
            ∗ (∃ u, ⌜View.read (Elt F) slot1.view u = View.read (Elt F) (rowsO (k0_off6 i) (k0_off6_inb i h5)).view fW⌝ ∗ flightO c 5 slot1 (k0_off6 i) (k0_off6_inb i h5) fW u)
            ∗ (∃ W', owes (c : Thread nD τ) 0 W'))) := by
  simp only [cc0_inproj_g_eq_skeleton]; unfold cc0_inproj_g_skel
  unfold owns
  iintro ⟨⟨%f1, %e1, H1⟩, ⟨%d3, %f3, -, H3⟩, HW, Hw, Hs, Ha, S0, S1, HO⟩
  subst e1
  set_option sl_exec.dmaWindow true in
  set_option sl_exec.dmaWindowLent true in
  set_option sl_exec.rejoinStated true in
  set_option sl_exec.resultNames true in
  set_option sl_exec.stopBefore "k0_cond4" in
  sl_exec (disch := assumption)
  generalize hfw : wS.view.writes (Elt F) fw _ = fw'
  generalize hfa : aS.view.writes (Elt F) fa _ = fa'
  rw [dif_pos h4]
  set_option sl_exec.dmaWindow true in
  set_option sl_exec.dmaWindowLent true in
  set_option sl_exec.rejoinStated true in
  set_option sl_exec.resultNames true in
  sl_exec (disch := assumption)
  sl_step
  isplitl [H1]
  · iexists f1
    isplitr
    · ipureintro; rfl
    · iexact H1
  isplitl [H3]
  · iexists _
    isplitr
    swap
    · iexact H3
    · ipureintro
      refine (outL_read arg3 f3 (nPrev i) (aS.view.read (Elt F) fa')).trans (congrArg (gateB (nPrev i)) ?_)
      subst hfa
      exact funext fun y => View.read_writes_cons_unit_of_mem aS.view fa inb_S1024x1024_S1024x1024_0_0 (k0_pay4 (F := F)) [] y y rfl
        fun a => by fin_cases a <;> exact (Nat.zero_add _).symm
  isplitl [Hw Ha]
  · iexists fw'
    isplitr
    · ipureintro
      subst hfw
      refine tile_push 0 3840 4096 rfl _ _ _ (chunk fW 0 3840 ![3840, 18432] inb_S4096x38912_S256x1024_3840_18432 rfl _ fun x => ?_) ?_
      · exact slot_new ![1, 0, 0] _ _ _ x
      refine tile_push 0 3584 3840 rfl _ _ _ (chunk fW 0 3584 ![3584, 18432] inb_S4096x38912_S256x1024_3584_18432 rfl _ fun x => ?_) ?_
      · exact (congrFun (slot_other ![0, 0, 0] ![1, 0, 0] _ _ (by decide) _ _) x).trans (slot_new ![0, 0, 0] _ _ _ x)
      refine tile_push 0 3328 3584 rfl _ _ _ (chunk fW 0 3328 ![3328, 18432] inb_S4096x38912_S256x1024_3328_18432 rfl _ fun x => ?_) ?_
      · exact (congrFun (slot_other ![1, 0, 0] ![0, 0, 0] _ _ (by decide) _ _) x).trans (slot_new ![1, 0, 0] _ _ _ x)
      refine tile_push 0 3072 3328 rfl _ _ _ (chunk fW 0 3072 ![3072, 18432] inb_S4096x38912_S256x1024_3072_18432 rfl _ fun x => ?_) ?_
      · exact (congrFun (slot_other ![0, 0, 0] ![1, 0, 0] _ _ (by decide) _ _) x).trans (slot_new ![0, 0, 0] _ _ _ x)
      refine tile_push 0 2816 3072 rfl _ _ _ (chunk fW 0 2816 ![2816, 18432] inb_S4096x38912_S256x1024_2816_18432 rfl _ fun x => ?_) ?_
      · exact (congrFun (slot_other ![1, 0, 0] ![0, 0, 0] _ _ (by decide) _ _) x).trans (slot_new ![1, 0, 0] _ _ _ x)
      refine tile_push 0 2560 2816 rfl _ _ _ (chunk fW 0 2560 ![2560, 18432] inb_S4096x38912_S256x1024_2560_18432 rfl _ fun x => ?_) ?_
      · exact (congrFun (slot_other ![0, 0, 0] ![1, 0, 0] _ _ (by decide) _ _) x).trans (slot_new ![0, 0, 0] _ _ _ x)
      refine tile_push 0 2304 2560 rfl _ _ _ (chunk fW 0 2304 ![2304, 18432] inb_S4096x38912_S256x1024_2304_18432 rfl _ fun x => ?_) ?_
      · exact (congrFun (slot_other ![1, 0, 0] ![0, 0, 0] _ _ (by decide) _ _) x).trans (slot_new ![1, 0, 0] _ _ _ x)
      refine tile_push 0 2048 2304 rfl _ _ _ (chunk fW 0 2048 ![2048, 18432] inb_S4096x38912_S256x1024_2048_18432 rfl _ fun x => ?_) ?_
      · exact (congrFun (slot_other ![0, 0, 0] ![1, 0, 0] _ _ (by decide) _ _) x).trans (slot_new ![0, 0, 0] _ _ _ x)
      refine tile_push 0 1792 2048 rfl _ _ _ (chunk fW 0 1792 ![1792, 18432] inb_S4096x38912_S256x1024_1792_18432 rfl _ fun x => ?_) ?_
      · exact (congrFun (slot_other ![1, 0, 0] ![0, 0, 0] _ _ (by decide) _ _) x).trans (slot_new ![1, 0, 0] _ _ _ x)
      refine tile_push 0 1536 1792 rfl _ _ _ (chunk fW 0 1536 ![1536, 18432] inb_S4096x38912_S256x1024_1536_18432 rfl _ fun x => ?_) ?_
      · exact (congrFun (slot_other ![0, 0, 0] ![1, 0, 0] _ _ (by decide) _ _) x).trans (slot_new ![0, 0, 0] _ _ _ x)
      refine tile_push 0 1280 1536 rfl _ _ _ (chunk fW 0 1280 ![1280, 18432] inb_S4096x38912_S256x1024_1280_18432 rfl _ fun x => ?_) ?_
      · exact (congrFun (slot_other ![1, 0, 0] ![0, 0, 0] _ _ (by decide) _ _) x).trans (slot_new ![1, 0, 0] _ _ _ x)
      refine tile_push 0 1024 1280 rfl _ _ _ (chunk fW 0 1024 ![1024, 18432] inb_S4096x38912_S256x1024_1024_18432 rfl _ fun x => ?_) ?_
      · exact (congrFun (slot_other ![0, 0, 0] ![1, 0, 0] _ _ (by decide) _ _) x).trans (slot_new ![0, 0, 0] _ _ _ x)
      refine tile_push 0 768 1024 rfl _ _ _ (chunk fW 0 768 ![768, 18432] inb_S4096x38912_S256x1024_768_18432 rfl _ fun x => ?_) ?_
      · exact (congrFun (slot_other ![1, 0, 0] ![0, 0, 0] _ _ (by decide) _ _) x).trans (slot_new ![1, 0, 0] _ _ _ x)
      refine tile_push 0 512 768 rfl _ _ _ (chunk fW 0 512 ![512, 18432] inb_S4096x38912_S256x1024_512_18432 rfl _ fun x => ?_) ?_
      · exact (congrFun (slot_other ![0, 0, 0] ![1, 0, 0] _ _ (by decide) _ _) x).trans (slot_new ![0, 0, 0] _ _ _ x)
      refine tile_push 0 256 512 rfl _ _ _ (chunk fW 0 256 ![256, 18432] inb_S4096x38912_S256x1024_256_18432 rfl _ fun x => ?_) ?_
      · exact (congrFun (slot_other ![1, 0, 0] ![0, 0, 0] _ _ (by decide) _ _) x).trans (slot_new ![1, 0, 0] _ _ _ x)
      refine tile_push 0 0 256 rfl _ _ _ (chunk fW 0 0 ![0, 18432] inb_S4096x38912_S256x1024_0_18432 rfl _ fun x => ?_) ?_
      · exact (congrFun (slot_other ![0, 0, 0] ![1, 0, 0] _ _ (by decide) _ _) x).trans (slot_new ![0, 0, 0] _ _ _ x)
      exact fun y _ h => absurd h (Nat.not_lt_zero _)
    isplitl [Hw]
    · iexact Hw
    · iexists _
      isplitr
      · ipureintro; exact acc_read fa' (arg1.view.read (Elt F) f1) (View.ld (wS.view.read (Elt F) fw') (rect7 i h6))
      · iexact Ha
  isplitl [HW]
  · iexact HW
  isplitl [S0]
  · iexists _
    isplitr
    swap
    · iexact S0
    · ipureintro
      exact View.read_write_univ (v := slot0.view) _ _
  isplitl [S1]
  · iexists _
    isplitr
    swap
    · iexact S1
    · ipureintro
      exact View.read_write_univ (v := slot1.view) _ _
  iexists _
  iexact HO

set_option maxHeartbeats 1000000 in
/-- A step between the first and the last of the copies: what was under way lands, and two more are started. -/
theorem run_mid (c : Dev nD) (i : grid0.Coords)
    (arg1 : Memref sig .tc .vmem S1024x4096 .bf16) (harg1 : arg1.IsWhole)
    (arg3 : Memref sig .tc .vmem S1024x1024 .bf16) (harg3 : arg3.IsWhole)
    (h1 : ¬ (k0_cond1 i = 1#1)) (h2 : k0_cond2 i = 1#1) (h3 : k0_cond3 i = 1#1) (h4 : k0_cond4 i = 1#1) (h5 : k0_cond5 i = 1#1) (h6 : k0_cond6 i = 1#1) (h7 : ¬ (k0_cond7 i = 1#1))
    (hd' : Disjoint (rowsO (k0_off3 i) (k0_off3_inb i h3)).view.set (rowsO (k0_off1 i) (k0_off1_inb i h2)).view.set)
    (hd : Disjoint (rowsO (k0_off6 i) (k0_off6_inb i h5)).view.set (rowsO (k0_off5 i) (k0_off5_inb i h4)).view.set)
    (x1 : Vec F S1024x4096 .bf16) (fW : HbBuf (F := F) c hW)
    (fw : HbBuf (F := F) c wS) (fs0 fs1 : HbBuf (F := F) c sS) (fa : HbBuf (F := F) c aS)
    (W : Waits sig Unit) :
    iprop(owns (c : Thread nD τ) arg1 fullShare x1
          ∗ (∃ d, owns (c : Thread nD τ) arg3 fullShare d)
          ∗ restO c (k0_off1 i) (k0_off3 i) (k0_off1_inb i h2) (k0_off3_inb i h3) fW ∗ hbPt c wS fw ∗ hbPt c aS fa ∗ flightO c 4 slot0 (k0_off1 i) (k0_off1_inb i h2) fW fs0 ∗ flightO c 5 slot1 (k0_off3 i) (k0_off3_inb i h3) fW fs1
          ∗ owes (c : Thread nD τ) 0 W)
      ⊢ wp frame (wpE (defs₀ (F := F)) Variants.none c none) Set.univ
          (cc0_inproj_g i arg1 harg1 hW (Memref.isWhole_whole _) arg3 harg3 wS (Memref.isWhole_whole _) sS (Memref.isWhole_whole _) aS (Memref.isWhole_whole _) cc0_scratch3)
          (fun _ => iprop(owns (c : Thread nD τ) arg1 fullShare x1
            ∗ owns (c : Thread nD τ) arg3 fullShare (gateB (nPrev i) (aS.view.read (Elt F) fa))
            ∗ (∃ fw', ⌜fw' = wS.view.writes (Elt F) fw (landL i h2 h3 fs0 fs1)⌝ ∗ hbPt c wS fw'
              ∗ (∃ fa', ⌜aS.view.read (Elt F) fa' = accB x1 (View.ld (wS.view.read (Elt F) fw') (rect7 i h6))⌝ ∗ hbPt c aS fa'))
            ∗ restO c (k0_off5 i) (k0_off6 i) (k0_off5_inb i h4) (k0_off6_inb i h5) fW
            ∗ (∃ u, ⌜View.read (Elt F) slot0.view u = View.read (Elt F) (rowsO (k0_off5 i) (k0_off5_inb i h4)).view fW⌝ ∗ flightO c 4 slot0 (k0_off5 i) (k0_off5_inb i h4) fW u)
            ∗ (∃ u, ⌜View.read (Elt F) slot1.view u = View.read (Elt F) (rowsO (k0_off6 i) (k0_off6_inb i h5)).view fW⌝ ∗ flightO c 5 slot1 (k0_off6 i) (k0_off6_inb i h5) fW u)
            ∗ (∃ W', owes (c : Thread nD τ) 0 W'))) := by
  simp only [cc0_inproj_g_eq_skeleton]; unfold cc0_inproj_g_skel
  unfold owns
  iintro ⟨⟨%f1, %e1, H1⟩, ⟨%d3, %f3, -, H3⟩, HW, Hw, Ha, S0, S1, HO⟩
  subst e1
  set_option sl_exec.dmaWindow true in
  set_option sl_exec.dmaWindowLent true in
  set_option sl_exec.rejoinStated true in
  set_option sl_exec.resultNames true in
  set_option sl_exec.stopBefore "k0_cond4" in
  sl_exec (disch := assumption)
  generalize hfw : wS.view.writes (Elt F) fw _ = fw'
  rw [dif_pos h4]
  set_option sl_exec.dmaWindow true in
  set_option sl_exec.dmaWindowLent true in
  set_option sl_exec.rejoinStated true in
  set_option sl_exec.resultNames true in
  sl_exec (disch := assumption)
  sl_step
  isplitl [H1]
  · iexists f1
    isplitr
    · ipureintro; rfl
    · iexact H1
  isplitl [H3]
  · iexists _
    isplitr
    · ipureintro; exact outL_read arg3 f3 (nPrev i) (aS.view.read (Elt F) fa)
    · iexact H3
  isplitl [Hw Ha]
  · iexists fw'
    isplitr
    · ipureintro; exact hfw.symm
    isplitl [Hw]
    · iexact Hw
    · iexists _
      isplitr
      · ipureintro; exact acc_read fa (arg1.view.read (Elt F) f1) (View.ld (wS.view.read (Elt F) fw') (rect7 i h6))
      · iexact Ha
  isplitl [HW]
  · iexact HW
  isplitl [S0]
  · iexists _
    isplitr
    swap
    · iexact S0
    · ipureintro
      refine (read_whole_piece slot0.view _ _).trans ?_
      rfl
  isplitl [S1]
  · iexists _
    isplitr
    swap
    · iexact S1
    · ipureintro
      refine (read_whole_piece slot1.view _ _).trans ?_
      rfl
  iexists _
  iexact HO

set_option maxHeartbeats 1000000 in
/-- The step at which the last copies land. -/
theorem run_land (c : Dev nD) (i : grid0.Coords)
    (arg1 : Memref sig .tc .vmem S1024x4096 .bf16) (harg1 : arg1.IsWhole)
    (arg3 : Memref sig .tc .vmem S1024x1024 .bf16) (harg3 : arg3.IsWhole)
    (h1 : ¬ (k0_cond1 i = 1#1)) (h2 : k0_cond2 i = 1#1) (h3 : k0_cond3 i = 1#1) (h4 : ¬ (k0_cond4 i = 1#1)) (h5 : ¬ (k0_cond5 i = 1#1)) (h6 : k0_cond6 i = 1#1) (h7 : ¬ (k0_cond7 i = 1#1))
    (hd' : Disjoint (rowsO (k0_off3 i) (k0_off3_inb i h3)).view.set (rowsO (k0_off1 i) (k0_off1_inb i h2)).view.set)
    (x1 : Vec F S1024x4096 .bf16) (fW : HbBuf (F := F) c hW)
    (fw : HbBuf (F := F) c wS) (fs0 fs1 : HbBuf (F := F) c sS) (fa : HbBuf (F := F) c aS)
    (W : Waits sig Unit) :
    iprop(owns (c : Thread nD τ) arg1 fullShare x1
          ∗ (∃ d, owns (c : Thread nD τ) arg3 fullShare d)
          ∗ restO c (k0_off1 i) (k0_off3 i) (k0_off1_inb i h2) (k0_off3_inb i h3) fW ∗ hbPt c wS fw ∗ hbPt c aS fa ∗ flightO c 4 slot0 (k0_off1 i) (k0_off1_inb i h2) fW fs0 ∗ flightO c 5 slot1 (k0_off3 i) (k0_off3_inb i h3) fW fs1
          ∗ owes (c : Thread nD τ) 0 W)
      ⊢ wp frame (wpE (defs₀ (F := F)) Variants.none c none) Set.univ
          (cc0_inproj_g i arg1 harg1 hW (Memref.isWhole_whole _) arg3 harg3 wS (Memref.isWhole_whole _) sS (Memref.isWhole_whole _) aS (Memref.isWhole_whole _) cc0_scratch3)
          (fun _ => iprop(owns (c : Thread nD τ) arg1 fullShare x1
            ∗ owns (c : Thread nD τ) arg3 fullShare (gateB (nPrev i) (aS.view.read (Elt F) fa))
            ∗ (∃ fw', ⌜fw' = wS.view.writes (Elt F) fw (landL i h2 h3 fs0 fs1)⌝ ∗ hbPt c wS fw'
              ∗ (∃ fa', ⌜aS.view.read (Elt F) fa' = accB x1 (View.ld (wS.view.read (Elt F) fw') (rect7 i h6))⌝ ∗ hbPt c aS fa'))
            ∗ hbPt c hW fW
            ∗ (slot0.view.loc (c : Thread nD τ) ↦[slot0.view.set]{fullShare} fs0) ∗ (slot1.view.loc (c : Thread nD τ) ↦[slot1.view.set]{fullShare} fs1)
            ∗ semVal ((c : Thread nD τ), SemLoc.dma 4) 0 ∗ semVal ((c : Thread nD τ), SemLoc.dma 5) 0
            ∗ (∃ W', owes (c : Thread nD τ) 0 W'))) := by
  simp only [cc0_inproj_g_eq_skeleton]; unfold cc0_inproj_g_skel
  unfold owns
  iintro ⟨⟨%f1, %e1, H1⟩, ⟨%d3, %f3, -, H3⟩, HW, Hw, Ha, S0, S1, HO⟩
  subst e1
  set_option sl_exec.dmaWindow true in
  set_option sl_exec.dmaWindowLent true in
  set_option sl_exec.rejoinStated true in
  set_option sl_exec.resultNames true in
  set_option sl_exec.stopBefore "k0_cond4" in
  sl_exec (disch := assumption)
  generalize hfw : wS.view.writes (Elt F) fw _ = fw'
  rw [dif_neg h4]
  set_option sl_exec.dmaWindow true in
  set_option sl_exec.dmaWindowLent true in
  set_option sl_exec.rejoinStated true in
  set_option sl_exec.resultNames true in
  sl_exec (disch := assumption)
  sl_step
  isplitl [H1]
  · iexists f1
    isplitr
    · ipureintro; rfl
    · iexact H1
  isplitl [H3]
  · iexists _
    isplitr
    · ipureintro; exact outL_read arg3 f3 (nPrev i) (aS.view.read (Elt F) fa)
    · iexact H3
  isplitl [Hw Ha]
  · iexists fw'
    isplitr
    · ipureintro; exact hfw.symm
    isplitl [Hw]
    · iexact Hw
    · iexists _
      isplitr
      · ipureintro; exact acc_read fa (arg1.view.read (Elt F) f1) (View.ld (wS.view.read (Elt F) fw') (rect7 i h6))
      · iexact Ha
  isplitl [HW]
  · iexact HW
  isplitl [S0_dst]
  · iexact S0_dst
  isplitl [S1_dst]
  · iexact S1_dst
  isplitl [S0]
  · iexact S0
  isplitl [S1]
  · iexact S1
  iexists _
  iexact HO

set_option maxHeartbeats 1000000 in
/-- A step of the last column block: nothing is under way. -/
theorem run_dry (c : Dev nD) (i : grid0.Coords)
    (arg1 : Memref sig .tc .vmem S1024x4096 .bf16) (harg1 : arg1.IsWhole)
    (arg3 : Memref sig .tc .vmem S1024x1024 .bf16) (harg3 : arg3.IsWhole)
    (h1 : ¬ (k0_cond1 i = 1#1)) (h2 : ¬ (k0_cond2 i = 1#1)) (h3 : ¬ (k0_cond3 i = 1#1)) (h4 : ¬ (k0_cond4 i = 1#1)) (h5 : ¬ (k0_cond5 i = 1#1)) (h6 : k0_cond6 i = 1#1) (h7 : ¬ (k0_cond7 i = 1#1))
    (x1 : Vec F S1024x4096 .bf16) (fW : HbBuf (F := F) c hW)
    (fw : HbBuf (F := F) c wS) (fs0 fs1 : HbBuf (F := F) c sS) (fa : HbBuf (F := F) c aS)
    (W : Waits sig Unit) :
    iprop(owns (c : Thread nD τ) arg1 fullShare x1
          ∗ (∃ d, owns (c : Thread nD τ) arg3 fullShare d)
          ∗ hbPt c wS fw ∗ hbPt c aS fa
          ∗ owes (c : Thread nD τ) 0 W)
      ⊢ wp frame (wpE (defs₀ (F := F)) Variants.none c none) Set.univ
          (cc0_inproj_g i arg1 harg1 hW (Memref.isWhole_whole _) arg3 harg3 wS (Memref.isWhole_whole _) sS (Memref.isWhole_whole _) aS (Memref.isWhole_whole _) cc0_scratch3)
          (fun _ => iprop(owns (c : Thread nD τ) arg1 fullShare x1
            ∗ owns (c : Thread nD τ) arg3 fullShare (gateB (nPrev i) (aS.view.read (Elt F) fa))
            ∗ hbPt c wS fw
            ∗ (∃ fa', ⌜aS.view.read (Elt F) fa' = accB x1 (View.ld (wS.view.read (Elt F) fw) (rect7 i h6))⌝ ∗ hbPt c aS fa')
            ∗ (∃ W', owes (c : Thread nD τ) 0 W'))) := by
  simp only [cc0_inproj_g_eq_skeleton]; unfold cc0_inproj_g_skel
  unfold owns
  iintro ⟨⟨%f1, %e1, H1⟩, ⟨%d3, %f3, -, H3⟩, Hw, Ha, HO⟩
  subst e1
  set_option sl_exec.dmaWindow true in
  set_option sl_exec.dmaWindowLent true in
  set_option sl_exec.rejoinStated true in
  set_option sl_exec.resultNames true in
  sl_exec (disch := assumption)
  sl_step
  isplitl [H1]
  · iexists f1
    isplitr
    · ipureintro; rfl
    · iexact H1
  isplitl [H3]
  · iexists _
    isplitr
    · ipureintro; exact outL_read arg3 f3 (nPrev i) (aS.view.read (Elt F) fa)
    · iexact H3
  isplitl [Hw]
  · iexact Hw
  isplitl [Ha]
  · iexists _
    isplitr
    · ipureintro; exact acc_read fa (arg1.view.read (Elt F) f1) (View.ld (wS.view.read (Elt F) fw) (rect7 i h6))
    · iexact Ha
  iexists _
  iexact HO

set_option maxHeartbeats 1000000 in
/-- The last step: the epilogue alone. -/
theorem run_end (c : Dev nD) (i : grid0.Coords)
    (arg1 : Memref sig .tc .vmem S1024x4096 .bf16) (harg1 : arg1.IsWhole)
    (arg3 : Memref sig .tc .vmem S1024x1024 .bf16) (harg3 : arg3.IsWhole)
    (h1 : ¬ (k0_cond1 i = 1#1)) (h2 : ¬ (k0_cond2 i = 1#1)) (h3 : ¬ (k0_cond3 i = 1#1)) (h4 : ¬ (k0_cond4 i = 1#1)) (h5 : ¬ (k0_cond5 i = 1#1)) (h6 : ¬ (k0_cond6 i = 1#1)) (h7 : k0_cond7 i = 1#1)
    (x1 : Vec F S1024x4096 .bf16) (fW : HbBuf (F := F) c hW)
    (fw : HbBuf (F := F) c wS) (fs0 fs1 : HbBuf (F := F) c sS) (fa : HbBuf (F := F) c aS)
    (W : Waits sig Unit) :
    iprop(owns (c : Thread nD τ) arg1 fullShare x1
          ∗ (∃ d, owns (c : Thread nD τ) arg3 fullShare d)
          ∗ hbPt c aS fa
          ∗ owes (c : Thread nD τ) 0 W)
      ⊢ wp frame (wpE (defs₀ (F := F)) Variants.none c none) Set.univ
          (cc0_inproj_g i arg1 harg1 hW (Memref.isWhole_whole _) arg3 harg3 wS (Memref.isWhole_whole _) sS (Memref.isWhole_whole _) aS (Memref.isWhole_whole _) cc0_scratch3)
          (fun _ => iprop(owns (c : Thread nD τ) arg1 fullShare x1
            ∗ owns (c : Thread nD τ) arg3 fullShare (gateB (nPrev i) (aS.view.read (Elt F) fa))
            ∗ hbPt c aS fa
            ∗ (∃ W', owes (c : Thread nD τ) 0 W'))) := by
  simp only [cc0_inproj_g_eq_skeleton]; unfold cc0_inproj_g_skel
  unfold owns
  iintro ⟨⟨%f1, %e1, H1⟩, ⟨%d3, %f3, -, H3⟩, Ha, HO⟩
  subst e1
  set_option sl_exec.dmaWindow true in
  set_option sl_exec.dmaWindowLent true in
  set_option sl_exec.rejoinStated true in
  set_option sl_exec.resultNames true in
  sl_exec (disch := assumption)
  sl_step
  isplitl [H1]
  · iexists f1
    isplitr
    · ipureintro; rfl
    · iexact H1
  isplitl [H3]
  · iexists _
    isplitr
    · ipureintro; exact outM_read arg3 f3 (nPrev i) (aS.view.read (Elt F) fa)
    · iexact H3
  isplitl [Ha]
  · iexact Ha
  iexists _
  iexact HO

end Cert.Kernel3Ideal.Gate

end
-- ==== Proof.GateIdeal.Frame.lean ====
/-
  The gate projection's run over its 161 grid steps: what is held between two steps (the tile in use, the part of the
  next that has landed, the two copies on their way, the last product), each step taken from that to the next, and the
  program's run to the array it leaves.
-/
module

public import proofs.«01_k».proof.Proof.GateIdeal.Run
public import Idealize.ShloMosaic.Lib.Pipeline.FrameValue

@[expose] public section

noncomputable section

namespace Cert.Kernel3Ideal.Gate

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch's operands -/

set_option maxHeartbeats 800000 in
/-- The host's part before the call. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The weight the body reads. -/
def H0 : Finset (Ref sig .tc) := {main_arg1}
/-- The two transfer cells. -/
abbrev osem0 : Fin 2 → SemLoc sig := fun j => (![SemLoc.dma 4, SemLoc.dma 5] : Fin 2 → SemLoc sig) j
theorem ownSemFacts0 : Pipeline.OwnSemFacts spec0 osem0 := by decide
theorem H0_sub : H0 ⊆ Pipeline.restRefs sig spec0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0) := by
  rw [Pipeline.ownSems0_eq_of_list c osem0 [0, 1] (by decide) (by decide)]; rfl

theorem hbmPts0_eq (c : Dev nD) :
    (bigSep H0 (fun b => ((c : Thread nD τ).loc b) ↦{fullShare} V m c b) : sProp 𝕄) = hbPt c hW (V m c main_arg1) := by
  rw [BI.bigSep_eq_bigSepL_of_eq [main_arg1] (by decide) (by decide)]; rfl

/-! ## What each step does -/

/-- Which branches a step takes. -/
theorem cond_iff : ∀ t : Fin grid0.N,
    (k0_cond1 (grid0.coords t) = 1#1 ↔ t.val = 0)
    ∧ (k0_cond2 (grid0.coords t) = 1#1 ↔ 1 ≤ t.val ∧ t.val ≤ 152) ∧ (k0_cond3 (grid0.coords t) = 1#1 ↔ 1 ≤ t.val ∧ t.val ≤ 152)
    ∧ (k0_cond4 (grid0.coords t) = 1#1 ↔ t.val < 152) ∧ (k0_cond5 (grid0.coords t) = 1#1 ↔ t.val < 152)
    ∧ (k0_cond6 (grid0.coords t) = 1#1 ↔ t.val < 160) ∧ (k0_cond7 (grid0.coords t) = 1#1 ↔ t.val = 160) := by decide +kernel

/-- The rows a step starts to copy. -/
theorem off_next : ∀ t : Fin grid0.N, t.val < 152 →
    k0_off5 (grid0.coords t) = ![512 * (t.val % 8), 18432 + 1024 * (t.val / 8 + 1)]
    ∧ k0_off6 (grid0.coords t) = ![512 * (t.val % 8) + 256, 18432 + 1024 * (t.val / 8 + 1)] := by decide +kernel

/-- The rows a step waits for, and where they go. -/
theorem off_prev : ∀ t : Fin grid0.N, 1 ≤ t.val → t.val ≤ 152 →
    k0_off1 (grid0.coords t) = ![512 * ((t.val - 1) % 8), 18432 + 1024 * ((t.val - 1) / 8 + 1)]
    ∧ k0_off3 (grid0.coords t) = ![512 * ((t.val - 1) % 8) + 256, 18432 + 1024 * ((t.val - 1) / 8 + 1)]
    ∧ k0_off2 (grid0.coords t) = ![((t.val - 1) / 8 + 1) % 2, 512 * ((t.val - 1) % 8), 0]
    ∧ k0_off4 (grid0.coords t) = ![((t.val - 1) / 8 + 1) % 2, 512 * ((t.val - 1) % 8) + 256, 0] := by decide +kernel

/-- The tile a step multiplies with. -/
theorem off_use : ∀ t : Fin grid0.N, t.val < 160 → k0_off7 (grid0.coords t) = ![t.val / 8 % 2, 0, 0] := by decide +kernel

theorem mem_rows (a b : ℕ) (o : Fin 2 → ℕ) (ho : o = ![a, b]) (h : ∀ x, o x + S256x1024.size x ≤ S4096x38912.size x) (y : S4096x38912.Idx)
    (hy : y ∈ (rowsO o h).view.set) : a ≤ (y 0).val ∧ (y 0).val < a + 256 := by
  subst ho
  have e : (rowsO ![a, b] h).view.set = (Rect.unit (s := S4096x38912) ![a, b] S256x1024.size h).set := by
    refine (View.set_slice (v := hW.view) (r := Rect.unit (s := S4096x38912) ![a, b] S256x1024.size h)).trans ?_
    ext z
    rw [Finset.mem_map]
    exact ⟨fun ⟨x, hx, hz⟩ => hz ▸ hx, fun hz => ⟨z, hz, rfl⟩⟩
  rw [e, Rect.mem_set_unit] at hy
  exact hy 0

theorem rows_disjoint (a b b' : ℕ) (o o' : Fin 2 → ℕ) (ho : o = ![a, b]) (ho' : o' = ![a + 256, b']) (h : ∀ x, o x + S256x1024.size x ≤ S4096x38912.size x)
    (h' : ∀ x, o' x + S256x1024.size x ≤ S4096x38912.size x) : Disjoint (rowsO o' h').view.set (rowsO o h).view.set :=
  Finset.disjoint_left.mpr fun y hy hy' => by
    have e := mem_rows _ _ o' ho' h' y hy
    have e' := mem_rows _ _ o ho h y hy'
    omega

/-! ## The two slots make the staging buffer -/

theorem mem_slot (k : ℕ) (h : ∀ a, (![k, 0, 0] : Fin 3 → ℕ) a + S1x256x1024.size a ≤ S2x256x1024.size a) (y : S2x256x1024.Idx) :
    y ∈ (slotO ![k, 0, 0] h).view.set ↔ (y 0).val = k := by
  have e : (slotO ![k, 0, 0] h).view.set = (Rect.unit (s := S2x256x1024) ![k, 0, 0] S1x256x1024.size h).set := by
    refine (View.set_reshape (s' := S256x1024) (h := squeezes_S1x256x1024_S256x1024.numel_eq) (v := sS.view.slice (Rect.unit (s := S2x256x1024) ![k, 0, 0] S1x256x1024.size h))).trans ?_
    rw [View.set_slice]
    ext z
    rw [Finset.mem_map]
    exact ⟨fun ⟨x, hx, hz⟩ => hz ▸ hx, fun hz => ⟨z, hz, rfl⟩⟩
  rw [e, Rect.mem_set_unit]
  constructor
  · intro hy
    have := hy 0
    have e1 : S1x256x1024.size 0 = 1 := rfl
    rw [e1] at this
    have e2 : (![k, 0, 0] : Fin 3 → ℕ) 0 = k := rfl
    omega
  · intro hy a
    fin_cases a
    · exact ⟨le_of_eq hy.symm, by show (y 0).val < k + 1; omega⟩
    · exact ⟨Nat.zero_le _, by simpa using (y 1).isLt⟩
    · exact ⟨Nat.zero_le _, by simpa using (y 2).isLt⟩

theorem slots_join (c : Dev nD) (u0 u1 : HbBuf (F := F) c sS) :
    iprop((slot0.view.loc (c : Thread nD τ) ↦[slot0.view.set]{fullShare} u0) ∗ (slot1.view.loc (c : Thread nD τ) ↦[slot1.view.set]{fullShare} u1))
      ⊢ (iprop(∃ u : HbBuf (F := F) c sS, hbPt c sS u) : sProp 𝕄) := by
  have d : Disjoint slot0.view.set slot1.view.set :=
    Finset.disjoint_left.mpr fun y h h' => by rw [mem_slot] at h h'; omega
  have hu : slot0.view.set ∪ slot1.view.set = Finset.univ := by
    ext y
    rw [Finset.mem_union, mem_slot, mem_slot]
    have : (y 0).val < 2 := (y 0).isLt
    constructor
    · intro _; exact Finset.mem_univ _
    · intro _; omega
  refine (pointsTo_join d).trans ?_
  rw [hu]
  iintro H; iexists _; iexact H

/-! ## What is held between two steps -/

/-- The tiles in the scratch after `n` steps: the one in use, and what has landed of the next. -/
def Tiles (c : Dev nD) (n : ℕ) (fw : HbBuf (F := F) c wS) : Prop :=
  (n ≤ 160 → Tile (V m c main_arg1) fw ((n - 1) / 8 % 2) ((n - 1) / 8) 4096)
  ∧ (n ≤ 152 → Tile (V m c main_arg1) fw (((n - 1) / 8 + 1) % 2) ((n - 1) / 8 + 1) (512 * ((n - 1) % 8)))

/-- The product the last of `n` steps left, or the zeros the first starts from. -/
def prevAcc (c : Dev nD) : ℕ → Vec F S1024x1024 .f32
  | 0 => k0_pay4 (F := F)
  | n + 1 => if h : n < cfg0.N then accB (iblk m c 0 ⟨n, h⟩) (wTile (V m c main_arg1) (n / 8)) else k0_pay4 (F := F)

theorem prevAcc_succ (c : Dev nD) (t : Fin cfg0.N) : prevAcc m c (t.val + 1) = accB (iblk m c 0 t) (wTile (V m c main_arg1) (t.val / 8)) :=
  dif_pos t.isLt

/-- The accumulator after `n` steps. -/
def acc (c : Dev nD) (n : ℕ) : sProp 𝕄 :=
  iprop(∃ fa : HbBuf (F := F) c aS, ⌜1 ≤ n → n ≤ 160 → aS.view.read (Elt F) fa = prevAcc m c n⌝ ∗ hbPt c aS fa)

/-- Before the first step: everything whole, nothing under way. -/
def stFirst (c : Dev nD) : sProp 𝕄 :=
  iprop(hbPt c hW (V m c main_arg1) ∗ (∃ fw : HbBuf (F := F) c wS, hbPt c wS fw) ∗ (∃ fs : HbBuf (F := F) c sS, hbPt c sS fs)
    ∗ semVal ((c : Thread nD τ), SemLoc.dma 4) 0 ∗ semVal ((c : Thread nD τ), SemLoc.dma 5) 0)

/-- Between two steps with two copies under way. -/
def stMid (c : Dev nD) (n : ℕ) (o o' : Fin 2 → ℕ) (h : ∀ a, o a + S256x1024.size a ≤ S4096x38912.size a)
    (h' : ∀ a, o' a + S256x1024.size a ≤ S4096x38912.size a) : sProp 𝕄 :=
  iprop(restO c o o' h h' (V m c main_arg1) ∗ (∃ fw : HbBuf (F := F) c wS, ⌜Tiles m c n fw⌝ ∗ hbPt c wS fw)
    ∗ (∃ u, ⌜View.read (Elt F) slot0.view u = View.read (Elt F) (rowsO o h).view (V m c main_arg1)⌝ ∗ flightO c 4 slot0 o h (V m c main_arg1) u)
    ∗ (∃ u, ⌜View.read (Elt F) slot1.view u = View.read (Elt F) (rowsO o' h').view (V m c main_arg1)⌝ ∗ flightO c 5 slot1 o' h' (V m c main_arg1) u))

theorem stMid_congr (c : Dev nD) (n : ℕ) {o o' p p' : Fin 2 → ℕ} (e : o = p) (e' : o' = p') (h : ∀ a, o a + S256x1024.size a ≤ S4096x38912.size a)
    (h' : ∀ a, o' a + S256x1024.size a ≤ S4096x38912.size a) (k : ∀ a, p a + S256x1024.size a ≤ S4096x38912.size a)
    (k' : ∀ a, p' a + S256x1024.size a ≤ S4096x38912.size a) : stMid m c n o o' h h' = stMid m c n p p' k k' := by
  subst e e'; rfl

/-- Once the last copies have landed. -/
def stDry (c : Dev nD) (n : ℕ) : sProp 𝕄 :=
  iprop(hbPt c hW (V m c main_arg1) ∗ (∃ fw : HbBuf (F := F) c wS, ⌜Tiles m c n fw⌝ ∗ hbPt c wS fw)
    ∗ (∃ u0, slot0.view.loc (c : Thread nD τ) ↦[slot0.view.set]{fullShare} u0) ∗ (∃ u1, slot1.view.loc (c : Thread nD τ) ↦[slot1.view.set]{fullShare} u1)
    ∗ semVal ((c : Thread nD τ), SemLoc.dma 4) 0 ∗ semVal ((c : Thread nD τ), SemLoc.dma 5) 0)

theorem lt_N {n : ℕ} (h : n < 152) : n < grid0.N := lt_of_lt_of_eq (lt_trans h (by decide)) N_0.symm

/-- The memory after `n` steps. -/
def st (c : Dev nD) : ℕ → sProp 𝕄
  | 0 => stFirst m c
  | n + 1 => if h : n < 152 then
      stMid m c (n + 1) (k0_off5 (grid0.coords ⟨n, lt_N h⟩)) (k0_off6 (grid0.coords ⟨n, lt_N h⟩))
        (k0_off5_inb _ ((cond_iff ⟨n, lt_N h⟩).2.2.2.1.mpr h)) (k0_off6_inb _ ((cond_iff ⟨n, lt_N h⟩).2.2.2.2.1.mpr h))
    else stDry m c (n + 1)

theorem st_succ_mid (c : Dev nD) (t : Fin grid0.N) (h : t.val < 152) (h4 : k0_cond4 (grid0.coords t) = 1#1) (h5 : k0_cond5 (grid0.coords t) = 1#1) :
    st m c (t.val + 1) = stMid m c (t.val + 1) (k0_off5 (grid0.coords t)) (k0_off6 (grid0.coords t)) (k0_off5_inb _ h4) (k0_off6_inb _ h5) := dif_pos h

theorem st_succ_dry (c : Dev nD) (n : ℕ) (h : ¬ n < 152) : st m c (n + 1) = stDry m c (n + 1) := dif_neg h

theorem st_pos (c : Dev nD) (t : Fin grid0.N) (ht : 1 ≤ t.val) (h : t.val ≤ 152) (h2 : k0_cond2 (grid0.coords t) = 1#1) (h3 : k0_cond3 (grid0.coords t) = 1#1) :
    st m c t.val = stMid m c t.val (k0_off1 (grid0.coords t)) (k0_off3 (grid0.coords t)) (k0_off1_inb _ h2) (k0_off3_inb _ h3) := by
  obtain ⟨e1, e3, -, -⟩ := off_prev t ht h
  obtain ⟨n, hn⟩ := t
  cases n with
  | zero => exact absurd ht (Nat.not_succ_le_zero 0)
  | succ n =>
    have hl : n < 152 := h
    obtain ⟨e5, e6⟩ := off_next ⟨n, lt_N hl⟩ hl
    refine (dif_pos hl).trans (stMid_congr m c (n + 1) (e5.trans e1.symm) (e6.trans e3.symm) _ _ _ _)

theorem st_dry (c : Dev nD) (n : ℕ) (h : 153 ≤ n) : st m c n = stDry m c n := by
  cases n with
  | zero => exact absurd h (by decide)
  | succ n => exact dif_neg (by omega)

/-- The tiles after a step that lands two chunks. -/
theorem tiles_land (c : Dev nD) (t : Fin grid0.N) (ht : 1 ≤ t.val) (h : t.val ≤ 152) (h2 : k0_cond2 (grid0.coords t) = 1#1) (h3 : k0_cond3 (grid0.coords t) = 1#1)
    (fw : HbBuf (F := F) c wS) (u0 u1 : HbBuf (F := F) c sS)
    (e0 : View.read (Elt F) slot0.view u0 = View.read (Elt F) (rowsO (k0_off1 (grid0.coords t)) (k0_off1_inb _ h2)).view (V m c main_arg1))
    (e1 : View.read (Elt F) slot1.view u1 = View.read (Elt F) (rowsO (k0_off3 (grid0.coords t)) (k0_off3_inb _ h3)).view (V m c main_arg1))
    (hT : Tiles m c t.val fw) : Tiles m c (t.val + 1) (wS.view.writes (Elt F) fw (landL (grid0.coords t) h2 h3 u0 u1)) := by
  obtain ⟨o1, o3, o2, o4⟩ := off_prev t ht h
  have A : Tile (V m c main_arg1) (wS.view.writes (Elt F) fw (landL (grid0.coords t) h2 h3 u0 u1)) (((t.val - 1) / 8 + 1) % 2) ((t.val - 1) / 8 + 1)
      (512 * ((t.val - 1) % 8) + 512) :=
    tile_land _ _ _ _ _ _ _ _ o2 o4 rfl _ _
      (fun x r k hr hk => chunk _ _ _ _ _ o1 _ (fun x => (slot_at ![0, 0, 0] inb_S2x256x1024_S1x256x1024_0_0_0 u0 x).trans (congrFun e0 _)) x r k hr hk)
      (fun x r k hr hk => chunk _ _ _ _ _ o3 _ (fun x => (slot_at ![1, 0, 0] inb_S2x256x1024_S1x256x1024_1_0_0 u1 x).trans (congrFun e1 _)) x r k hr hk)
      (hT.2 h)
  have B : Tile (V m c main_arg1) (wS.view.writes (Elt F) fw (landL (grid0.coords t) h2 h3 u0 u1)) ((t.val - 1) / 8 % 2) ((t.val - 1) / 8) 4096 :=
    tile_keep _ _ _ _ _ _ _ _ _ _ o2 o4 (by omega) _ _ (hT.1 (by omega))
  refine ⟨fun _ => ?_, fun h' => ?_⟩
  · rw [Nat.add_sub_cancel]
    by_cases h8 : t.val % 8 = 0
    · have e : (t.val - 1) / 8 + 1 = t.val / 8 := by omega
      have e' : 512 * ((t.val - 1) % 8) + 512 = 4096 := by omega
      rw [e, e'] at A; exact A
    · have e : (t.val - 1) / 8 = t.val / 8 := by omega
      rw [e] at B; exact B
  · rw [Nat.add_sub_cancel]
    by_cases h8 : t.val % 8 = 0
    · rw [h8]; exact fun y _ hy => absurd hy (Nat.not_lt_zero _)
    · have e : (t.val - 1) / 8 = t.val / 8 := by omega
      have e' : 512 * ((t.val - 1) % 8) + 512 = 512 * (t.val % 8) := by omega
      rw [e, e'] at A; exact A

/-- The tile stays through a step that lands nothing. -/
theorem tiles_dry (c : Dev nD) (n : ℕ) (h : 153 ≤ n) (fw : HbBuf (F := F) c wS) (hT : Tiles m c n fw) : Tiles m c (n + 1) fw := by
  refine ⟨fun h' => ?_, fun h' => absurd h' (by omega)⟩
  have e : (n + 1 - 1) / 8 = (n - 1) / 8 := by omega
  rw [e]; exact hT.1 (by omega)

/-- The tiles after the first step. -/
theorem tiles_first (c : Dev nD) (fw : HbBuf (F := F) c wS) (hT : Tile (V m c main_arg1) fw 0 0 4096) : Tiles m c 1 fw :=
  ⟨fun _ => hT, fun _ y _ hy => absurd hy (Nat.not_lt_zero _)⟩

/-- The product of a step, from the tile it holds. -/
theorem acc_step (c : Dev nD) (t : Fin cfg0.N) (h6 : k0_cond6 (grid0.coords t) = 1#1) (ht : t.val < 160) (fw : HbBuf (F := F) c wS) (hT : Tiles m c (t.val + 1) fw) :
    accB (iblk m c 0 t) (View.ld (wS.view.read (Elt F) fw) (rect7 (grid0.coords t) h6)) = prevAcc m c (t.val + 1) := by
  have hl : Tile (V m c main_arg1) fw (t.val / 8 % 2) (t.val / 8) 4096 := hT.1 (by omega)
  exact (congrArg (accB (iblk m c 0 t)) (tile_load hl _ (off_use t ht) _)).trans (prevAcc_succ m c t).symm

/-- What is held between two steps. -/
def inv (c : Dev nD) (n : ℕ) : sProp 𝕄 := iprop((∃ r, prngReg c r) ∗ acc m c n ∗ st m c n)

/-- The output block of step `t`. -/
def outAt (c : Dev nD) (t : Fin cfg0.N) : Vec F S1024x1024 .bf16 := gateB (nPrev (grid0.coords t)) (prevAcc m c t.val)

/-- The pipeline's proof data: the input keeps its blocks, the output takes `outAt`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outAt m c t
  Φ n := inv m c n.val
  q w := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = outAt m c t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

/-! ## One step -/

/-- A step's run, to whatever its end gives with what was set aside. -/
theorem use_run {c : Dev nD} {p : Prog (TpuEff nD τ sig (Elt F) Λ₀ .tc) PUnit} {P : sProp 𝕄} {Q S : PUnit → sProp 𝕄}
    (h : P ⊢ wp frame (wpE (defs₀ (F := F)) Variants.none c none) Set.univ p Q) :
    iprop(P ∗ (∀ a, Q a -∗ S a)) ⊢ wp frame (wpE (defs₀ (F := F)) Variants.none c none) Set.univ p S :=
  (BI.sep_mono_l h).trans (wp_wand_r _ _ _)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

set_option maxHeartbeats 1000000 in
theorem sound_first (c : Dev nD) (t : Fin cfg0.N) (ht : t.val = 0) :
    bodyPre m c t ⊢ wp frame (wpE (defs₀ (F := F)) Variants.none c none) Set.univ (bodyAt0 t) (fun _ => bodyPost m c t) := by
  have hN : grid0.N = 161 := N_0
  have hN' : cfg0.N = 161 := N_0
  obtain ⟨c1, c2, c3, c4, c5, c6, c7⟩ := cond_iff t
  unfold bodyPre bodyPost bodyAt0
  simp only [before0_0]
  rw [after0_0, after0_1]
  unfold Dat.owesAt Pipeline.owesWithin
  rw [show (dats m 0 c).owed t.castSucc = 0 from rfl, show (dats m 0 c).owed t.succ = 0 from rfl]
  rw [show (dats m 0 c).Φ t.castSucc = inv m c t.val from rfl, show (dats m 0 c).Φ t.succ = inv m c (t.val + 1) from rfl]
  unfold inv acc outAt
  rw [show st m c t.val = stFirst m c from by rw [ht]; rfl]
  rw [st_succ_mid m c t (by omega) (c4.mpr (by omega)) (c5.mpr (by omega))]
  unfold stFirst stMid
  iintro ⟨⟨Hg, ⟨%fa, %ha, HA⟩, ⟨HR, ⟨%fw, Hw⟩, ⟨%fs, Hs⟩, HQ0, HQ1⟩⟩, ⟨%W, -, HW⟩, ⟨%d0, H0⟩, ⟨%d1, H1⟩⟩
  have hrun := run_first c (grid0.coords t) (st0_0 t) (hstage0_0 ((cfg0.slots t 0).cast nbuf0_0)) (st0_1 t) (hstage0_1 ((cfg0.slots t 1).cast nbuf0_1))
    (c1.mpr (by omega)) (fun h => absurd (c2.mp h) (by omega)) (fun h => absurd (c3.mp h) (by omega)) (c4.mpr (by omega)) (c5.mpr (by omega)) (c6.mpr (by omega)) (fun h => absurd (c7.mp h) (by omega))
    (by obtain ⟨a, b⟩ := off_next t (by omega); exact rows_disjoint _ _ _ _ _ a b _ _)
    (iblk m c 0 t) (V m c main_arg1) fw fs fa W
  iapply (use_run hrun)
  isplitr [Hg]
  · isplitl [H0]; · iexact H0
    isplitl [H1]; · iexists _; iexact H1
    isplitl [HR]; · iexact HR
    isplitl [Hw]; · iexact Hw
    isplitl [Hs]; · iexact Hs
    isplitl [HA]; · iexact HA
    isplitl [HQ0]; · iexact HQ0
    isplitl [HQ1]; · iexact HQ1
    iexact HW
  · iintro %_ ⟨H0, H1, ⟨%fw', %hw, Hw, ⟨%fa', %ha', HA⟩⟩, HR, HF0, HF1, ⟨%W', HW⟩⟩
    have hT : Tiles m c (t.val + 1) fw' := by rw [ht]; exact tiles_first m c fw' hw
    rw [show prevAcc m c t.val = k0_pay4 (F := F) from by rw [ht]; rfl]
    isplitl [Hg HA HR Hw HF0 HF1]
    · isplitl [Hg]; · iexact Hg
      isplitl [HA]
      · iexists fa'; isplitr; · ipureintro; exact fun _ _ => ha'.trans (acc_step m c t (c6.mpr (by omega)) (by omega) fw' hT)
        iexact HA
      isplitl [HR]; · iexact HR
      isplitl [Hw]
      · iexists fw'; isplitr; · ipureintro; exact hT
        iexact Hw
      isplitl [HF0]; · iexact HF0
      iexact HF1
    isplitl [HW]
    · iexists W'; isplitr; · ipureintro; exact fun _ _ => Or.inl trivial
      iexact HW
    isplitl [H0]; · iexact H0
    iexact H1

set_option maxHeartbeats 1000000 in
theorem sound_mid (c : Dev nD) (t : Fin cfg0.N) (h1 : 1 ≤ t.val) (h2 : t.val < 152) :
    bodyPre m c t ⊢ wp frame (wpE (defs₀ (F := F)) Variants.none c none) Set.univ (bodyAt0 t) (fun _ => bodyPost m c t) := by
  have hN : grid0.N = 161 := N_0
  have hN' : cfg0.N = 161 := N_0
  obtain ⟨c1, c2, c3, c4, c5, c6, c7⟩ := cond_iff t
  unfold bodyPre bodyPost bodyAt0
  simp only [before0_0]
  rw [after0_0, after0_1]
  unfold Dat.owesAt Pipeline.owesWithin
  rw [show (dats m 0 c).owed t.castSucc = 0 from rfl, show (dats m 0 c).owed t.succ = 0 from rfl]
  rw [show (dats m 0 c).Φ t.castSucc = inv m c t.val from rfl, show (dats m 0 c).Φ t.succ = inv m c (t.val + 1) from rfl]
  unfold inv acc outAt
  rw [st_pos m c t (by omega) (by omega) (c2.mpr (by omega)) (c3.mpr (by omega))]
  rw [st_succ_mid m c t (by omega) (c4.mpr (by omega)) (c5.mpr (by omega))]
  unfold stMid
  iintro ⟨⟨Hg, ⟨%fa, %ha, HA⟩, ⟨HR, ⟨%fw, %hTp, Hw⟩, ⟨%u0, %hu0, HF0⟩, ⟨%u1, %hu1, HF1⟩⟩⟩, ⟨%W, -, HW⟩, ⟨%d0, H0⟩, ⟨%d1, H1⟩⟩
  have hrun := run_mid c (grid0.coords t) (st0_0 t) (hstage0_0 ((cfg0.slots t 0).cast nbuf0_0)) (st0_1 t) (hstage0_1 ((cfg0.slots t 1).cast nbuf0_1))
    (fun h => absurd (c1.mp h) (by omega)) (c2.mpr (by omega)) (c3.mpr (by omega)) (c4.mpr (by omega)) (c5.mpr (by omega)) (c6.mpr (by omega)) (fun h => absurd (c7.mp h) (by omega))
    (by obtain ⟨a, b, -, -⟩ := off_prev t (by omega) (by omega); exact rows_disjoint _ _ _ _ _ a b _ _) (by obtain ⟨a, b⟩ := off_next t (by omega); exact rows_disjoint _ _ _ _ _ a b _ _)
    (iblk m c 0 t) (V m c main_arg1) fw u0 u1 fa W
  iapply (use_run hrun)
  isplitr [Hg]
  · isplitl [H0]; · iexact H0
    isplitl [H1]; · iexists _; iexact H1
    isplitl [HR]; · iexact HR
    isplitl [Hw]; · iexact Hw
    isplitl [HA]; · iexact HA
    isplitl [HF0]; · iexact HF0
    isplitl [HF1]; · iexact HF1
    iexact HW
  · iintro %_ ⟨H0, H1, ⟨%fw', %hw, Hw, ⟨%fa', %ha', HA⟩⟩, HR, HF0, HF1, ⟨%W', HW⟩⟩
    have hT : Tiles m c (t.val + 1) fw' := by rw [hw]; exact tiles_land m c t (by omega) (by omega) _ _ fw u0 u1 hu0 hu1 hTp
    rw [← ha (by omega) (by omega)]
    isplitl [Hg HA HR Hw HF0 HF1]
    · isplitl [Hg]; · iexact Hg
      isplitl [HA]
      · iexists fa'; isplitr; · ipureintro; exact fun _ _ => ha'.trans (acc_step m c t (c6.mpr (by omega)) (by omega) fw' hT)
        iexact HA
      isplitl [HR]; · iexact HR
      isplitl [Hw]
      · iexists fw'; isplitr; · ipureintro; exact hT
        iexact Hw
      isplitl [HF0]; · iexact HF0
      iexact HF1
    isplitl [HW]
    · iexists W'; isplitr; · ipureintro; exact fun _ _ => Or.inl trivial
      iexact HW
    isplitl [H0]; · iexact H0
    iexact H1

set_option maxHeartbeats 1000000 in
theorem sound_land (c : Dev nD) (t : Fin cfg0.N) (ht : t.val = 152) :
    bodyPre m c t ⊢ wp frame (wpE (defs₀ (F := F)) Variants.none c none) Set.univ (bodyAt0 t) (fun _ => bodyPost m c t) := by
  have hN : grid0.N = 161 := N_0
  have hN' : cfg0.N = 161 := N_0
  obtain ⟨c1, c2, c3, c4, c5, c6, c7⟩ := cond_iff t
  unfold bodyPre bodyPost bodyAt0
  simp only [before0_0]
  rw [after0_0, after0_1]
  unfold Dat.owesAt Pipeline.owesWithin
  rw [show (dats m 0 c).owed t.castSucc = 0 from rfl, show (dats m 0 c).owed t.succ = 0 from rfl]
  rw [show (dats m 0 c).Φ t.castSucc = inv m c t.val from rfl, show (dats m 0 c).Φ t.succ = inv m c (t.val + 1) from rfl]
  unfold inv acc outAt
  rw [st_pos m c t (by omega) (by omega) (c2.mpr (by omega)) (c3.mpr (by omega))]
  rw [st_succ_dry m c t.val (by omega)]
  unfold stMid stDry
  iintro ⟨⟨Hg, ⟨%fa, %ha, HA⟩, ⟨HR, ⟨%fw, %hTp, Hw⟩, ⟨%u0, %hu0, HF0⟩, ⟨%u1, %hu1, HF1⟩⟩⟩, ⟨%W, -, HW⟩, ⟨%d0, H0⟩, ⟨%d1, H1⟩⟩
  have hrun := run_land c (grid0.coords t) (st0_0 t) (hstage0_0 ((cfg0.slots t 0).cast nbuf0_0)) (st0_1 t) (hstage0_1 ((cfg0.slots t 1).cast nbuf0_1))
    (fun h => absurd (c1.mp h) (by omega)) (c2.mpr (by omega)) (c3.mpr (by omega)) (fun h => absurd (c4.mp h) (by omega)) (fun h => absurd (c5.mp h) (by omega)) (c6.mpr (by omega)) (fun h => absurd (c7.mp h) (by omega))
    (by obtain ⟨a, b, -, -⟩ := off_prev t (by omega) (by omega); exact rows_disjoint _ _ _ _ _ a b _ _)
    (iblk m c 0 t) (V m c main_arg1) fw u0 u1 fa W
  iapply (use_run hrun)
  isplitr [Hg]
  · isplitl [H0]; · iexact H0
    isplitl [H1]; · iexists _; iexact H1
    isplitl [HR]; · iexact HR
    isplitl [Hw]; · iexact Hw
    isplitl [HA]; · iexact HA
    isplitl [HF0]; · iexact HF0
    isplitl [HF1]; · iexact HF1
    iexact HW
  · iintro %_ ⟨H0, H1, ⟨%fw', %hw, Hw, ⟨%fa', %ha', HA⟩⟩, HR, HS0, HS1, HQ0, HQ1, ⟨%W', HW⟩⟩
    have hT : Tiles m c (t.val + 1) fw' := by rw [hw]; exact tiles_land m c t (by omega) (by omega) _ _ fw u0 u1 hu0 hu1 hTp
    rw [← ha (by omega) (by omega)]
    isplitl [Hg HA HR Hw HS0 HS1 HQ0 HQ1]
    · isplitl [Hg]; · iexact Hg
      isplitl [HA]
      · iexists fa'; isplitr; · ipureintro; exact fun _ _ => ha'.trans (acc_step m c t (c6.mpr (by omega)) (by omega) fw' hT)
        iexact HA
      isplitl [HR]; · iexact HR
      isplitl [Hw]
      · iexists fw'; isplitr; · ipureintro; exact hT
        iexact Hw
      isplitl [HS0]; · iexists _; iexact HS0
      isplitl [HS1]; · iexists _; iexact HS1
      isplitl [HQ0]; · iexact HQ0
      iexact HQ1
    isplitl [HW]
    · iexists W'; isplitr; · ipureintro; exact fun _ _ => Or.inl trivial
      iexact HW
    isplitl [H0]; · iexact H0
    iexact H1

set_option maxHeartbeats 1000000 in
theorem sound_dry (c : Dev nD) (t : Fin cfg0.N) (h1 : 153 ≤ t.val) (h2 : t.val < 160) :
    bodyPre m c t ⊢ wp frame (wpE (defs₀ (F := F)) Variants.none c none) Set.univ (bodyAt0 t) (fun _ => bodyPost m c t) := by
  have hN : grid0.N = 161 := N_0
  have hN' : cfg0.N = 161 := N_0
  obtain ⟨c1, c2, c3, c4, c5, c6, c7⟩ := cond_iff t
  unfold bodyPre bodyPost bodyAt0
  simp only [before0_0]
  rw [after0_0, after0_1]
  unfold Dat.owesAt Pipeline.owesWithin
  rw [show (dats m 0 c).owed t.castSucc = 0 from rfl, show (dats m 0 c).owed t.succ = 0 from rfl]
  rw [show (dats m 0 c).Φ t.castSucc = inv m c t.val from rfl, show (dats m 0 c).Φ t.succ = inv m c (t.val + 1) from rfl]
  unfold inv acc outAt
  rw [st_dry m c t.val (by omega)]
  rw [st_dry m c (t.val + 1) (by omega)]
  unfold stDry
  iintro ⟨⟨Hg, ⟨%fa, %ha, HA⟩, ⟨HR, ⟨%fw, %hTp, Hw⟩, ⟨%u0, HS0⟩, ⟨%u1, HS1⟩, HQ0, HQ1⟩⟩, ⟨%W, -, HW⟩, ⟨%d0, H0⟩, ⟨%d1, H1⟩⟩
  have hrun := run_dry c (grid0.coords t) (st0_0 t) (hstage0_0 ((cfg0.slots t 0).cast nbuf0_0)) (st0_1 t) (hstage0_1 ((cfg0.slots t 1).cast nbuf0_1))
    (fun h => absurd (c1.mp h) (by omega)) (fun h => absurd (c2.mp h) (by omega)) (fun h => absurd (c3.mp h) (by omega)) (fun h => absurd (c4.mp h) (by omega)) (fun h => absurd (c5.mp h) (by omega)) (c6.mpr (by omega)) (fun h => absurd (c7.mp h) (by omega))

    (iblk m c 0 t) (V m c main_arg1) fw u0 u1 fa W
  iapply (use_run hrun)
  isplitr [Hg HR HS0 HS1 HQ0 HQ1]
  · isplitl [H0]; · iexact H0
    isplitl [H1]; · iexists _; iexact H1
    isplitl [Hw]; · iexact Hw
    isplitl [HA]; · iexact HA
    iexact HW
  · iintro %_ ⟨H0, H1, Hw, ⟨%fa', %ha', HA⟩, ⟨%W', HW⟩⟩
    have hT : Tiles m c (t.val + 1) fw := tiles_dry m c t.val (by omega) fw hTp
    rw [← ha (by omega) (by omega)]
    isplitl [Hg HA HR Hw HS0 HS1 HQ0 HQ1]
    · isplitl [Hg]; · iexact Hg
      isplitl [HA]
      · iexists fa'; isplitr; · ipureintro; exact fun _ _ => ha'.trans (acc_step m c t (c6.mpr (by omega)) (by omega) fw hT)
        iexact HA
      isplitl [HR]; · iexact HR
      isplitl [Hw]
      · iexists fw; isplitr; · ipureintro; exact hT
        iexact Hw
      isplitl [HS0]; · iexists _; iexact HS0
      isplitl [HS1]; · iexists _; iexact HS1
      isplitl [HQ0]; · iexact HQ0
      iexact HQ1
    isplitl [HW]
    · iexists W'; isplitr; · ipureintro; exact fun _ _ => Or.inl trivial
      iexact HW
    isplitl [H0]; · iexact H0
    iexact H1

set_option maxHeartbeats 1000000 in
theorem sound_end (c : Dev nD) (t : Fin cfg0.N) (ht : t.val = 160) :
    bodyPre m c t ⊢ wp frame (wpE (defs₀ (F := F)) Variants.none c none) Set.univ (bodyAt0 t) (fun _ => bodyPost m c t) := by
  have hN : grid0.N = 161 := N_0
  have hN' : cfg0.N = 161 := N_0
  obtain ⟨c1, c2, c3, c4, c5, c6, c7⟩ := cond_iff t
  unfold bodyPre bodyPost bodyAt0
  simp only [before0_0]
  rw [after0_0, after0_1]
  unfold Dat.owesAt Pipeline.owesWithin
  rw [show (dats m 0 c).owed t.castSucc = 0 from rfl, show (dats m 0 c).owed t.succ = 0 from rfl]
  rw [show (dats m 0 c).Φ t.castSucc = inv m c t.val from rfl, show (dats m 0 c).Φ t.succ = inv m c (t.val + 1) from rfl]
  unfold inv acc outAt
  rw [st_dry m c t.val (by omega)]
  rw [st_dry m c (t.val + 1) (by omega)]
  unfold stDry
  iintro ⟨⟨Hg, ⟨%fa, %ha, HA⟩, ⟨HR, ⟨%fw, %hTp, Hw⟩, ⟨%u0, HS0⟩, ⟨%u1, HS1⟩, HQ0, HQ1⟩⟩, ⟨%W, -, HW⟩, ⟨%d0, H0⟩, ⟨%d1, H1⟩⟩
  have hrun := run_end c (grid0.coords t) (st0_0 t) (hstage0_0 ((cfg0.slots t 0).cast nbuf0_0)) (st0_1 t) (hstage0_1 ((cfg0.slots t 1).cast nbuf0_1))
    (fun h => absurd (c1.mp h) (by omega)) (fun h => absurd (c2.mp h) (by omega)) (fun h => absurd (c3.mp h) (by omega)) (fun h => absurd (c4.mp h) (by omega)) (fun h => absurd (c5.mp h) (by omega)) (fun h => absurd (c6.mp h) (by omega)) (c7.mpr (by omega))

    (iblk m c 0 t) (V m c main_arg1) fw u0 u1 fa W
  iapply (use_run hrun)
  isplitr [Hg HR Hw HS0 HS1 HQ0 HQ1]
  · isplitl [H0]; · iexact H0
    isplitl [H1]; · iexists _; iexact H1
    isplitl [HA]; · iexact HA
    iexact HW
  · iintro %_ ⟨H0, H1, HA, ⟨%W', HW⟩⟩
    have hT : Tiles m c (t.val + 1) fw := tiles_dry m c t.val (by omega) fw hTp
    rw [← ha (by omega) (by omega)]
    isplitl [Hg HA HR Hw HS0 HS1 HQ0 HQ1]
    · isplitl [Hg]; · iexact Hg
      isplitl [HA]
      · iexists fa; isplitr; · ipureintro; exact fun _ h => absurd h (by omega)
        iexact HA
      isplitl [HR]; · iexact HR
      isplitl [Hw]
      · iexists fw; isplitr; · ipureintro; exact hT
        iexact Hw
      isplitl [HS0]; · iexists _; iexact HS0
      isplitl [HS1]; · iexists _; iexact HS1
      isplitl [HQ0]; · iexact HQ0
      iexact HQ1
    isplitl [HW]
    · iexists W'; isplitr; · ipureintro; exact fun _ _ => Or.inl trivial
      iexact HW
    isplitl [H0]; · iexact H0
    iexact H1

theorem sound_body (c : Dev nD) (t : Fin cfg0.N) :
    bodyPre m c t ⊢ wp frame (wpE (defs₀ (F := F)) Variants.none c none) Set.univ (bodyAt0 t) (fun _ => bodyPost m c t) := by
  have hN : cfg0.N = 161 := N_0
  by_cases h0 : t.val = 0
  · exact sound_first m c t h0
  by_cases h1 : t.val < 152
  · exact sound_mid m c t (by omega) h1
  by_cases h2 : t.val = 152
  · exact sound_land m c t h2
  by_cases h3 : t.val < 160
  · exact sound_dry m c t (by omega) h3
  · exact sound_end m c t (by omega)

theorem defs₀_row (t : Fin cfg0.N) :
    defs₀ (F := F) .tc cfg0.body (cfg0.bodyArgs t (cfg0.slots t)) = bodyAt0 t := by
  unfold defs₀; rw [Defs.onTc_tc]

/-- Every step writes the output block. -/
theorem live : ∀ t : Fin cfg0.N, cfg0.idle 1 (cfg0.grid.coords t) = false := by decide +kernel

theorem body_obligation (c : Dev nD) : BodyObligation (dats (F := F) m 0 c) (defs₀ (F := F)) Variants.none () Set.univ := fun t => by
  rw [bigSep_W0, bigSep_W0, defs₀_row, live t]
  exact triple_restated (sound_body m c t) rfl .rfl fun _ => .rfl

/-! ## The run -/

theorem enter (c : Dev nD) : Pipeline.ΦD osem0 spec0 H0 (V m) c ⊢ (dats m 0 c).Φ 0 := by
  rw [Pipeline.ΦD_eq, scopedRest0_eq, ownSems00_eq, hbmPts0_eq]
  show _ ⊢ inv m c 0
  unfold inv acc
  rw [show st m c 0 = stFirst m c from rfl]
  unfold stFirst
  iintro ⟨⟨HW, HS, ⟨%fa, HA⟩⟩, Hg, ⟨HQ0, HQ1⟩, HR⟩
  isplitl [Hg]; · iexact Hg
  isplitl [HA]
  · iexists fa; isplitr; · ipureintro; exact fun h => absurd h (by decide)
    iexact HA
  isplitl [HR]; · iexact HR
  isplitl [HW]; · iexact HW
  isplitl [HS]; · iexact HS
  isplitl [HQ0]; · iexact HQ0
  iexact HQ1

theorem leave (c : Dev nD) : (dats m 0 c).Φ (Fin.last cfg0.N) ⊢ Pipeline.ΦD osem0 spec0 H0 (V m) c := by
  rw [Pipeline.ΦD_eq, scopedRest0_eq, ownSems00_eq, hbmPts0_eq]
  have hN : cfg0.N = 161 := N_0
  rw [show (dats m 0 c).Φ (Fin.last cfg0.N) = inv m c cfg0.N from rfl, hN]
  unfold inv acc
  rw [st_dry m c 161 (by decide)]
  unfold stDry
  iintro ⟨Hg, ⟨%fa, -, HA⟩, HR, ⟨%fw, -, Hw⟩, ⟨%u0, HS0⟩, ⟨%u1, HS1⟩, HQ0, HQ1⟩
  isplitl [HA Hw HS0 HS1]
  · isplitl [Hw]; · iexists fw; iexact Hw
    isplitl [HS0 HS1]
    · iapply (slots_join c u0 u1)
      isplitl [HS0]; · iexact HS0
      iexact HS1
    iexists fa; iexact HA
  isplitl [Hg]; · iexact Hg
  isplitl [HQ0 HQ1]
  · isplitl [HQ0]; · iexact HQ0
    iexact HQ1
  iexact HR

set_option backward.isDefEq.respectTransparency.types false in
/-- The program's run: the pipeline's arrays, and every counter at zero. -/
theorem run_main : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c w => by unfold Dat.share; split <;> rfl)
    (howed := fun _ _ => rfl) (V := V m) (hmain := hmainD m Variants.none) (hA := A_eq m)
    (hin := enter m) (hout := leave m)

/-- The arguments end as they began. -/
theorem args_kept {r : PUnit × MemSt nD τ sig (Elt F)} (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).1 0).trans (((dats m 0 c).arrAt_in 0 rfl _).trans ((A_eq m c 0).trans (V_main_arg0 m c))),
   ((h c).2 main_arg1 (Pipeline.mem_restRefs_of main_arg1 (by decide) (by decide))).trans (V_main_arg1 m c)⟩

/-- The frame: arguments kept, counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨args_kept m h.1, h.2⟩) (run_main m ρ)

end Cert.Kernel3Ideal.Gate

end
-- ==== Proof.GateValue.lean ====
/-
  The gate projection over the extended reals: each grid step's 1024 × 1024 block is a block of rows against a tile
  of weight columns, gated at the next step, and the blocks together are the reference's array.
-/
module

public import proofs.«01_k».proof.Proof.GateIdeal.Frame
public import proofs.«01_k».proof.Proof.Gen.Reference3Ideal.Run
public import Idealize.ShloMosaic.Lib.Pipeline.ValueKit.Geometry
public import Idealize.ShloMosaic.Lib.ValueIdx
public import Idealize.ShloMosaic.Lib.ValueLayout
public import Idealize.ShloMosaic.Lib.MatmulPlain
public import Idealize.ShloMosaic.Lib.StackMember
public import Idealize.ShloMosaic.Lib.IdealHost

@[expose] public section

set_option maxRecDepth 16384

noncomputable section

namespace Cert.Kernel3Ideal.Gate

open Cert.Kernel3Ideal Cert.Kernel3Ideal.Gen
open Idealize.ShloMosaic Idealize.ShloMosaic.TcCoe Idealize.ShloMosaic.ValueIdx
open Idealize.ShloMosaic.Pipeline (Dat Cfg Window)
open scoped BigOperators

/-! ## The gated entry -/

/-- A row against a column of the gates' weights. -/
def dotE (h : Vec Ideal S9216x4096 .bf16) (w : Vec Ideal S4096x38912 .f32) (r : Fin 8192) (q : Fin 20480) : EReal :=
  ∑ k : Fin 4096, (h (ix2 (⟨r.val, by omega⟩ : Fin 9216) k) : EReal) * w (ix2 k (⟨18432 + q.val, by omega⟩ : Fin 38912))

/-- The logistic function as both programs spell it. -/
def sigm (x : EReal) : EReal := Ideal.div 1 (1 + Ideal.exp (-x))

/-- The first three gates weigh their own value, the other two only gate. -/
def gate (q : ℕ) (x : EReal) : EReal := if q < 12288 then x * sigm x else sigm x

/-! ## A grid step -/

/-- The product's row block, at an index. -/
theorem pay2_apply (X : Vec Ideal S256x4096 .bf16) (w : Vec Ideal S1x4096x1024 .bf16) (r : Fin 256) (q : Fin 1024) :
    k0_pay2 X w (ix2 r q) = (∑ k : Fin 4096, (X (ix2 r k) : EReal) * w (ix3 (0 : Fin 1) k q) : EReal) := by
  unfold k0_pay2
  refine (shapeCast_apply _ shapeCasts_S256x1024_S256x1024 (ix2 r q) (ix2 r q) rfl).trans ?_
  refine (Ideal.matmul_plain_apply none X (shapeCast S4096x1024 w shapeCasts_S1x4096x1024_S4096x1024) (constant S256x1024 .f32 0x00000000#32) r q).trans ?_
  rw [constant_apply, Ideal.ofBits_zero_f32, zero_add]
  refine Finset.sum_congr rfl fun k _ => congrArg (fun z : EReal => (X (ix2 r k) : EReal) * z) ?_
  refine shapeCast_apply w shapeCasts_S1x4096x1024_S4096x1024 (ix2 k q) (ix3 (0 : Fin 1) k q) ?_
  rw [Shape.rowMajor_val_three, Shape.rowMajor_val_two]
  show (0 * 4096 + k.val) * 1024 + q.val = k.val * 1024 + q.val
  omega

/-- A block of rows against a tile. -/
def prodE (h : Vec Ideal S1024x4096 .bf16) (w : Vec Ideal S1x4096x1024 .bf16) : Vec Ideal S1024x1024 .f32 := fun y =>
  (∑ k : Fin 4096, (h (ix2 (y 0) k) : EReal) * w (ix3 (0 : Fin 1) k (y 1)) : EReal)

theorem piece_apply (h : Vec Ideal S1024x4096 .bf16) (w : Vec Ideal S1x4096x1024 .bf16) (a : ℕ)
    (i : ∀ x, (![a, 0] : Fin 2 → ℕ) x + S256x1024.size x ≤ S1024x1024.size x) (j : ∀ x, (![a, 0] : Fin 2 → ℕ) x + S256x4096.size x ≤ S1024x4096.size x)
    (x : S256x1024.Idx) :
    k0_pay2 (View.ld h (Rect.unit (s := S1024x4096) ![a, 0] S256x4096.size j)) w x = prodE h w ((Rect.unit (s := S1024x1024) ![a, 0] S256x1024.size i).emb x) := by
  refine (congrArg _ (eq_ix2 (n0 := 256) (n1 := 1024) x)).trans ((pay2_apply _ w (x 0) (x 1)).trans ?_)
  refine Finset.sum_congr rfl fun k _ => congrArg₂ (fun a b : EReal => a * b) ?_ ?_
  · refine congrArg h ?_
    funext b; apply Fin.ext
    fin_cases b
    · rfl
    · show 0 + 1 * k.val = k.val; omega
  · refine congrArg w ?_
    funext b; apply Fin.ext
    fin_cases b
    · rfl
    · rfl
    · show (x 1).val = 0 + 1 * (x 1).val; omega

/-- The accumulator after a step is the whole product. -/
theorem accB_eq (h : Vec Ideal S1024x4096 .bf16) (w : Vec Ideal S1x4096x1024 .bf16) : accB h w = prodE h w := by
  funext y
  refine View.canon_apply_of_pieces (prodE h w) (accL h w) ?_ y (accL_cover h w y)
  unfold accL
  simp only [List.forall_mem_cons]
  exact ⟨fun x => piece_apply h w 768 _ _ x, fun x => piece_apply h w 512 _ _ x, fun x => piece_apply h w 256 _ _ x, fun x => piece_apply h w 0 _ _ x,
    fun _ hp => absurd hp List.not_mem_nil⟩

/-- One element gated. -/
theorem gate1_apply (v : BitVec 32) (x : EReal) :
    gate1 (F := Ideal) v x = if Scalar.cmpi .slt v 12#32 = 1#1 then x * sigm x else sigm x := by
  have e : gate1 (F := Ideal) v x = Ideal.div (Ideal.ofBits .f32 0x3F800000#32) (Ideal.ofBits .f32 0x3F800000#32 + Ideal.exp (Ideal.ofBits .f32 0x00000000#32 - x))
      * (Scalar.select (Scalar.cmpi .slt v 12#32) (fun _ : S256x256.Idx => x) (fun _ => Ideal.ofBits .f32 0x3F800000#32) (ix2 (0 : Fin 256) (0 : Fin 256))) := rfl
  rw [e, Ideal.ofBits_one_f32, Ideal.ofBits_zero_f32, zero_sub]
  unfold Scalar.select sigm
  by_cases hc : Scalar.cmpi .slt v 12#32 = 1#1
  · rw [if_pos hc, if_pos (show Scalar.cmpi .slt v 12#32 = 1 from hc)]; exact mul_comm _ _
  · rw [if_neg hc, if_neg (show ¬Scalar.cmpi .slt v 12#32 = 1 from hc)]; exact mul_one _

variable (m : (ℓ : Loc nD τ sig) → Buf (Elt Ideal) ℓ)

theorem at0 : ∀ t : Fin cfg0.N, t.val < 160 → win0_0.index t = ![t.val % 8, 0] := (by decide +kernel : ∀ t : Fin grid0.N, _)
theorem at1 : ∀ t : Fin cfg0.N, 1 ≤ t.val → win0_1.index t = ![(t.val - 1) % 8, (t.val - 1) / 8] := (by decide +kernel : ∀ t : Fin grid0.N, _)
theorem flush1 : ∀ t : Fin cfg0.N, win0_1.flush t = true → 1 ≤ t.val := (by decide +kernel : ∀ t : Fin grid0.N, _)
theorem kind : ∀ t : Fin cfg0.N, 1 ≤ t.val → (Scalar.cmpi .slt (nPrev (grid0.coords t)) 12#32 = 1#1 ↔ (t.val - 1) / 8 < 12) :=
  (by decide +kernel : ∀ t : Fin grid0.N, _)

theorem b0 (c : Dev nD) (t : Fin cfg0.N) (ht : t.val < 160) (r : Fin 1024) (k : Fin 4096) :
    iblk m c 0 t (ix2 r k) = m ((c : Thread nD τ).loc main_arg0) (ix2 (⟨t.val % 8 * 1024 + r.val, by omega⟩ : Fin 9216) k) := by
  refine (show _ = V m c main_arg0 (ix2 (⟨t.val % 8 * 1024 + r.val, by omega⟩ : Fin 9216) k) from ?_).trans (congrFun (V_main_arg0 m c) _)
  blk_simp [iblk]
  refine congrArg _ ?_
  funext a; apply Fin.ext
  fin_cases a
  · blk_simp [at0 t ht]
  · blk_simp [at0 t ht]

/-- The kernel's array, as one function of the arguments. -/
def whole (c : Dev nD) : Vec Ideal S8192x20480 .bf16 := fun i =>
  gate (i 1).val (dotE (m ((c : Thread nD τ).loc main_arg0)) (m ((c : Thread nD τ).loc main_arg1)) (i 0) (i 1))

/-- What a step writes back is its block of that array. -/
theorem block_eq (c : Dev nD) (t : Fin cfg0.N) (ht : 1 ≤ t.val) (y : S1024x1024.Idx) (r : Fin 8192) (q : Fin 20480)
    (hr : r.val = (t.val - 1) % 8 * 1024 + (y 0).val) (hq : q.val = (t.val - 1) / 8 * 1024 + (y 1).val) :
    outAt m c t y = whole m c (ix2 r q) := by
  have hN : cfg0.N = 161 := N_0
  have hy1 : (y 1).val < 1024 := (y 1).isLt
  have hlt := t.isLt
  have ep : prevAcc m c t.val = accB (iblk m c 0 ⟨t.val - 1, by omega⟩) (wTile (V m c main_arg1) ((t.val - 1) / 8)) := by
    have := prevAcc_succ m c ⟨t.val - 1, by omega⟩
    rwa [show (⟨t.val - 1, by omega⟩ : Fin cfg0.N).val + 1 = t.val from by show t.val - 1 + 1 = t.val; omega] at this
  unfold outAt
  rw [ep, accB_eq]
  refine (gate1_apply _ _).trans ?_
  have es : prodE (iblk m c 0 ⟨t.val - 1, by omega⟩) (wTile (V m c main_arg1) ((t.val - 1) / 8)) y
      = dotE (m ((c : Thread nD τ).loc main_arg0)) (m ((c : Thread nD τ).loc main_arg1)) r q := by
    refine Finset.sum_congr rfl fun k _ => congrArg₂ (fun a b : EReal => a * b) ?_ ?_
    · refine (b0 m c ⟨t.val - 1, by omega⟩ (by show t.val - 1 < 160; omega) (y 0) k).trans (congrArg _ ?_)
      exact congrArg (fun z => ix2 z k) (Fin.ext hr.symm)
    · show V m c main_arg1 (ix2 k (⟨(18432 + 1024 * ((t.val - 1) / 8) + (y 1).val) % 38912, _⟩ : Fin 38912)) = _
      refine (congrFun (V_main_arg1 m c) _).trans (congrArg _ ?_)
      exact congrArg (ix2 k) (Fin.ext (by show (18432 + 1024 * ((t.val - 1) / 8) + (y 1).val) % 38912 = 18432 + q.val; omega))
  rw [es]
  show _ = gate q.val _
  unfold gate
  by_cases hc : (t.val - 1) / 8 < 12
  · rw [if_pos ((kind t ht).mpr hc), if_pos (by omega)]
  · rw [if_neg (fun h => hc ((kind t ht).mp h)), if_neg (by omega)]

/-- The result array after the run. -/
theorem arr_eq (c : Dev nD) : (dats m 0 c).arrAt 1 cfg0.N = whole m c := by
  refine (dats m 0 c).arrAt_eq_of_covers 1 _ (by decide +kernel) fun t hf y => ?_
  have ht := flush1 t hf
  blk_simp
  rw [after0_1]
  refine (block_eq m c t ht y ⟨(t.val - 1) % 8 * 1024 + (y 0).val, by have : (y 0).val < 1024 := (y 0).isLt; omega⟩
    ⟨(t.val - 1) / 8 * 1024 + (y 1).val, by have : (y 1).val < 1024 := (y 1).isLt; have := t.isLt; have hN : cfg0.N = 161 := N_0; omega⟩ rfl rfl).trans (congrArg _ ?_)
  funext a; apply Fin.ext
  fin_cases a
  · blk_simp [at1 t ht]; rfl
  · blk_simp [at1 t ht]; rfl

end Cert.Kernel3Ideal.Gate

namespace Cert.Reference3Ideal.Gate

open Cert.Reference3Ideal Cert.Reference3Ideal.Gen
open Cert.Kernel3Ideal.Gate (dotE sigm gate)
open Idealize.ShloMosaic Idealize.ShloMosaic.TcCoe Idealize.ShloMosaic.ValueIdx
open scoped BigOperators

/-- The reference's product. -/
def prod (h : FVec Ideal S9216x4096 .bf16) (w : FVec Ideal S4096x38912 .f32) : FVec Ideal S8192x20480 .f32 :=
  Host.dotGeneral dot_S8192x4096_S4096x20480_S8192x20480_1_0_0_1_n_n none (extf .f32 (extractStridedSlice S8192x4096 ![0, 0] h slices_S9216x4096_S8192x4096_0_0) bitsLt_bf16_f32)
    (extractStridedSlice S4096x20480 ![0, 18432] w slices_S4096x38912_S4096x20480_0_18432)

theorem prod_apply (h : FVec Ideal S9216x4096 .bf16) (w : FVec Ideal S4096x38912 .f32) (r : Fin 8192) (q : Fin 20480) : prod h w (ix2 r q) = dotE h w r q := by
  refine (StackMember.dotGeneral_plain_apply none _ _ r q).trans (Finset.sum_congr rfl fun k _ => congrArg₂ (fun a b : EReal => a * b) ?_ ?_)
  · refine extractStridedSlice_apply ![0, 0] h slices_S9216x4096_S8192x4096_0_0 _ _ fun a => ?_
    match a with
    | ⟨0, _⟩ => show r.val = 0 + r.val; omega
    | ⟨1, _⟩ => show k.val = 0 + k.val; omega
  · refine extractStridedSlice_apply ![0, 18432] w slices_S4096x38912_S4096x20480_0_18432 _ _ fun a => ?_
    match a with
    | ⟨0, _⟩ => show k.val = 0 + k.val; omega
    | ⟨1, _⟩ => rfl

/-- One over one plus an exponential, the first three gates' shape. -/
theorem sig_wide (x : FVec Ideal S8192x12288 .f32) (j : S8192x12288.Idx) :
    Host.divf (broadcastInDim S8192x12288 ![] bcast_S_S8192x12288 (constant S_ .f32 0x3F800000#32))
      (addf (broadcastInDim S8192x12288 ![] bcast_S_S8192x12288 (constant S_ .f32 0x3F800000#32)) (Host.exp (Host.negf x))) j = sigm (x j) := by
  have e : broadcastInDim S8192x12288 ![] bcast_S_S8192x12288 (constant (F := Ideal) S_ .f32 0x3F800000#32) j = (1 : EReal) :=
    (broadcastInDim_scalar_apply bcast_S_S8192x12288 (constant (F := Ideal) S_ .f32 0x3F800000#32) j).trans ((constant_apply ..).trans Ideal.ofBits_one_f32)
  exact congrArg₂ (fun a b : EReal => Ideal.div a (b + Ideal.exp (-(x j)))) e e

/-- The same in the other two gates' shape. -/
theorem sig_pair (x : FVec Ideal S8192x8192 .f32) (j : S8192x8192.Idx) :
    Host.divf (broadcastInDim S8192x8192 ![] bcast_S_S8192x8192 (constant S_ .f32 0x3F800000#32))
      (addf (broadcastInDim S8192x8192 ![] bcast_S_S8192x8192 (constant S_ .f32 0x3F800000#32)) (Host.exp (Host.negf x))) j = sigm (x j) := by
  have e : broadcastInDim S8192x8192 ![] bcast_S_S8192x8192 (constant (F := Ideal) S_ .f32 0x3F800000#32) j = (1 : EReal) :=
    (broadcastInDim_scalar_apply bcast_S_S8192x8192 (constant (F := Ideal) S_ .f32 0x3F800000#32) j).trans ((constant_apply ..).trans Ideal.ofBits_one_f32)
  exact congrArg₂ (fun a b : EReal => Ideal.div a (b + Ideal.exp (-(x j)))) e e

/-- The two parts side by side. -/
def parts (P : FVec Ideal S8192x20480 .f32) : FVec Ideal S8192x20480 .f32 :=
  concatenate S8192x20480 1 [⟨S8192x12288, (mulf (extractStridedSlice S8192x12288 ![0, 0] P slices_S8192x20480_S8192x12288_0_0)
      (Host.divf (broadcastInDim S8192x12288 ![] bcast_S_S8192x12288 (constant S_ .f32 0x3F800000#32))
        (addf (broadcastInDim S8192x12288 ![] bcast_S_S8192x12288 (constant S_ .f32 0x3F800000#32))
          (Host.exp (Host.negf (extractStridedSlice S8192x12288 ![0, 0] P slices_S8192x20480_S8192x12288_0_0))))))⟩,
    ⟨S8192x8192, (Host.divf (broadcastInDim S8192x8192 ![] bcast_S_S8192x8192 (constant S_ .f32 0x3F800000#32))
      (addf (broadcastInDim S8192x8192 ![] bcast_S_S8192x8192 (constant S_ .f32 0x3F800000#32))
        (Host.exp (Host.negf (extractStridedSlice S8192x8192 ![0, 12288] P slices_S8192x20480_S8192x8192_0_12288)))))⟩]
    concatenates_S8192x12288_S8192x8192_S8192x20480_d1

theorem parts_apply (P : FVec Ideal S8192x20480 .f32) (r : Fin 8192) (q : Fin 20480) : parts P (ix2 r q) = gate q.val (P (ix2 r q)) := by
  unfold parts gate
  by_cases hq : q.val < 12288
  · rw [if_pos hq]
    refine (concatenate_pair_apply_left (s₁ := S8192x12288) (s₂ := S8192x8192) 1 _ _ _ (ix2 r q) rfl (ix2 r (⟨q.val, hq⟩ : Fin 12288)) fun b => ?_).trans ?_
    · match b with
      | ⟨0, _⟩ => rfl
      | ⟨1, _⟩ => rfl
    · have e : extractStridedSlice S8192x12288 ![0, 0] P slices_S8192x20480_S8192x12288_0_0 (ix2 r (⟨q.val, hq⟩ : Fin 12288)) = P (ix2 r q) :=
        extractStridedSlice_apply ![0, 0] P slices_S8192x20480_S8192x12288_0_0 _ _ fun a => by
          match a with
          | ⟨0, _⟩ => show r.val = 0 + r.val; omega
          | ⟨1, _⟩ => show q.val = 0 + q.val; omega
      exact congrArg₂ (fun a b : EReal => a * b) e ((sig_wide _ _).trans (congrArg sigm e))
  · rw [if_neg hq]
    obtain ⟨p, hp⟩ : ∃ p : Fin 8192, p.val + 12288 = q.val := ⟨⟨q.val - 12288, by omega⟩, Nat.sub_add_cancel (Nat.le_of_not_lt hq)⟩
    refine (concatenate_pair_apply_right (s₁ := S8192x12288) (s₂ := S8192x8192) 1 _ _ _ (ix2 r q) rfl rfl (ix2 r p) (fun b hb => ?_) ?_).trans ?_
    · match b with
      | ⟨0, _⟩ => rfl
      | ⟨1, _⟩ => exact absurd rfl hb
    · exact hp
    · have e : extractStridedSlice S8192x8192 ![0, 12288] P slices_S8192x20480_S8192x8192_0_12288 (ix2 r p) = P (ix2 r q) :=
        extractStridedSlice_apply ![0, 12288] P slices_S8192x20480_S8192x8192_0_12288 _ _ fun a => by
          match a with
          | ⟨0, _⟩ => show r.val = 0 + r.val; omega
          | ⟨1, _⟩ => exact hp.symm.trans (Nat.add_comm _ _)
      exact (sig_pair _ _).trans (congrArg sigm e)

/-- The reference's array at an index. -/
theorem gates_apply (h : FVec Ideal S9216x4096 .bf16) (w : FVec Ideal S4096x38912 .f32) (r : Fin 8192) (q : Fin 20480) :
    truncf .bf16 (parts (prod h w)) bitsLt_bf16_f32 (ix2 r q) = gate q.val (dotE h w r q) :=
  (parts_apply (prod h w) r q).trans (congrArg (gate q.val) (prod_apply h w r q))

end Cert.Reference3Ideal.Gate

end
-- ==== Proof.OutIdeal.Run.lean ====
/-
  One grid step of the output projection, run from what it holds to what it leaves: a step stores its tile of the
  projected rows, and the last of a row block's eight steps also stores the normalized rows.
-/
module

public import proofs.«01_k».proof.Proof.Gen.Kernel4Ideal.Frame
public import proofs.«01_k».proof.Proof.Gen.Kernel4Ideal.Skeleton
public import Idealize.ShloMosaic.Lib.Ring
public import Idealize.ShloMosaic.Lib.Tactic
public import Idealize.ShloMosaic.Lib.WritesUnit
public import Idealize.ShloMosaic.Lib.Pipeline.FrameBody
public import Idealize.ShloMosaic.Lib.Pipeline.FrameValue

@[expose] public section

noncomputable section

namespace Cert.Kernel4Ideal.Out

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev aS : Memref sig .tc .vmem S8x512x512 .f32 := Memref.whole cc0_scratch0
abbrev ScBuf (c : Dev nD) : Type := Buf (Elt F) (aS.view.loc (c : Thread nD τ))
abbrev scPt (c : Dev nD) (f : ScBuf (F := F) c) : sProp 𝕄 := aS.view.loc (c : Thread nD τ) ↦{fullShare} f

/-- The tile a step computes, from its blocks. -/
def tileB (x0 : Vec F S512x4096 .bf16) (x1 : Vec F S4096x512 .bf16) (x2 : Vec F S512x512 .f32) (x3 : Vec F S1x1x512 .f32) : FVec F S1x512x512 .f32 :=
  k0_pay1 (View.ld x2 (Rect.unit (s := S512x512) ![0, 0] S512x512.size inb_S512x512_S512x512_0_0)) (View.ld x3 (Rect.unit (s := S1x1x512) ![0, 0, 0] S1x1x512.size inb_S1x1x512_S1x1x512_0_0_0))
    (View.ld x0 (Rect.unit (s := S512x4096) ![0, 0] S512x4096.size inb_S512x4096_S512x4096_0_0)) (View.ld x1 (Rect.unit (s := S4096x512) ![0, 0] S4096x512.size inb_S4096x512_S4096x512_0_0))

/-- The one store of a step into the scratch. -/
def sliceL (i : grid0.Coords) (x0 : Vec F S512x4096 .bf16) (x1 : Vec F S4096x512 .bf16) (x2 : Vec F S512x512 .f32) (x3 : Vec F S1x1x512 .f32) :
    List (View.Piece (Elt F) S8x512x512 .f32) :=
  [⟨Rect.unit (s := S8x512x512) (k0_off1 i) S1x512x512.size (k0_off1_inb i), tileB x0 x1 x2 x3⟩]

/-- The sums of squares of the first six tiles. -/
def sums (s : Vec F S8x512x512 .f32) : FVec F S512x1 .f32 :=
  k0_pay4 (View.ld s (Rect.unit (s := S8x512x512) ![0, 0, 0] S1x512x512.size inb_S8x512x512_S1x512x512_0_0_0)) (View.ld s (Rect.unit (s := S8x512x512) ![1, 0, 0] S1x512x512.size inb_S8x512x512_S1x512x512_1_0_0)) (View.ld s (Rect.unit (s := S8x512x512) ![2, 0, 0] S1x512x512.size inb_S8x512x512_S1x512x512_2_0_0)) (View.ld s (Rect.unit (s := S8x512x512) ![3, 0, 0] S1x512x512.size inb_S8x512x512_S1x512x512_3_0_0)) (View.ld s (Rect.unit (s := S8x512x512) ![4, 0, 0] S1x512x512.size inb_S8x512x512_S1x512x512_4_0_0)) (View.ld s (Rect.unit (s := S8x512x512) ![5, 0, 0] S1x512x512.size inb_S8x512x512_S1x512x512_5_0_0))

/-- What each row is multiplied by. -/
def scale (s : Vec F S8x512x512 .f32) : FVec F S512x1 .f32 :=
  k0_pay5 (sums s) (View.ld s (Rect.unit (s := S8x512x512) ![6, 0, 0] S1x512x512.size inb_S8x512x512_S1x512x512_6_0_0)) (View.ld s (Rect.unit (s := S8x512x512) ![7, 0, 0] S1x512x512.size inb_S8x512x512_S1x512x512_7_0_0))

/-- The eight stores of the normalized rows. -/
def outL (s : Vec F S8x512x512 .f32) (w : Vec F S1x4096 .f32) : List (View.Piece (Elt F) S512x4096 .f32) :=
  [⟨(Rect.unit (s := S512x4096) ![0, 3584] S512x512.size inb_S512x4096_S512x512_0_3584), k0_pay3 (scale s) (View.ld s (Rect.unit (s := S8x512x512) ![7, 0, 0] S1x512x512.size inb_S8x512x512_S1x512x512_7_0_0)) (View.ld w (Rect.unit (s := S1x4096) ![0, 3584] S1x512.size inb_S1x4096_S1x512_0_3584))⟩,
   ⟨(Rect.unit (s := S512x4096) ![0, 3072] S512x512.size inb_S512x4096_S512x512_0_3072), k0_pay2 (scale s) (View.ld s (Rect.unit (s := S8x512x512) ![6, 0, 0] S1x512x512.size inb_S8x512x512_S1x512x512_6_0_0)) (View.ld w (Rect.unit (s := S1x4096) ![0, 3072] S1x512.size inb_S1x4096_S1x512_0_3072))⟩,
   ⟨(Rect.unit (s := S512x4096) ![0, 2560] S512x512.size inb_S512x4096_S512x512_0_2560), k0_pay11 (scale s) (View.ld s (Rect.unit (s := S8x512x512) ![5, 0, 0] S1x512x512.size inb_S8x512x512_S1x512x512_5_0_0)) (View.ld w (Rect.unit (s := S1x4096) ![0, 2560] S1x512.size inb_S1x4096_S1x512_0_2560))⟩,
   ⟨(Rect.unit (s := S512x4096) ![0, 2048] S512x512.size inb_S512x4096_S512x512_0_2048), k0_pay10 (scale s) (View.ld s (Rect.unit (s := S8x512x512) ![4, 0, 0] S1x512x512.size inb_S8x512x512_S1x512x512_4_0_0)) (View.ld w (Rect.unit (s := S1x4096) ![0, 2048] S1x512.size inb_S1x4096_S1x512_0_2048))⟩,
   ⟨(Rect.unit (s := S512x4096) ![0, 1536] S512x512.size inb_S512x4096_S512x512_0_1536), k0_pay9 (scale s) (View.ld s (Rect.unit (s := S8x512x512) ![3, 0, 0] S1x512x512.size inb_S8x512x512_S1x512x512_3_0_0)) (View.ld w (Rect.unit (s := S1x4096) ![0, 1536] S1x512.size inb_S1x4096_S1x512_0_1536))⟩,
   ⟨(Rect.unit (s := S512x4096) ![0, 1024] S512x512.size inb_S512x4096_S512x512_0_1024), k0_pay8 (scale s) (View.ld s (Rect.unit (s := S8x512x512) ![2, 0, 0] S1x512x512.size inb_S8x512x512_S1x512x512_2_0_0)) (View.ld w (Rect.unit (s := S1x4096) ![0, 1024] S1x512.size inb_S1x4096_S1x512_0_1024))⟩,
   ⟨(Rect.unit (s := S512x4096) ![0, 512] S512x512.size inb_S512x4096_S512x512_0_512), k0_pay7 (sums s) (View.ld s (Rect.unit (s := S8x512x512) ![6, 0, 0] S1x512x512.size inb_S8x512x512_S1x512x512_6_0_0)) (View.ld s (Rect.unit (s := S8x512x512) ![7, 0, 0] S1x512x512.size inb_S8x512x512_S1x512x512_7_0_0)) (View.ld s (Rect.unit (s := S8x512x512) ![1, 0, 0] S1x512x512.size inb_S8x512x512_S1x512x512_1_0_0)) (View.ld w (Rect.unit (s := S1x4096) ![0, 512] S1x512.size inb_S1x4096_S1x512_0_512))⟩,
   ⟨(Rect.unit (s := S512x4096) ![0, 0] S512x512.size inb_S512x4096_S512x512_0_0), k0_pay6 (sums s) (View.ld s (Rect.unit (s := S8x512x512) ![6, 0, 0] S1x512x512.size inb_S8x512x512_S1x512x512_6_0_0)) (View.ld s (Rect.unit (s := S8x512x512) ![7, 0, 0] S1x512x512.size inb_S8x512x512_S1x512x512_7_0_0)) (View.ld s (Rect.unit (s := S8x512x512) ![0, 0, 0] S1x512x512.size inb_S8x512x512_S1x512x512_0_0_0)) (View.ld w (Rect.unit (s := S1x4096) ![0, 0] S1x512.size inb_S1x4096_S1x512_0_0))⟩]

theorem outL_cover (s : Vec F S8x512x512 .f32) (w : Vec F S1x4096 .f32) : ∀ y, ∃ p ∈ outL s w, y ∈ p.1.set :=
  View.cover_of_tiledL (outL s w) ![512, 512] (by sl_kernel_rfl)

/-- The normalized rows. -/
def outB (s : Vec F S8x512x512 .f32) (w : Vec F S1x4096 .f32) : Vec F S512x4096 .f32 := View.canon (outL s w)

set_option maxHeartbeats 1000000 in
/-- A step before a row block's last. -/
theorem run_part (c : Dev nD) (i : grid0.Coords)
    (arg2 : Memref sig .tc .vmem S512x4096 .bf16) (harg2 : arg2.IsWhole) (arg3 : Memref sig .tc .vmem S4096x512 .bf16) (harg3 : arg3.IsWhole)
    (arg4 : Memref sig .tc .vmem S512x512 .f32) (harg4 : arg4.IsWhole) (arg5 : Memref sig .tc .vmem S1x1x512 .f32) (harg5 : arg5.IsWhole)
    (arg6 : Memref sig .tc .vmem S1x4096 .f32) (harg6 : arg6.IsWhole) (arg7 : Memref sig .tc .vmem S512x4096 .f32) (harg7 : arg7.IsWhole)
    (h1 : ¬ (k0_cond1 i = 1#1))
    (x0 : Vec F S512x4096 .bf16) (x1 : Vec F S4096x512 .bf16) (x2 : Vec F S512x512 .f32) (x3 : Vec F S1x1x512 .f32) (x4 : Vec F S1x4096 .f32)
    (fa : ScBuf (F := F) c) :
    iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4
          ∗ scPt c fa)
      ⊢ wp frame (wpE (defs₀ (F := F)) Variants.none c none) Set.univ
          (cc0_outproj i arg2 harg2 arg3 harg3 arg4 harg4 arg5 harg5 arg6 harg6 arg7 harg7 aS (Memref.isWhole_whole _))
          (fun _ => iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4
            ∗ scPt c (aS.view.writes (Elt F) fa (sliceL i x0 x1 x2 x3)))) := by
  simp only [cc0_outproj_eq_skeleton]; unfold cc0_outproj_skel
  unfold owns
  iintro ⟨⟨%f0, %e0, H0⟩, ⟨%f1, %e1, H1⟩, ⟨%f2, %e2, H2⟩, ⟨%f3, %e3, H3⟩, ⟨%f4, %e4, H4⟩, HA⟩
  subst e0 e1 e2 e3 e4
  sl_exec (disch := assumption)
  sl_step
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexact HA

set_option maxHeartbeats 1000000 in
/-- The last step of a row block. -/
theorem run_last (c : Dev nD) (i : grid0.Coords)
    (arg2 : Memref sig .tc .vmem S512x4096 .bf16) (harg2 : arg2.IsWhole) (arg3 : Memref sig .tc .vmem S4096x512 .bf16) (harg3 : arg3.IsWhole)
    (arg4 : Memref sig .tc .vmem S512x512 .f32) (harg4 : arg4.IsWhole) (arg5 : Memref sig .tc .vmem S1x1x512 .f32) (harg5 : arg5.IsWhole)
    (arg6 : Memref sig .tc .vmem S1x4096 .f32) (harg6 : arg6.IsWhole) (arg7 : Memref sig .tc .vmem S512x4096 .f32) (harg7 : arg7.IsWhole)
    (h1 : k0_cond1 i = 1#1)
    (x0 : Vec F S512x4096 .bf16) (x1 : Vec F S4096x512 .bf16) (x2 : Vec F S512x512 .f32) (x3 : Vec F S1x1x512 .f32) (x4 : Vec F S1x4096 .f32)
    (fa : ScBuf (F := F) c) :
    iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4
          ∗ (∃ d, owns (c : Thread nD τ) arg7 fullShare d)
          ∗ scPt c fa)
      ⊢ wp frame (wpE (defs₀ (F := F)) Variants.none c none) Set.univ
          (cc0_outproj i arg2 harg2 arg3 harg3 arg4 harg4 arg5 harg5 arg6 harg6 arg7 harg7 aS (Memref.isWhole_whole _))
          (fun _ => iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4
            ∗ owns (c : Thread nD τ) arg7 fullShare (outB (aS.view.read (Elt F) (aS.view.writes (Elt F) fa (sliceL i x0 x1 x2 x3))) x4)
            ∗ scPt c (aS.view.writes (Elt F) fa (sliceL i x0 x1 x2 x3)))) := by
  simp only [cc0_outproj_eq_skeleton]; unfold cc0_outproj_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, HA⟩
  subst e0 e1 e2 e3 e4
  set_option sl_exec.stopBefore "k0_cond1" in
  sl_exec (disch := assumption)
  generalize hfa : aS.view.writes (Elt F) fa _ = fa'
  rw [dif_pos h1]
  sl_exec (disch := assumption)
  sl_step
  have hs : aS.view.writes (Elt F) fa (sliceL i (arg2.view.read (Elt F) f0) (arg3.view.read (Elt F) f1) (arg4.view.read (Elt F) f2) (arg5.view.read (Elt F) f3)) = fa' := hfa
  rw [hs]
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _
    isplitr
    swap
    · iexact H5
    · ipureintro
      exact View.read_writes_eq_canon _ _ _ (outL_cover (aS.view.read (Elt F) fa') (arg6.view.read (Elt F) f4))
  iexact HA

end Cert.Kernel4Ideal.Out

end
-- ==== Proof.OutIdeal.Frame.lean ====
/-
  The output projection's run over its 128 grid steps: what is held between two steps (the tiles of the row block
  stored so far), each step taken from that to the next, and the program's run to the array it leaves.
-/
module

public import proofs.«01_k».proof.Proof.OutIdeal.Run
public import Idealize.ShloMosaic.Lib.ValueIdx
public import Idealize.ShloMosaic.Lib.Claim

@[expose] public section

noncomputable section

namespace Cert.Kernel4Ideal.Out

open Cert.Kernel4Ideal Cert.Kernel4Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each step does -/

/-- The last of a row block's eight steps normalizes. -/
theorem cond_iff : ∀ t : Fin grid0.N, k0_cond1 (grid0.coords t) = 1#1 ↔ t.val % 8 = 7 := by decide +kernel

/-- The slice a step stores. -/
theorem off_slice : ∀ t : Fin grid0.N, k0_off1 (grid0.coords t) = ![t.val % 8, 0, 0] := by decide +kernel

/-- The step of a number. -/
def step (n : ℕ) : Fin cfg0.N := ⟨n % 128, lt_of_lt_of_eq (Nat.mod_lt _ (by decide)) N_0.symm⟩

theorem step_val (t : Fin cfg0.N) : step t.val = t :=
  Fin.ext (Nat.mod_eq_of_lt (lt_of_lt_of_eq t.isLt N_0))

/-- The tile of step `t`. -/
def tileAt (c : Dev nD) (t : Fin cfg0.N) : FVec F S1x512x512 .f32 := tileB (iblk m c 0 t) (iblk m c 1 t) (iblk m c 2 t) (iblk m c 3 t)

/-- The eight tiles of row block `i`. -/
def tiles (c : Dev nD) (i : ℕ) : Vec F S8x512x512 .f32 := fun y => tileAt m c (step (8 * i + (y 0).val)) (ix3 (0 : Fin 1) (y 1) (y 2))

/-- The scratch after `n` steps holds the tiles of the row block so far. -/
def Filled (c : Dev nD) (n : ℕ) (f : ScBuf (F := F) c) : Prop :=
  ∀ y : S8x512x512.Idx, (y 0).val < n % 8 → aS.view.read (Elt F) f y = tiles m c (n / 8) y

/-- A step adds its tile. -/
theorem filled_step (c : Dev nD) (t : Fin cfg0.N) (f : ScBuf (F := F) c) (h : Filled m c t.val f) (y : S8x512x512.Idx) (hy : (y 0).val < t.val % 8 + 1) :
    aS.view.read (Elt F) (aS.view.writes (Elt F) f (sliceL (grid0.coords t) (iblk m c 0 t) (iblk m c 1 t) (iblk m c 2 t) (iblk m c 3 t))) y = tiles m c (t.val / 8) y := by
  unfold sliceL
  rcases Nat.lt_succ_iff_lt_or_eq.mp hy with hl | he
  · refine (View.read_writes_cons_unit_of_not_mem aS.view f (k0_off1_inb (grid0.coords t)) _ [] y (off_slice t) (0 : Fin 3) (Or.inl hl)).trans ?_
    exact h y hl
  · refine (View.read_writes_cons_unit_of_mem aS.view f (k0_off1_inb (grid0.coords t)) _ [] y (ix3 (0 : Fin 1) (y 1) (y 2)) (off_slice t) ?_).trans ?_
    · intro a
      fin_cases a
      · exact he
      · exact (Nat.zero_add _).symm
      · exact (Nat.zero_add _).symm
    · unfold tiles
      rw [he, show 8 * (t.val / 8) + t.val % 8 = t.val from by omega, step_val]
      rfl

theorem filled_keep (c : Dev nD) (t : Fin cfg0.N) (h : ¬ t.val % 8 = 7) (f : ScBuf (F := F) c)
    (hF : ∀ y : S8x512x512.Idx, (y 0).val < t.val % 8 + 1 → aS.view.read (Elt F) f y = tiles m c (t.val / 8) y) : Filled m c (t.val + 1) f := by
  intro y hy
  rw [show (t.val + 1) / 8 = t.val / 8 from by omega]
  exact hF y (by omega)

theorem filled_next (c : Dev nD) (t : Fin cfg0.N) (h : t.val % 8 = 7) (f : ScBuf (F := F) c) : Filled m c (t.val + 1) f := by
  intro y hy
  exact absurd hy (by omega)

theorem filled_full (c : Dev nD) (t : Fin cfg0.N) (h : t.val % 8 = 7) (f : ScBuf (F := F) c)
    (hF : ∀ y : S8x512x512.Idx, (y 0).val < t.val % 8 + 1 → aS.view.read (Elt F) f y = tiles m c (t.val / 8) y) :
    aS.view.read (Elt F) f = tiles m c (t.val / 8) :=
  funext fun y => hF y (by have : (y 0).val < 8 := (y 0).isLt; omega)

/-- What is held between two steps. -/
def inv (c : Dev nD) (n : ℕ) : sProp 𝕄 := iprop((∃ r, prngReg c r) ∗ (∃ f : ScBuf (F := F) c, ⌜Filled m c n f⌝ ∗ scPt c f))

/-- The output block of step `t`, written at a row block's last step. -/
def outAt (c : Dev nD) (t : Fin cfg0.N) : Vec F S512x4096 .f32 := outB (tiles m c (t.val / 8)) (iblk m c 4 t)

/-- The pipeline's proof data: the inputs keep their blocks, the output takes `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ n := inv m c n.val
  q w := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## One step -/

/-- A step's run, to whatever its end gives with what was set aside. -/
theorem use_run {c : Dev nD} {p : Prog (TpuEff nD τ sig (Elt F) Λ₀ .tc) PUnit} {P : sProp 𝕄} {Q S : PUnit → sProp 𝕄}
    (h : P ⊢ wp frame (wpE (defs₀ (F := F)) Variants.none c none) Set.univ p Q) :
    iprop(P ∗ (∀ a, Q a -∗ S a)) ⊢ wp frame (wpE (defs₀ (F := F)) Variants.none c none) Set.univ p S :=
  (BI.sep_mono_l h).trans (wp_wand_r _ _ _)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))
def bodyPart (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare ((dats m 0 c).before 5 t d)))

set_option maxHeartbeats 1000000 in
/-- A step before the last leaves the output block as it found it. -/
theorem sound_part (c : Dev nD) (t : Fin cfg0.N) (h : ¬ t.val % 8 = 7) :
    bodyPre m c t ⊢ wp frame (wpE (defs₀ (F := F)) Variants.none c none) Set.univ (bodyAt0 t) (fun _ => bodyPart m c t) := by
  unfold bodyPre bodyPart bodyAt0
  simp only [before0_0, before0_1, before0_2, before0_3, before0_4]
  rw [after0_0, after0_1, after0_2, after0_3, after0_4]
  unfold Dat.owesAt Pipeline.owesWithin
  rw [show (dats m 0 c).owed t.castSucc = 0 from rfl, show (dats m 0 c).owed t.succ = 0 from rfl]
  rw [show (dats m 0 c).Φ t.castSucc = inv m c t.val from rfl, show (dats m 0 c).Φ t.succ = inv m c (t.val + 1) from rfl]
  unfold inv
  iintro ⟨⟨Hg, ⟨%fa, %ha, HA⟩⟩, ⟨%W, -, HW⟩, ⟨%d0, H0⟩, ⟨%d1, H1⟩, ⟨%d2, H2⟩, ⟨%d3, H3⟩, ⟨%d4, H4⟩, H5⟩
  have hrun := run_part c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5))
    (fun e => h ((cond_iff t).mp e))
    (iblk m c 0 t) (iblk m c 1 t) (iblk m c 2 t) (iblk m c 3 t) (iblk m c 4 t) fa
  iapply (use_run hrun)
  isplitr [Hg HW H5]
  · isplitl [H0]; · iexact H0
    isplitl [H1]; · iexact H1
    isplitl [H2]; · iexact H2
    isplitl [H3]; · iexact H3
    isplitl [H4]; · iexact H4
    iexact HA
  · iintro %_ ⟨H0, H1, H2, H3, H4, HA⟩
    have hF := filled_step m c t fa ha
    have hF' := filled_keep m c t h _ hF
    isplitl [Hg HA]
    · isplitl [Hg]; · iexact Hg
      iexists _; isplitr
      swap
      · iexact HA
      · ipureintro; exact hF'
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    iexact H5

set_option maxHeartbeats 1000000 in
/-- The last step writes it. -/
theorem sound_last (c : Dev nD) (t : Fin cfg0.N) (h : t.val % 8 = 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [after0_0, after0_1, after0_2, after0_3, after0_4, after0_5]
  unfold Dat.owesAt Pipeline.owesWithin
  rw [show (dats m 0 c).owed t.castSucc = 0 from rfl, show (dats m 0 c).owed t.succ = 0 from rfl]
  rw [show (dats m 0 c).Φ t.castSucc = inv m c t.val from rfl, show (dats m 0 c).Φ t.succ = inv m c (t.val + 1) from rfl]
  unfold inv
  iintro ⟨⟨Hg, ⟨%fa, %ha, HA⟩⟩, ⟨%W, -, HW⟩, ⟨%d0, H0⟩, ⟨%d1, H1⟩, ⟨%d2, H2⟩, ⟨%d3, H3⟩, ⟨%d4, H4⟩, ⟨%d5, H5⟩⟩
  have hrun := run_last c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5))
    ((cond_iff t).mpr h)
    (iblk m c 0 t) (iblk m c 1 t) (iblk m c 2 t) (iblk m c 3 t) (iblk m c 4 t) fa
  iapply (use_run hrun)
  isplitr [Hg HW]
  · isplitl [H0]; · iexact H0
    isplitl [H1]; · iexact H1
    isplitl [H2]; · iexact H2
    isplitl [H3]; · iexact H3
    isplitl [H4]; · iexact H4
    isplitl [H5]; · iexists _; iexact H5
    iexact HA
  · iintro %_ ⟨H0, H1, H2, H3, H4, H5, HA⟩
    have hF := filled_step m c t fa ha
    rw [filled_full m c t h _ hF]
    have hF' : Filled m c (t.val + 1) (aS.view.writes (Elt F) fa (sliceL (grid0.coords t) (iblk m c 0 t) (iblk m c 1 t) (iblk m c 2 t) (iblk m c 3 t))) :=
      filled_next m c t h _
    isplitl [Hg HA]
    · isplitl [Hg]; · iexact Hg
      iexists _; isplitr
      swap
      · iexact HA
      · ipureintro; exact hF'
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := by
  unfold defs₀; rw [Defs.onTc_tc]

/-- The output block is written at the last steps only. -/
theorem idle_iff : ∀ t : Fin cfg0.N, cfg0.idle 5 (cfg0.grid.coords t) = decide (¬ t.val % 8 = 7) := by decide +kernel

theorem body_obligation (c : Dev nD) : BodyObligation (dats (F := F) m 0 c) (defs₀ (F := F)) Variants.none () Set.univ := fun t => by
  by_cases h : t.val % 8 = 7
  · have hi : cfg0.idle 5 (cfg0.grid.coords t) = false := (idle_iff t).trans (decide_eq_false (fun e => e h))
    rw [bigSep_W0, bigSep_W0, defs₀_row, hi]
    exact triple_restated (sound_last m c t h) rfl .rfl fun _ => .rfl
  · have hi : cfg0.idle 5 (cfg0.grid.coords t) = true := (idle_iff t).trans (decide_eq_true h)
    have hf : (cfg0.win 5).flush t = false := Bool.eq_false_iff.mpr fun e => h ((flush0_5 t).mp e)
    rw [bigSep_W0, bigSep_W0, defs₀_row, hi, hf]
    exact triple_restated (sound_part m c t h) rfl .rfl fun _ => .rfl

/-! ## The run -/

theorem enter (c : Dev nD) : Pipeline.ΦA spec0 c ⊢ (dats m 0 c).Φ 0 := by
  unfold Pipeline.ΦA
  rw [scopedRest0_eq]
  show _ ⊢ inv m c 0
  unfold inv
  iintro ⟨⟨%f, HA⟩, Hg⟩
  isplitl [Hg]; · iexact Hg
  iexists f; isplitr; · ipureintro; exact fun y hy => absurd hy (Nat.not_lt_zero _)
  iexact HA

theorem leave (c : Dev nD) : (dats m 0 c).Φ (Fin.last cfg0.N) ⊢ Pipeline.ΦA spec0 c := by
  unfold Pipeline.ΦA
  rw [scopedRest0_eq]
  rw [show (dats m 0 c).Φ (Fin.last cfg0.N) = inv m c cfg0.N from rfl]
  unfold inv
  iintro ⟨Hg, ⟨%f, -, HA⟩⟩
  isplitl [HA]; · iexists f; iexact HA
  iexact Hg

set_option backward.isDefEq.respectTransparency.types false in
set_option maxHeartbeats 800000 in
/-- The program's run: the pipeline's arrays, and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c w => by unfold Dat.share; split <;> rfl)
    (howed := fun _ _ => rfl) (V := V m) (hmain := hmain m Variants.none) (hA := A_eq m)
    (hin := enter m) (hout := leave m)

/-- The frame: arguments kept, counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.Kernel4Ideal.Out

end
-- ==== Proof.OutPure.lean ====
/-
  The output projection's operations read at an index: the tile of one step, the scale of a row, the normalized rows,
  and the reference's array.
-/
module

public import proofs.«01_k».proof.Proof.Gen.Kernel4Ideal.Skeleton
public import proofs.«01_k».proof.Proof.Gen.Reference4Ideal.Run
public import Idealize.ShloMosaic.Lib.Pointwise

@[expose] public section

set_option maxRecDepth 16384

noncomputable section

namespace Cert.Kernel4Ideal.Out

open Cert.Kernel4Ideal Cert.Kernel4Ideal.Gen
open Idealize.ShloMosaic Idealize.ShloMosaic.TcCoe
open scoped BigOperators

/-- The sum of squares of a row of a tile. -/
def sq (v : Vec Ideal S1x512x512 .f32) (r : Fin 512) : EReal := ∑ x : Fin 512, (v (ix3 (0 : Fin 1) r x) : EReal) * v (ix3 (0 : Fin 1) r x)

theorem pay1_apply (v0 : Vec Ideal S512x512 .f32) (v1 : Vec Ideal S1x1x512 .f32) (v3 : Vec Ideal S512x4096 .bf16) (v4 : Vec Ideal S4096x512 .bf16) (r x : Fin 512) :
    k0_pay1 v0 v1 v3 v4 (ix3 (0 : Fin 1) r x)
      = (v0 (ix2 r x) + v1 (ix3 (0 : Fin 1) (0 : Fin 1) x) * ∑ k : Fin 4096, (v3 (ix2 r k) : EReal) * v4 (ix2 k x) : EReal) := by
  pointwise [k0_pay1]

theorem pay2_apply (z : FVec Ideal S512x1 .f32) (a : Vec Ideal S1x512x512 .f32) (b : Vec Ideal S1x512 .f32) (r x : Fin 512) :
    k0_pay2 z a b (ix2 r x) = (a (ix3 (0 : Fin 1) r x) * z (ix2 r (0 : Fin 1)) * b (ix2 (0 : Fin 1) x) : EReal) := by
  pointwise [k0_pay2]

theorem pay4_apply (a0 a1 a2 a3 a4 a5 : Vec Ideal S1x512x512 .f32) (r : Fin 512) :
    k0_pay4 a0 a1 a2 a3 a4 a5 (ix2 r (0 : Fin 1)) = sq a0 r + sq a1 r + sq a2 r + sq a3 r + sq a4 r + sq a5 r := by
  pointwise [k0_pay4, sq]

theorem pay5_apply (z : FVec Ideal S512x1 .f32) (a6 a7 : Vec Ideal S1x512x512 .f32) (r : Fin 512) :
    k0_pay5 z a6 a7 (ix2 r (0 : Fin 1))
      = Ideal.rsqrt (Ideal.div ((z (ix2 r (0 : Fin 1)) : EReal) + sq a6 r + sq a7 r) (FloatOps.ofBits (F := Ideal) .f32 0x45800000#32) + (FloatOps.ofBits (F := Ideal) .f32 0x358637BD#32 : EReal)) := by
  pointwise [k0_pay5, sq]

end Cert.Kernel4Ideal.Out

namespace Cert.Reference4Ideal.Out

open Cert.Reference4Ideal Cert.Reference4Ideal.Gen
open Idealize.ShloMosaic Idealize.ShloMosaic.TcCoe
open scoped BigOperators

/-- The projected row added to the residual, in the reference's operations. -/
def rows (mg : FVec Ideal S8192x4096 .bf16) (w : FVec Ideal S4096x4096 .bf16) (x : FVec Ideal S8192x4096 .f32) (md : FVec Ideal S8x1x12288 .f32) : FVec Ideal S4x2048x4096 .f32 :=
  addf (shapeCast _ x shapeCasts_S8192x4096_S4x2048x4096) (mulf (broadcastInDim S4x2048x4096 ![0, 1, 2] bcast_S4x1x4096_S4x2048x4096_0_1_2 (broadcastInDim S4x1x4096 ![0, 2] bcast_S4x4096_S4x1x4096_0_2 (shapeCast _ (extractStridedSlice S4x1x4096 ![0, 0, 8192] md slices_S8x1x12288_S4x1x4096_0_0_8192) shapeCasts_S4x1x4096_S4x4096))) (shapeCast _ (Host.dotGeneral dot_S8192x4096_S4096x4096_S8192x4096_1_0_0_1_n_n none (extf .f32 mg bitsLt_bf16_f32) (extf .f32 w bitsLt_bf16_f32)) shapeCasts_S8192x4096_S4x2048x4096))

theorem rows_apply (mg : FVec Ideal S8192x4096 .bf16) (w : FVec Ideal S4096x4096 .bf16) (x : FVec Ideal S8192x4096 .f32) (md : FVec Ideal S8x1x12288 .f32)
    (b : Fin 4) (s : Fin 2048) (q : Fin 4096) :
    rows mg w x md (ix3 b s q)
      = (x (ix2 (⟨b.val * 2048 + s.val, by omega⟩ : Fin 8192) q)
        + md (ix3 (⟨b.val, by omega⟩ : Fin 8) (0 : Fin 1) (⟨8192 + q.val, by omega⟩ : Fin 12288))
          * ∑ k : Fin 4096, (mg (ix2 (⟨b.val * 2048 + s.val, by omega⟩ : Fin 8192) k) : EReal) * w (ix2 k q) : EReal) := by
  pointwise [rows]

theorem norm_apply (Y : FVec Ideal S4x2048x4096 .f32) (fw : FVec Ideal S1x4096 .f32) (r : Fin 8192) (q : Fin 4096) :
    shapeCast S8192x4096 (mulf (mulf Y (broadcastInDim S4x2048x4096 ![0, 1, 2] bcast_S4x2048x1_S4x2048x4096_0_1_2 (Host.rsqrt (addf (Host.divf (broadcastInDim S4x2048x1 ![0, 1] bcast_S4x2048_S4x2048x1_0_1 (Host.reduceAdd (mulf Y Y) (constant S_ .f32 0x00000000#32) reducesTo_S4x2048x4096_S4x2048_d2 h_S_)) (broadcastInDim S4x2048x1 ![] bcast_S_S4x2048x1 (constant S_ .f32 0x45800000#32))) (broadcastInDim S4x2048x1 ![] bcast_S_S4x2048x1 (constant S_ .f32 0x358637BD#32)))))) (broadcastInDim S4x2048x4096 ![0, 1, 2] bcast_S1x1x4096_S4x2048x4096_0_1_2 (broadcastInDim S1x1x4096 ![2] bcast_S4096_S1x1x4096_2 (shapeCast _ fw shapeCasts_S1x4096_S4096)))) shapeCasts_S4x2048x4096_S8192x4096 (ix2 r q)
      = (Y (ix3 (⟨r.val / 2048, by omega⟩ : Fin 4) (⟨r.val % 2048, by omega⟩ : Fin 2048) q)
          * Ideal.rsqrt (Ideal.div (∑ k : Fin 4096, (Y (ix3 (⟨r.val / 2048, by omega⟩ : Fin 4) (⟨r.val % 2048, by omega⟩ : Fin 2048) k) : EReal) * Y (ix3 (⟨r.val / 2048, by omega⟩ : Fin 4) (⟨r.val % 2048, by omega⟩ : Fin 2048) k)) (FloatOps.ofBits (F := Ideal) .f32 0x45800000#32) + (FloatOps.ofBits (F := Ideal) .f32 0x358637BD#32 : EReal))
          * fw (ix2 (0 : Fin 1) q) : EReal) := by
  pointwise

end Cert.Reference4Ideal.Out

end
-- ==== Proof.OutValue.lean ====
/-
  The output projection: each grid step's tile is a residual plus a gated inner product of length 4096, a row block's
  last step divides each row by the root of its mean square, and the blocks together are the reference's array.
-/
module

public import proofs.«01_k».proof.Proof.OutIdeal.Frame
public import proofs.«01_k».proof.Proof.OutPure
public import Idealize.ShloMosaic.Lib.Pipeline.ValueKit.Geometry

@[expose] public section

set_option maxRecDepth 16384

noncomputable section

namespace Cert.Kernel4Ideal.Out

open Cert.Kernel4Ideal Cert.Kernel4Ideal.Gen
open Idealize.ShloMosaic Idealize.ShloMosaic.TcCoe
open Idealize.ShloMosaic.Pipeline (Dat Cfg Window)
open scoped BigOperators

/-! ## The result's entries -/

/-- The residual plus the gated projection, at a row and a column. -/
def yv (mg : Vec Ideal S8192x4096 .bf16) (w : Vec Ideal S4096x4096 .bf16) (x : Vec Ideal S8192x4096 .f32) (md : Vec Ideal S8x1x12288 .f32)
    (r : Fin 8192) (q : Fin 4096) : EReal :=
  x (ix2 r q) + md (ix3 (⟨r.val / 2048, by omega⟩ : Fin 8) (0 : Fin 1) (⟨8192 + q.val, by omega⟩ : Fin 12288))
    * ∑ k : Fin 4096, (mg (ix2 r k) : EReal) * w (ix2 k q)

/-- One over the root of a mean square and a small number. -/
def inv' (t : EReal) : EReal :=
  Ideal.rsqrt (Ideal.div t (FloatOps.ofBits (F := Ideal) .f32 0x45800000#32) + (FloatOps.ofBits (F := Ideal) .f32 0x358637BD#32 : EReal))

/-- A normalized row times its weight. -/
def entry (mg : Vec Ideal S8192x4096 .bf16) (w : Vec Ideal S4096x4096 .bf16) (x : Vec Ideal S8192x4096 .f32) (md : Vec Ideal S8x1x12288 .f32)
    (fw : Vec Ideal S1x4096 .f32) (r : Fin 8192) (q : Fin 4096) : EReal :=
  yv mg w x md r q * inv' (∑ k : Fin 4096, yv mg w x md r k * yv mg w x md r k) * fw (ix2 (0 : Fin 1) q)

/-- A sum over 4096 columns, eight tiles of 512. -/
theorem sum_tiles (f : Fin 4096 → EReal) :
    ∑ q : Fin 4096, f q = ∑ k : Fin 8, ∑ x : Fin 512, f ⟨512 * k.val + x.val, by omega⟩ := by
  refine (Equiv.sum_comp (finProdFinEquiv (m := 8) (n := 512)) f).symm.trans ?_
  rw [Fintype.sum_prod_type]
  refine Finset.sum_congr rfl fun k _ => Finset.sum_congr rfl fun x _ => congrArg f (Fin.ext ?_)
  show x.val + 512 * k.val = 512 * k.val + x.val
  omega

/-! ## The last step of a row block -/

/-- A row's sum of squares in one tile. -/
def sqs (s : Vec Ideal S8x512x512 .f32) (r : Fin 512) (k : Fin 8) : EReal := ∑ x : Fin 512, (s (ix3 k r x) : EReal) * s (ix3 k r x)

theorem ld_slice (s : Vec Ideal S8x512x512 .f32) (k : Fin 8) (h : ∀ a, (![k.val, 0, 0] : Fin 3 → ℕ) a + S1x512x512.size a ≤ S8x512x512.size a) (r x : Fin 512) :
    View.ld s (Rect.unit (s := S8x512x512) ![k.val, 0, 0] S1x512x512.size h) (ix3 (0 : Fin 1) r x) = s (ix3 k r x) := by
  refine congrArg s ?_
  funext b; apply Fin.ext
  fin_cases b
  · rfl
  · show 0 + 1 * r.val = r.val; omega
  · show 0 + 1 * x.val = x.val; omega

theorem sq_slice (s : Vec Ideal S8x512x512 .f32) (k : Fin 8) (h : ∀ a, (![k.val, 0, 0] : Fin 3 → ℕ) a + S1x512x512.size a ≤ S8x512x512.size a) (r : Fin 512) :
    sq (View.ld s (Rect.unit (s := S8x512x512) ![k.val, 0, 0] S1x512x512.size h)) r = sqs s r k := by
  unfold sq sqs
  exact Finset.sum_congr rfl fun x _ => by rw [ld_slice s k h r x]

theorem scale_apply (s : Vec Ideal S8x512x512 .f32) (r : Fin 512) :
    scale s (ix2 r (0 : Fin 1)) = inv' (∑ k : Fin 8, sqs s r k) := by
  unfold scale
  refine (pay5_apply _ _ _ r).trans ?_
  unfold inv'
  refine congrArg (fun t : EReal => Ideal.rsqrt (Ideal.div t (FloatOps.ofBits (F := Ideal) .f32 0x45800000#32) + (FloatOps.ofBits (F := Ideal) .f32 0x358637BD#32 : EReal))) ?_
  unfold sums
  rw [Fin.sum_univ_eight]
  refine congrArg₂ (fun a b : EReal => a + b) (congrArg₂ (fun a b : EReal => a + b) ?_ (sq_slice s 6 _ r)) (sq_slice s 7 _ r)
  refine (pay4_apply _ _ _ _ _ _ r).trans ?_
  exact congrArg₂ (fun a b : EReal => a + b) (congrArg₂ (fun a b : EReal => a + b) (congrArg₂ (fun a b : EReal => a + b)
    (congrArg₂ (fun a b : EReal => a + b) (congrArg₂ (fun a b : EReal => a + b) (sq_slice s 0 _ r) (sq_slice s 1 _ r)) (sq_slice s 2 _ r)) (sq_slice s 3 _ r)) (sq_slice s 4 _ r)) (sq_slice s 5 _ r)

/-- The normalized rows at an index. -/
def normG (s : Vec Ideal S8x512x512 .f32) (w : Vec Ideal S1x4096 .f32) : Vec Ideal S512x4096 .f32 := fun y =>
  (s (ix3 (⟨(y 1).val / 512, by have : (y 1).val < 4096 := (y 1).isLt; omega⟩ : Fin 8) (y 0) (⟨(y 1).val % 512, Nat.mod_lt _ (by decide)⟩ : Fin 512))
    * inv' (∑ k : Fin 8, sqs s (y 0) k) * w (ix2 (0 : Fin 1) (y 1)) : EReal)

theorem piece_apply (s : Vec Ideal S8x512x512 .f32) (w : Vec Ideal S1x4096 .f32) (k : Fin 8) (o : ℕ) (ho : o = 512 * k.val)
    (h : ∀ a, (![k.val, 0, 0] : Fin 3 → ℕ) a + S1x512x512.size a ≤ S8x512x512.size a)
    (hw : ∀ a, (![0, o] : Fin 2 → ℕ) a + S1x512.size a ≤ S1x4096.size a)
    (hy : ∀ a, (![0, o] : Fin 2 → ℕ) a + S512x512.size a ≤ S512x4096.size a) (x : S512x512.Idx) :
    k0_pay2 (scale s) (View.ld s (Rect.unit (s := S8x512x512) ![k.val, 0, 0] S1x512x512.size h)) (View.ld w (Rect.unit (s := S1x4096) ![0, o] S1x512.size hw)) x
      = normG s w ((Rect.unit (s := S512x4096) ![0, o] S512x512.size hy).emb x) := by
  refine (congrArg _ (eq_ix2 (n0 := 512) (n1 := 512) x)).trans ((pay2_apply _ _ _ (x 0) (x 1)).trans ?_)
  have h1 : (x 1).val < 512 := (x 1).isLt
  have e0 : (Rect.unit (s := S512x4096) ![0, o] S512x512.size hy).emb x 0 = x 0 := Fin.ext (by show 0 + 1 * (x 0).val = (x 0).val; omega)
  have e1 : ((Rect.unit (s := S512x4096) ![0, o] S512x512.size hy).emb x 1).val = o + (x 1).val := by show o + 1 * (x 1).val = o + (x 1).val; omega
  refine congrArg₂ (fun a b : EReal => a * b) (congrArg₂ (fun a b : EReal => a * b) ((ld_slice s k h (x 0) (x 1)).trans (congrArg s ?_)) ((scale_apply s (x 0)).trans ?_)) (congrArg w ?_)
  · funext b; apply Fin.ext
    fin_cases b
    · show k.val = ((Rect.unit (s := S512x4096) ![0, o] S512x512.size hy).emb x 1).val / 512
      rw [e1]; omega
    · exact congrArg Fin.val e0.symm
    · show (x 1).val = ((Rect.unit (s := S512x4096) ![0, o] S512x512.size hy).emb x 1).val % 512
      rw [e1]; omega
  · exact congrArg (fun z : Fin 512 => inv' (∑ k : Fin 8, sqs s z k)) e0.symm
  · funext b; apply Fin.ext
    fin_cases b
    · rfl
    · rfl

theorem outL_pieces (s : Vec Ideal S8x512x512 .f32) (w : Vec Ideal S1x4096 .f32) :
    ∀ p ∈ outL s w, ∀ x : p.1.shape.Idx, p.2 x = normG s w (p.1.emb x) := by
  unfold outL
  simp only [List.forall_mem_cons]
  exact ⟨fun x => piece_apply s w 7 _ rfl _ _ _ x, fun x => piece_apply s w 6 _ rfl _ _ _ x, fun x => piece_apply s w 5 _ rfl _ _ _ x,
    fun x => piece_apply s w 4 _ rfl _ _ _ x, fun x => piece_apply s w 3 _ rfl _ _ _ x, fun x => piece_apply s w 2 _ rfl _ _ _ x,
    fun x => piece_apply s w 1 _ rfl _ _ _ x, fun x => piece_apply s w 0 _ rfl _ _ _ x, fun p hp => absurd hp List.not_mem_nil⟩

theorem outB_apply (s : Vec Ideal S8x512x512 .f32) (w : Vec Ideal S1x4096 .f32) (y : S512x4096.Idx) : outB s w y = normG s w y :=
  View.canon_apply_of_pieces (normG s w) (outL s w) (outL_pieces s w) y (outL_cover s w y)

/-! ## The blocks -/

variable (m : (ℓ : Loc nD τ sig) → Buf (Elt Ideal) ℓ)

theorem lt128 (t : Fin cfg0.N) : t.val < 128 := Nat.lt_of_lt_of_eq t.isLt N_0

theorem at0 : ∀ t : Fin cfg0.N, win0_0.index t = ![t.val / 8, 0] := (by decide +kernel : ∀ t : Fin grid0.N, _)
theorem at1 : ∀ t : Fin cfg0.N, win0_1.index t = ![0, t.val % 8] := (by decide +kernel : ∀ t : Fin grid0.N, _)
theorem at2 : ∀ t : Fin cfg0.N, win0_2.index t = ![t.val / 8, t.val % 8] := (by decide +kernel : ∀ t : Fin grid0.N, _)
theorem at3 : ∀ t : Fin cfg0.N, win0_3.index t = ![t.val / 32, 0, 16 + t.val % 8] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![t.val / 8, 0] := (by decide +kernel : ∀ t : Fin grid0.N, _)

/-- The row and the column of the result that a step's tile has at an index. -/
abbrev row (t : Fin cfg0.N) (r : Fin 512) : Fin 8192 := ⟨t.val / 8 * 512 + r.val, by have := lt128 t; omega⟩
abbrev colm (t : Fin cfg0.N) (x : Fin 512) : Fin 4096 := ⟨t.val % 8 * 512 + x.val, by omega⟩

theorem b0 (c : Dev nD) (t : Fin cfg0.N) (r : Fin 512) (k : Fin 4096) :
    iblk m c 0 t (ix2 r k) = m ((c : Thread nD τ).loc main_arg0) (ix2 (row t r) k) := by
  simp only [ix2_eq_valueIdx]
  refine (show _ = V m c main_arg0 (ValueIdx.ix2 (row t r) k) from ?_).trans (congrFun (V_main_arg0 m c) _)
  blk_simp [iblk]
  refine congrArg _ ?_
  funext a; apply Fin.ext
  fin_cases a
  · blk_simp [at0]
  · blk_simp [at0]

theorem b1 (c : Dev nD) (t : Fin cfg0.N) (k : Fin 4096) (x : Fin 512) :
    iblk m c 1 t (ix2 k x) = m ((c : Thread nD τ).loc main_arg1) (ix2 k (colm t x)) := by
  simp only [ix2_eq_valueIdx]
  refine (show _ = V m c main_arg1 (ValueIdx.ix2 k (colm t x)) from ?_).trans (congrFun (V_main_arg1 m c) _)
  blk_simp [iblk]
  refine congrArg _ ?_
  funext a; apply Fin.ext
  fin_cases a
  · blk_simp [at1]
  · blk_simp [at1]

theorem b2 (c : Dev nD) (t : Fin cfg0.N) (r x : Fin 512) :
    iblk m c 2 t (ix2 r x) = m ((c : Thread nD τ).loc main_arg2) (ix2 (row t r) (colm t x)) := by
  simp only [ix2_eq_valueIdx]
  refine (show _ = V m c main_arg2 (ValueIdx.ix2 (row t r) (colm t x)) from ?_).trans (congrFun (V_main_arg2 m c) _)
  blk_simp [iblk]
  refine congrArg _ ?_
  funext a; apply Fin.ext
  fin_cases a
  · blk_simp [at2]
  · blk_simp [at2]

theorem b3 (c : Dev nD) (t : Fin cfg0.N) (r x : Fin 512) :
    iblk m c 3 t (ix3 (0 : Fin 1) (0 : Fin 1) x) = m ((c : Thread nD τ).loc main_arg3)
      (ix3 (⟨(row t r).val / 2048, by have := (row t r).isLt; omega⟩ : Fin 8) (0 : Fin 1) (⟨8192 + (colm t x).val, by omega⟩ : Fin 12288)) := by
  simp only [ix3_eq_valueIdx]
  refine (show _ = V m c main_arg3 (ValueIdx.ix3 (⟨(row t r).val / 2048, by have := (row t r).isLt; omega⟩ : Fin 8) (0 : Fin 1) (⟨8192 + (colm t x).val, by omega⟩ : Fin 12288)) from ?_).trans (congrFun (V_main_arg3 m c) _)
  blk_simp [iblk]
  refine congrArg _ ?_
  funext a; apply Fin.ext
  fin_cases a
  · blk_simp [at3]
    show t.val / 32 = (t.val / 8 * 512 + r.val) / 2048; omega
  · blk_simp [at3]
  · blk_simp [at3]
    show (16 + t.val % 8) * 512 + x.val = 8192 + (t.val % 8 * 512 + x.val); omega

theorem b4 (c : Dev nD) (t : Fin cfg0.N) (q : Fin 4096) :
    iblk m c 4 t (ix2 (0 : Fin 1) q) = m ((c : Thread nD τ).loc main_arg4) (ix2 (0 : Fin 1) q) := by
  simp only [ix2_eq_valueIdx]
  refine (show _ = V m c main_arg4 (ValueIdx.ix2 (0 : Fin 1) q) from ?_).trans (congrFun (V_main_arg4 m c) _)
  blk_simp [iblk]
  refine congrArg _ ?_
  funext a; apply Fin.ext
  fin_cases a
  · blk_simp [at4]
  · blk_simp [at4]

/-- The residual plus the gated projection, of the memory's arguments. -/
abbrev yvm (c : Dev nD) (r : Fin 8192) (q : Fin 4096) : EReal :=
  yv (m ((c : Thread nD τ).loc main_arg0)) (m ((c : Thread nD τ).loc main_arg1)) (m ((c : Thread nD τ).loc main_arg2)) (m ((c : Thread nD τ).loc main_arg3)) r q

theorem tileAt_apply (c : Dev nD) (t : Fin cfg0.N) (r x : Fin 512) :
    tileAt m c t (ix3 (0 : Fin 1) r x) = yvm m c (row t r) (colm t x) := by
  have hz : (![0, 0] : Fin 2 → Nat) = fun _ => 0 := by funext a; fin_cases a <;> rfl
  have hz3 : (![0, 0, 0] : Fin 3 → Nat) = fun _ => 0 := by funext a; fin_cases a <;> rfl
  unfold tileAt tileB
  rw [View.ld_unit_zero hz, View.ld_unit_zero hz3, View.ld_unit_zero hz, View.ld_unit_zero hz]
  refine (pay1_apply _ _ _ _ r x).trans ?_
  simp only [b0, b1, b2, b3 m c t r x]
  rfl

theorem tiles_apply (c : Dev nD) (i : ℕ) (hi : i < 16) (j : Fin 8) (r x : Fin 512) :
    tiles m c i (ix3 j r x) = yvm m c ⟨i * 512 + r.val, by omega⟩ ⟨512 * j.val + x.val, by omega⟩ := by
  have hs : (step (8 * i + j.val)).val = 8 * i + j.val := Nat.mod_eq_of_lt (by omega)
  refine (show _ = tileAt m c (step (8 * i + j.val)) (ValueIdx.ix3 (0 : Fin 1) r x) from rfl).trans ?_
  rw [← ix3_eq_valueIdx, tileAt_apply]
  refine congrArg₂ (yvm m c) (Fin.ext ?_) (Fin.ext ?_)
  · show (step (8 * i + j.val)).val / 8 * 512 + r.val = i * 512 + r.val
    rw [hs]; omega
  · show (step (8 * i + j.val)).val % 8 * 512 + x.val = 512 * j.val + x.val
    rw [hs]; omega

/-- The kernel's array, as one function of the arguments. -/
def whole (c : Dev nD) : Vec Ideal S8192x4096 .f32 := fun i =>
  entry (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

/-- What a row block's last step writes back is its block of that array. -/
theorem block_eq (c : Dev nD) (t : Fin cfg0.N) (r : Fin 512) (q : Fin 4096) :
    outAt m c t (ix2 r q) = whole m c (ix2 (row t r) q) := by
  have hi : t.val / 8 < 16 := by have := lt128 t; omega
  unfold outAt
  refine (outB_apply _ _ _).trans ?_
  refine (show _ = (tiles m c (t.val / 8) (ix3 (⟨q.val / 512, by omega⟩ : Fin 8) r (⟨q.val % 512, Nat.mod_lt _ (by decide)⟩ : Fin 512))
    * inv' (∑ k : Fin 8, sqs (tiles m c (t.val / 8)) r k) * iblk m c 4 t (ix2 (0 : Fin 1) q) : EReal) from rfl).trans ?_
  refine (show _ = (yvm m c (row t r) q * inv' (∑ k : Fin 4096, yvm m c (row t r) k * yvm m c (row t r) k)
    * m ((c : Thread nD τ).loc main_arg4) (ix2 (0 : Fin 1) q) : EReal) from ?_)
  refine congrArg₂ (fun a b : EReal => a * b) (congrArg₂ (fun a b : EReal => a * b) ?_ (congrArg inv' ?_)) (b4 m c t q)
  · rw [tiles_apply m c _ hi]
    refine congrArg₂ (yvm m c) rfl (Fin.ext ?_)
    show 512 * (q.val / 512) + q.val % 512 = q.val
    omega
  · rw [sum_tiles]
    refine Finset.sum_congr rfl fun k _ => Finset.sum_congr rfl fun x _ => ?_
    rw [tiles_apply m c _ hi]

/-- The result array after the run. -/
theorem arr_eq (c : Dev nD) : (dats m 0 c).arrAt 5 cfg0.N = whole m c := by
  refine (dats m 0 c).arrAt_eq_of_covers 5 _ (by decide +kernel) fun t hf y => ?_
  blk_simp
  rw [after0_5]
  refine (congrArg _ (eq_ix2 (n0 := 512) (n1 := 4096) y)).trans ((block_eq m c t (y 0) (y 1)).trans (congrArg _ ?_))
  funext a; apply Fin.ext
  fin_cases a
  · blk_simp [at5]; rfl
  · blk_simp [at5]; rfl

end Cert.Kernel4Ideal.Out

namespace Cert.Reference4Ideal.Out

open Cert.Reference4Ideal Cert.Reference4Ideal.Gen
open Cert.Kernel4Ideal.Out (yv inv' entry)
open Idealize.ShloMosaic Idealize.ShloMosaic.TcCoe
open scoped BigOperators

theorem rows_eq (mg : FVec Ideal S8192x4096 .bf16) (w : FVec Ideal S4096x4096 .bf16) (x : FVec Ideal S8192x4096 .f32) (md : FVec Ideal S8x1x12288 .f32)
    (r : Fin 8192) (q : Fin 4096) :
    rows mg w x md (ix3 (⟨r.val / 2048, by omega⟩ : Fin 4) (⟨r.val % 2048, by omega⟩ : Fin 2048) q) = yv mg w x md r q := by
  rw [rows_apply]
  have e : (⟨r.val / 2048 * 2048 + r.val % 2048, by omega⟩ : Fin 8192) = r := Fin.ext (by show r.val / 2048 * 2048 + r.val % 2048 = r.val; omega)
  simp only [e]
  rfl

/-- The reference's array at an index. -/
theorem out_apply (mg : FVec Ideal S8192x4096 .bf16) (w : FVec Ideal S4096x4096 .bf16) (x : FVec Ideal S8192x4096 .f32) (md : FVec Ideal S8x1x12288 .f32)
    (fw : FVec Ideal S1x4096 .f32) (r : Fin 8192) (q : Fin 4096) :
    shapeCast S8192x4096 (mulf (mulf (rows mg w x md) (broadcastInDim S4x2048x4096 ![0, 1, 2] bcast_S4x2048x1_S4x2048x4096_0_1_2 (Host.rsqrt (addf (Host.divf (broadcastInDim S4x2048x1 ![0, 1] bcast_S4x2048_S4x2048x1_0_1 (Host.reduceAdd (mulf (rows mg w x md) (rows mg w x md)) (constant S_ .f32 0x00000000#32) reducesTo_S4x2048x4096_S4x2048_d2 h_S_)) (broadcastInDim S4x2048x1 ![] bcast_S_S4x2048x1 (constant S_ .f32 0x45800000#32))) (broadcastInDim S4x2048x1 ![] bcast_S_S4x2048x1 (constant S_ .f32 0x358637BD#32)))))) (broadcastInDim S4x2048x4096 ![0, 1, 2] bcast_S1x1x4096_S4x2048x4096_0_1_2 (broadcastInDim S1x1x4096 ![2] bcast_S4096_S1x1x4096_2 (shapeCast _ fw shapeCasts_S1x4096_S4096)))) shapeCasts_S4x2048x4096_S8192x4096 (ix2 r q)
      = entry mg w x md fw r q := by
  refine (norm_apply _ fw r q).trans ?_
  simp only [rows_eq]
  rfl

end Cert.Reference4Ideal.Out

end
-- ==== Proof.lean ====
/-
  The certificate: the frames of the kernel, the idealized kernel and the reference, the idealization's
  correctness, and, where queries and keys are finite, the equality of the kernel's and the reference's results
  over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.AttnIdeal.Frame
public import proofs.«01_k».proof.Proof.AttnBits.Frame
public import Idealize.ShloMosaic.Adequacy
public import proofs.«01_k».proof.Proof.AttnIdeal.Weights
public import proofs.«01_k».proof.Proof.AttnMatch
public import proofs.«01_k».proof.Proof.AttnFinite
public import proofs.«01_k».proof.Proof.ProjValue
public import proofs.«01_k».proof.Proof.GateBits.Frame
public import proofs.«01_k».proof.Proof.GateValue
public import proofs.«01_k».proof.Proof.OutBits.Frame
public import proofs.«01_k».proof.Proof.OutValue
public import Idealize.ShloMosaic.Init

@[expose] public section

noncomputable section

namespace Cert.Proof

open Idealize.ShloMosaic Idealize.SL.Sem Cert.Kernel

/-- The reference runs, leaves its arguments alone and ends with every counter at zero. -/
theorem frame_ReferenceIdeal : quiescent_ReferenceIdeal (hReferenceIdeal := Cert.ReferenceIdeal.Gen.facts) := fun m g _ =>
  (θ_run Cert.ReferenceIdeal.defs _ _).mono (fun r h => ⟨fun c => (h c).2.2.2.2, sem_eq_zero_of_no_sems rfl r.2⟩) (Cert.ReferenceIdeal.Value.run m g)

/-- Where the queries and keys are real, the kernel's four results over the extended reals are the reference's. -/
theorem algebraic : algebraic_KernelIdeal_ReferenceIdeal_pre_finite_scores (hKernelIdeal := Cert.KernelIdeal.Gen.facts)
    (hReferenceIdeal := Cert.ReferenceIdeal.Gen.facts) (hPre_finite_scores := Cert.Pre_finite_scores.facts) := by
  intro m g m' g' hpre hargs
  refine ⟨fun c => Cert.ReferenceIdeal.Value.res_out0 m' c, fun c => Cert.KernelIdeal.Attn.Gend m c Cert.KernelIdeal.main_v3_1,
    fun c => Cert.KernelIdeal.Attn.Gend m c Cert.KernelIdeal.main_v3_2, fun c => Cert.KernelIdeal.Attn.Gend m c Cert.KernelIdeal.main_v3_3, ?_, ?_⟩
  · refine (θ_run Cert.KernelIdeal.defs _ _).mono (fun r h => ?_) (Cert.KernelIdeal.Attn.run_main m g)
    intro c
    have hp := Cert.Pre_finite_scores.real_args (hF := Cert.Pre_finite_scores.facts) _ _ _ _ _ _ _ (hpre c)
    obtain ⟨e0, e1, e2, e3, -, -, -⟩ := hargs c
    refine ⟨((h.1.toR c).1 6).trans ((Cert.KernelIdeal.Attn.arr_eq m c hp.1 hp.2).trans ?_),
      h.1.2 c _ (by decide), h.1.2 c _ (by decide), h.1.2 c _ (by decide), Cert.KernelIdeal.Attn.args_kept m h.1 c⟩
    show _ = Cert.ReferenceIdeal.Value.res_out0 m' c
    rw [Cert.ReferenceIdeal.Attn.res_eq, e0, e1, e2, e3]
  · refine (θ_run Cert.ReferenceIdeal.defs _ _).mono (fun r h => ?_) (Cert.ReferenceIdeal.Value.run m' g')
    intro c
    obtain ⟨-, -, -, -, e4, e5, e6⟩ := hargs c
    obtain ⟨h0, h1, h2, h3, ha⟩ := h c
    refine ⟨h0, h1.trans ?_, h2.trans ?_, h3.trans ?_, ha⟩
    · rw [e4]; exact (Cert.KernelIdeal.Attn.endA m c).symm
    · rw [e5]; exact (Cert.KernelIdeal.Attn.endB m c).symm
    · rw [e6]; exact (Cert.KernelIdeal.Attn.endC m c).symm

/-- The branch projections' reference runs, leaves its arguments alone and ends with every counter at zero. -/
theorem frame_Reference2Ideal : quiescent_Reference2Ideal (hReference2Ideal := Cert.Reference2Ideal.Gen.facts) := fun m g _ =>
  (θ_run Cert.Reference2Ideal.defs _ _).mono (fun r h => ⟨fun c => (h c).2, sem_eq_zero_of_no_sems rfl r.2⟩) (Cert.Reference2Ideal.Value.run m g)

/-- The merged projections of the two branches over the extended reals are the reference's. -/
theorem algebraic2 : algebraic_Kernel2Ideal_Reference2Ideal (hKernel2Ideal := Cert.Kernel2Ideal.Gen.facts)
    (hReference2Ideal := Cert.Reference2Ideal.Gen.facts) := by
  intro m g m' g' _ hargs
  refine ⟨Cert.Kernel2Ideal.Proj.whole m, ?_, ?_⟩
  · exact (θ_run Cert.Kernel2Ideal.defs _ _).mono (fun r h c => ⟨(h c).1.trans (Cert.Kernel2Ideal.Proj.arr_eq m c), (h c).2⟩) (Cert.Kernel2Ideal.Value.run_blocks m g)
  · refine (θ_run Cert.Reference2Ideal.defs _ _).mono (fun r h c => ⟨(h c).1.trans ?_, (h c).2⟩) (Cert.Reference2Ideal.Value.run m' g')
    obtain ⟨e0, e1, e2, e3, e4⟩ := hargs c
    funext i
    refine (congrArg _ (ValueIdx.eq_ix2 (n0 := 8192) (n1 := 4096) i)).trans ((Cert.Reference2Ideal.Proj.merged_apply _ _ _ _ _ (i 0) (i 1)).trans ?_)
    rw [e0, e1, e2, e3, e4]
    rfl

/-- The gates' reference runs, leaves its arguments alone and ends with every counter at zero. -/
theorem frame_Reference3Ideal : quiescent_Reference3Ideal (hReference3Ideal := Cert.Reference3Ideal.Gen.facts) := fun m g _ =>
  (θ_run Cert.Reference3Ideal.defs _ _).mono (fun r h => ⟨fun c => (h c).2, sem_eq_zero_of_no_sems rfl r.2⟩) (Cert.Reference3Ideal.Value.run m g)

/-- The five gates over the extended reals are the reference's. -/
theorem algebraic3 : algebraic_Kernel3Ideal_Reference3Ideal (hKernel3Ideal := Cert.Kernel3Ideal.Gen.facts)
    (hReference3Ideal := Cert.Reference3Ideal.Gen.facts) := by
  intro m g m' g' _ hargs
  refine ⟨Cert.Kernel3Ideal.Gate.whole m, ?_, ?_⟩
  · exact (θ_run Cert.Kernel3Ideal.defs _ _).mono
      (fun r h c => ⟨((h.1 c).1 1).trans (Cert.Kernel3Ideal.Gate.arr_eq m c), Cert.Kernel3Ideal.Gate.args_kept m h.1 c⟩) (Cert.Kernel3Ideal.Gate.run_main m g)
  · refine (θ_run Cert.Reference3Ideal.defs _ _).mono (fun r h c => ⟨(h c).1.trans ?_, (h c).2⟩) (Cert.Reference3Ideal.Value.run m' g')
    obtain ⟨e0, e1⟩ := hargs c
    funext i
    refine (congrArg _ (ValueIdx.eq_ix2 (n0 := 8192) (n1 := 20480) i)).trans ((Cert.Reference3Ideal.Gate.gates_apply _ _ (i 0) (i 1)).trans ?_)
    rw [e0, e1]
    rfl

/-- The output projection's reference runs, leaves its arguments alone and ends with every counter at zero. -/
theorem frame_Reference4Ideal : quiescent_Reference4Ideal (hReference4Ideal := Cert.Reference4Ideal.Gen.facts) := fun m g _ =>
  (θ_run Cert.Reference4Ideal.defs _ _).mono (fun r h => ⟨fun c => (h c).2, sem_eq_zero_of_no_sems rfl r.2⟩) (Cert.Reference4Ideal.Value.run m g)

/-- The normalized output rows over the extended reals are the reference's. -/
theorem algebraic4 : algebraic_Kernel4Ideal_Reference4Ideal (hKernel4Ideal := Cert.Kernel4Ideal.Gen.facts)
    (hReference4Ideal := Cert.Reference4Ideal.Gen.facts) := by
  intro m g m' g' _ hargs
  refine ⟨Cert.Kernel4Ideal.Out.whole m, ?_, ?_⟩
  · exact (θ_run Cert.Kernel4Ideal.defs _ _).mono
      (fun r h c => ⟨((h.1.1 c).1 5).trans (Cert.Kernel4Ideal.Out.arr_eq m c), h.2.1 c⟩)
      (θ_run_and (Cert.Kernel4Ideal.Out.run_main m g) (Cert.Kernel4Ideal.Out.frame_run m g))
  · refine (θ_run Cert.Reference4Ideal.defs _ _).mono (fun r h c => ⟨(h c).1.trans ?_, (h c).2⟩) (Cert.Reference4Ideal.Value.run m' g')
    obtain ⟨e0, e1, e2, e3, e4⟩ := hargs c
    funext i
    refine (congrArg _ (Idealize.ShloMosaic.eq_ix2 (n0 := 8192) (n1 := 4096) i)).trans ((Cert.Reference4Ideal.Out.out_apply _ _ _ _ _ (i 0) (i 1)).trans ?_)
    rw [e0, e1, e2, e3, e4]
    rfl

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite_scores.facts,
  fun m g _ => Cert.Kernel.Attn.frame_run m g, fun m g _ => Cert.KernelIdeal.Attn.frame_run m g, fun m g _ => Cert.KernelIdeal.Attn.frame_run m g,
  frame_ReferenceIdeal, fun m g _ => frame_ReferenceIdeal m g trivial,
  fun m g _ => Cert.Kernel2.Gen.frame m g, fun m g _ => Cert.Kernel2Ideal.Gen.frame m g, frame_Reference2Ideal,
  fun m g _ => Cert.Kernel3.Gate.frame_run m g, fun m g _ => Cert.Kernel3Ideal.Gate.frame_run m g, frame_Reference3Ideal,
  fun m g _ => Cert.Kernel4.Out.frame_run m g, fun m g _ => Cert.Kernel4Ideal.Out.frame_run m g, frame_Reference4Ideal,
  trivial, algebraic, trivial, algebraic2, trivial, algebraic3, trivial, algebraic4⟩

end Cert.Proof

end
